-- ==== Defs.lean ====
def Pre_Gather [hPre_in_codebook : Cert.Pre_in_codebook.Facts] (m : (ℓ : Loc Cert.Gather.nD Cert.Gather.τ Cert.Gather.sig) → Buf (Elt Bits) ℓ) : Prop :=
  ∀ c : Dev Cert.Gather.nD,
    (Cert.Pre_in_codebook.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_codebook : Cert.Pre_in_codebook.Facts] (m : (ℓ : Loc Cert.GatherIdeal.nD Cert.GatherIdeal.τ Cert.GatherIdeal.sig) → Buf (Elt Ideal) ℓ) : Prop :=
  ∀ c : Dev Cert.GatherIdeal.nD,
    (Cert.Pre_in_codebook.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_TakeIdeal (m : (ℓ : Loc Cert.TakeIdeal.nD Cert.TakeIdeal.τ Cert.TakeIdeal.sig) → Buf (Elt Ideal) ℓ) : Prop :=
  True

def Pre_TakeIdeal_in_codebook [hPre_in_codebook : Cert.Pre_in_codebook.Facts] (m : (ℓ : Loc Cert.TakeIdeal.nD Cert.TakeIdeal.τ Cert.TakeIdeal.sig) → Buf (Elt Ideal) ℓ) : Prop :=
  ∀ c : Dev Cert.TakeIdeal.nD,
    (Cert.Pre_in_codebook.fn (F := Ideal) (m ((c.tc : Thread Cert.TakeIdeal.nD Cert.TakeIdeal.τ).loc Cert.TakeIdeal.main_arg0)) (m ((c.tc : Thread Cert.TakeIdeal.nD Cert.TakeIdeal.τ).loc Cert.TakeIdeal.main_arg1))) = (fun _ => 1#1)

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Search (m : (ℓ : Loc Cert.Search.nD Cert.Search.τ Cert.Search.sig) → Buf (Elt Bits) ℓ) : Prop :=
  True

def Pre_SearchIdeal (m : (ℓ : Loc Cert.SearchIdeal.nD Cert.SearchIdeal.τ Cert.SearchIdeal.sig) → Buf (Elt Ideal) ℓ) : Prop :=
  True

def Pre_NearestIdeal (m : (ℓ : Loc Cert.NearestIdeal.nD Cert.NearestIdeal.τ Cert.NearestIdeal.sig) → Buf (Elt Ideal) ℓ) : Prop :=
  True

def Pre_Settle (m : (ℓ : Loc Cert.Settle.nD Cert.Settle.τ Cert.Settle.sig) → Buf (Elt Bits) ℓ) : Prop :=
  True

def Pre_SettleIdeal (m : (ℓ : Loc Cert.SettleIdeal.nD Cert.SettleIdeal.τ Cert.SettleIdeal.sig) → Buf (Elt Ideal) ℓ) : Prop :=
  True

def Pre_LossesIdeal (m : (ℓ : Loc Cert.LossesIdeal.nD Cert.LossesIdeal.τ Cert.LossesIdeal.sig) → Buf (Elt Ideal) ℓ) : Prop :=
  True

def Pre_Take (m : (ℓ : Loc Cert.Take.nD Cert.Take.τ Cert.Take.sig) → Buf (Elt Bits) ℓ) : Prop :=
  True

def Pre_Take_in_codebook [hPre_in_codebook : Cert.Pre_in_codebook.Facts] (m : (ℓ : Loc Cert.Take.nD Cert.Take.τ Cert.Take.sig) → Buf (Elt Bits) ℓ) : Prop :=
  ∀ c : Dev Cert.Take.nD,
    (Cert.Pre_in_codebook.fn (F := Bits) (m ((c.tc : Thread Cert.Take.nD Cert.Take.τ).loc Cert.Take.main_arg0)) (m ((c.tc : Thread Cert.Take.nD Cert.Take.τ).loc Cert.Take.main_arg1))) = (fun _ => 1#1)

def Pre_Losses (m : (ℓ : Loc Cert.Losses.nD Cert.Losses.τ Cert.Losses.sig) → Buf (Elt Bits) ℓ) : Prop :=
  True

def quiescent_Gather [hGather : Cert.Gather.Facts] [hPre_in_codebook : Cert.Pre_in_codebook.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_codebook : Cert.Pre_in_codebook.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_TakeIdeal [hTakeIdeal : Cert.TakeIdeal.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0)

def quiescent_TakeIdeal_pre_in_codebook [hTakeIdeal : Cert.TakeIdeal.Facts] [hPre_in_codebook : Cert.Pre_in_codebook.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal_in_codebook m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Search [hSearch : Cert.Search.Facts] : Prop :=
  ∀ (m : (ℓ : Loc Cert.Search.nD Cert.Search.τ Cert.Search.sig) → Buf (Elt Bits) ℓ) (g : Dev Cert.Search.nD → PrngReg), Pre_Search m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0)
      ∧ r.2.mem ((c.tc : Thread Cert.Search.nD Cert.Search.τ).loc Cert.Search.main_arg1) = m ((c.tc : Thread Cert.Search.nD Cert.Search.τ).loc Cert.Search.main_arg1))
      ∧ r.2.sem = fun _ => 0)

def quiescent_SearchIdeal [hSearchIdeal : Cert.SearchIdeal.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_Settle [hSettle : Cert.Settle.Facts] : Prop :=
  ∀ (m : (ℓ : Loc Cert.Settle.nD Cert.Settle.τ Cert.Settle.sig) → Buf (Elt Bits) ℓ) (g : Dev Cert.Settle.nD → PrngReg), Pre_Settle m →
    θ_run (Cert.Settle.defs (F := Bits)) (onTc (τ := Cert.Settle.τ) (Cert.Settle.main (F := Bits))) ⟨m, fun _ => 0, g⟩ (fun r => (∀ c : Dev Cert.Settle.nD,
      r.2.mem ((c.tc : Thread Cert.Settle.nD Cert.Settle.τ).loc Cert.Settle.main_arg0) = m ((c.tc : Thread Cert.Settle.nD Cert.Settle.τ).loc Cert.Settle.main_arg0)
      ∧ r.2.mem ((c.tc : Thread Cert.Settle.nD Cert.Settle.τ).loc Cert.Settle.main_arg1) = m ((c.tc : Thread Cert.Settle.nD Cert.Settle.τ).loc Cert.Settle.main_arg1))
      ∧ r.2.sem = fun _ => 0)

def quiescent_SettleIdeal [hSettleIdeal : Cert.SettleIdeal.Facts] : Prop :=
  ∀ (m : (ℓ : Loc Cert.SettleIdeal.nD Cert.SettleIdeal.τ Cert.SettleIdeal.sig) → Buf (Elt Ideal) ℓ) (g : Dev Cert.SettleIdeal.nD → PrngReg), Pre_SettleIdeal m →
    θ_run (Cert.SettleIdeal.defs (F := Ideal)) (onTc (τ := Cert.SettleIdeal.τ) (Cert.SettleIdeal.main (F := Ideal))) ⟨m, fun _ => 0, g⟩ (fun r => (∀ c : Dev Cert.SettleIdeal.nD,
      r.2.mem ((c.tc : Thread Cert.SettleIdeal.nD Cert.SettleIdeal.τ).loc Cert.SettleIdeal.main_arg0) = m ((c.tc : Thread Cert.SettleIdeal.nD Cert.SettleIdeal.τ).loc Cert.SettleIdeal.main_arg0)
      ∧ r.2.mem ((c.tc : Thread Cert.SettleIdeal.nD Cert.SettleIdeal.τ).loc Cert.SettleIdeal.main_arg1) = m ((c.tc : Thread Cert.SettleIdeal.nD Cert.SettleIdeal.τ).loc Cert.SettleIdeal.main_arg1))
      ∧ r.2.sem = fun _ => 0)

def quiescent_LossesIdeal [hLossesIdeal : Cert.LossesIdeal.Facts] : Prop :=
  ∀ (m : (ℓ : Loc Cert.LossesIdeal.nD Cert.LossesIdeal.τ Cert.LossesIdeal.sig) → Buf (Elt Ideal) ℓ) (g : Dev Cert.LossesIdeal.nD → PrngReg), Pre_LossesIdeal m →
    θ_run (Cert.LossesIdeal.defs (F := Ideal)) (onTc (τ := Cert.LossesIdeal.τ) (Cert.LossesIdeal.main (F := Ideal))) ⟨m, fun _ => 0, g⟩ (fun r => (∀ c : Dev Cert.LossesIdeal.nD,
      r.2.mem ((c.tc : Thread Cert.LossesIdeal.nD Cert.LossesIdeal.τ).loc Cert.LossesIdeal.main_arg0) = m ((c.tc : Thread Cert.LossesIdeal.nD Cert.LossesIdeal.τ).loc Cert.LossesIdeal.main_arg0)
      ∧ r.2.mem ((c.tc : Thread Cert.LossesIdeal.nD Cert.LossesIdeal.τ).loc Cert.LossesIdeal.main_arg1) = m ((c.tc : Thread Cert.LossesIdeal.nD Cert.LossesIdeal.τ).loc Cert.LossesIdeal.main_arg1))
      ∧ r.2.sem = fun _ => 0)

def quiescent_Take [hTake : Cert.Take.Facts] : Prop :=
  ∀ (m : (ℓ : Loc Cert.Take.nD Cert.Take.τ Cert.Take.sig) → Buf (Elt Bits) ℓ) (g : Dev Cert.Take.nD → PrngReg), Pre_Take m →
    θ_run (Cert.Take.defs (F := Bits)) (onTc (τ := Cert.Take.τ) (Cert.Take.main (F := Bits))) ⟨m, fun _ => 0, g⟩ (fun r => (∀ c : Dev Cert.Take.nD,
      r.2.mem ((c.tc : Thread Cert.Take.nD Cert.Take.τ).loc Cert.Take.main_arg0) = m ((c.tc : Thread Cert.Take.nD Cert.Take.τ).loc Cert.Take.main_arg0)
      ∧ r.2.mem ((c.tc : Thread Cert.Take.nD Cert.Take.τ).loc Cert.Take.main_arg1) = m ((c.tc : Thread Cert.Take.nD Cert.Take.τ).loc Cert.Take.main_arg1))
      ∧ r.2.sem = fun _ => 0)

def quiescent_Take_pre_in_codebook [hTake : Cert.Take.Facts] [hPre_in_codebook : Cert.Pre_in_codebook.Facts] : Prop :=
  ∀ (m : (ℓ : Loc Cert.Take.nD Cert.Take.τ Cert.Take.sig) → Buf (Elt Bits) ℓ) (g : Dev Cert.Take.nD → PrngReg), Pre_Take_in_codebook m →
    θ_run (Cert.Take.defs (F := Bits)) (onTc (τ := Cert.Take.τ) (Cert.Take.main (F := Bits))) ⟨m, fun _ => 0, g⟩ (fun r => (∀ c : Dev Cert.Take.nD,
      r.2.mem ((c.tc : Thread Cert.Take.nD Cert.Take.τ).loc Cert.Take.main_arg0) = m ((c.tc : Thread Cert.Take.nD Cert.Take.τ).loc Cert.Take.main_arg0)
      ∧ r.2.mem ((c.tc : Thread Cert.Take.nD Cert.Take.τ).loc Cert.Take.main_arg1) = m ((c.tc : Thread Cert.Take.nD Cert.Take.τ).loc Cert.Take.main_arg1))
      ∧ r.2.sem = fun _ => 0)

def quiescent_Losses [hLosses : Cert.Losses.Facts] : Prop :=
  ∀ (m : (ℓ : Loc Cert.Losses.nD Cert.Losses.τ Cert.Losses.sig) → Buf (Elt Bits) ℓ) (g : Dev Cert.Losses.nD → PrngReg), Pre_Losses m →
    θ_run (Cert.Losses.defs (F := Bits)) (onTc (τ := Cert.Losses.τ) (Cert.Losses.main (F := Bits))) ⟨m, fun _ => 0, g⟩ (fun r => (∀ c : Dev Cert.Losses.nD,
      r.2.mem ((c.tc : Thread Cert.Losses.nD Cert.Losses.τ).loc Cert.Losses.main_arg0) = m ((c.tc : Thread Cert.Losses.nD Cert.Losses.τ).loc Cert.Losses.main_arg0)
      ∧ r.2.mem ((c.tc : Thread Cert.Losses.nD Cert.Losses.τ).loc Cert.Losses.main_arg1) = m ((c.tc : Thread Cert.Losses.nD Cert.Losses.τ).loc Cert.Losses.main_arg1))
      ∧ r.2.sem = fun _ => 0)

def preserves_Gather_GatherIdeal : Prop :=
  True

def algebraic_GatherIdeal_TakeIdeal [hGatherIdeal : Cert.GatherIdeal.Facts] [hTakeIdeal : Cert.TakeIdeal.Facts] [hPre_in_codebook : Cert.Pre_in_codebook.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.TakeIdeal.nD Cert.TakeIdeal.τ Cert.TakeIdeal.sig) → Buf (Elt Ideal) ℓ) (g' : Dev Cert.TakeIdeal.nD → PrngReg), Pre_GatherIdeal m →
    (∀ c : Dev Cert.GatherIdeal.nD,
      m' ((c.tc : Thread Cert.TakeIdeal.nD Cert.TakeIdeal.τ).loc Cert.TakeIdeal.main_arg0) = m ((c.tc : Thread Cert.GatherIdeal.nD Cert.GatherIdeal.τ).loc Cert.GatherIdeal.main_arg0)
      ∧ m' ((c.tc : Thread Cert.TakeIdeal.nD Cert.TakeIdeal.τ).loc Cert.TakeIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.TakeIdeal.defs (F := Ideal)) (onTc (τ := Cert.TakeIdeal.τ) (Cert.TakeIdeal.main (F := Ideal))) ⟨m', fun _ => 0, g'⟩ (fun r => ∀ c : Dev Cert.TakeIdeal.nD,
          r.2.mem ((c.tc : Thread Cert.TakeIdeal.nD Cert.TakeIdeal.τ).loc Cert.TakeIdeal.main_v0) = v0 c
          ∧ r.2.mem ((c.tc : Thread Cert.TakeIdeal.nD Cert.TakeIdeal.τ).loc Cert.TakeIdeal.main_arg0) = m' ((c.tc : Thread Cert.TakeIdeal.nD Cert.TakeIdeal.τ).loc Cert.TakeIdeal.main_arg0)
          ∧ r.2.mem ((c.tc : Thread Cert.TakeIdeal.nD Cert.TakeIdeal.τ).loc Cert.TakeIdeal.main_arg1) = m' ((c.tc : Thread Cert.TakeIdeal.nD Cert.TakeIdeal.τ).loc Cert.TakeIdeal.main_arg1))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Search_SearchIdeal : Prop :=
  True

def algebraic_SearchIdeal_NearestIdeal [hSearchIdeal : Cert.SearchIdeal.Facts] [hNearestIdeal : Cert.NearestIdeal.Facts] : Prop :=
  ∀ (m : (ℓ : Loc Cert.SearchIdeal.nD Cert.SearchIdeal.τ Cert.SearchIdeal.sig) → Buf (Elt Ideal) ℓ) (g : Dev Cert.SearchIdeal.nD → PrngReg)
    (m' : (ℓ : Loc Cert.NearestIdeal.nD Cert.NearestIdeal.τ Cert.NearestIdeal.sig) → Buf (Elt Ideal) ℓ) (g' : Dev Cert.NearestIdeal.nD → PrngReg), Pre_SearchIdeal m →
    (∀ c : Dev Cert.SearchIdeal.nD,
      m' ((c.tc : Thread Cert.NearestIdeal.nD Cert.NearestIdeal.τ).loc Cert.NearestIdeal.main_arg0) = m ((c.tc : Thread Cert.SearchIdeal.nD Cert.SearchIdeal.τ).loc Cert.SearchIdeal.main_arg0)
      ∧ m' ((c.tc : Thread Cert.NearestIdeal.nD Cert.NearestIdeal.τ).loc Cert.NearestIdeal.main_arg1) = m ((c.tc : Thread Cert.SearchIdeal.nD Cert.SearchIdeal.τ).loc Cert.SearchIdeal.main_arg1)) →
    ∃ (v0 : (c : Dev Cert.SearchIdeal.nD) → Buf (Elt Ideal) ((c.tc : Thread Cert.SearchIdeal.nD Cert.SearchIdeal.τ).loc Cert.SearchIdeal.main_v3)),
      θ_run (Cert.SearchIdeal.defs (F := Ideal)) (onTc (τ := Cert.SearchIdeal.τ) (Cert.SearchIdeal.main (F := Ideal))) ⟨m, fun _ => 0, g⟩ (fun r => ∀ c : Dev Cert.SearchIdeal.nD,
          r.2.mem ((c.tc : Thread Cert.SearchIdeal.nD Cert.SearchIdeal.τ).loc Cert.SearchIdeal.main_v3) = v0 c
          ∧ r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
          ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ θ_run (Cert.NearestIdeal.defs (F := Ideal)) (onTc (τ := Cert.NearestIdeal.τ) (Cert.NearestIdeal.main (F := Ideal))) ⟨m', fun _ => 0, g'⟩ (fun r => ∀ c : Dev Cert.NearestIdeal.nD,
          r.2.mem ((c.tc : Thread Cert.NearestIdeal.nD Cert.NearestIdeal.τ).loc Cert.NearestIdeal.main_v19) = v0 c
          ∧ r.2.mem ((c.tc : Thread Cert.NearestIdeal.nD Cert.NearestIdeal.τ).loc Cert.NearestIdeal.main_arg0) = m' ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m' ((c.tc : Thread Cert.NearestIdeal.nD Cert.NearestIdeal.τ).loc Cert.NearestIdeal.main_arg1))

def preserves_Settle_SettleIdeal : Prop :=
  True

def algebraic_SettleIdeal_LossesIdeal [hSettleIdeal : Cert.SettleIdeal.Facts] [hLossesIdeal : Cert.LossesIdeal.Facts] : Prop :=
  ∀ (m : (ℓ : Loc Cert.SettleIdeal.nD Cert.SettleIdeal.τ Cert.SettleIdeal.sig) → Buf (Elt Ideal) ℓ) (g : Dev Cert.SettleIdeal.nD → PrngReg)
    (m' : (ℓ : Loc Cert.LossesIdeal.nD Cert.LossesIdeal.τ Cert.LossesIdeal.sig) → Buf (Elt Ideal) ℓ) (g' : Dev Cert.LossesIdeal.nD → PrngReg), Pre_SettleIdeal m →
    (∀ c : Dev Cert.SettleIdeal.nD,
      m' ((c.tc : Thread Cert.LossesIdeal.nD Cert.LossesIdeal.τ).loc Cert.LossesIdeal.main_arg0) = m ((c.tc : Thread Cert.SettleIdeal.nD Cert.SettleIdeal.τ).loc Cert.SettleIdeal.main_arg0)
      ∧ m' ((c.tc : Thread Cert.LossesIdeal.nD Cert.LossesIdeal.τ).loc Cert.LossesIdeal.main_arg1) = m ((c.tc : Thread Cert.SettleIdeal.nD Cert.SettleIdeal.τ).loc Cert.SettleIdeal.main_arg1)) →
    ∃ (v0 : (c : Dev Cert.SettleIdeal.nD) → Buf (Elt Ideal) ((c.tc : Thread Cert.SettleIdeal.nD Cert.SettleIdeal.τ).loc Cert.SettleIdeal.main_v8)) (v1 : (c : Dev Cert.SettleIdeal.nD) → Buf (Elt Ideal) ((c.tc : Thread Cert.SettleIdeal.nD Cert.SettleIdeal.τ).loc Cert.SettleIdeal.main_v4)) (v2 : (c : Dev Cert.SettleIdeal.nD) → Buf (Elt Ideal) ((c.tc : Thread Cert.SettleIdeal.nD Cert.SettleIdeal.τ).loc Cert.SettleIdeal.main_v4)) (v3 : (c : Dev Cert.SettleIdeal.nD) → Buf (Elt Ideal) ((c.tc : Thread Cert.SettleIdeal.nD Cert.SettleIdeal.τ).loc Cert.SettleIdeal.main_v6)),
      θ_run (Cert.SettleIdeal.defs (F := Ideal)) (onTc (τ := Cert.SettleIdeal.τ) (Cert.SettleIdeal.main (F := Ideal))) ⟨m, fun _ => 0, g⟩ (fun r => ∀ c : Dev Cert.SettleIdeal.nD,
          r.2.mem ((c.tc : Thread Cert.SettleIdeal.nD Cert.SettleIdeal.τ).loc Cert.SettleIdeal.main_v8) = v0 c
          ∧ r.2.mem ((c.tc : Thread Cert.SettleIdeal.nD Cert.SettleIdeal.τ).loc Cert.SettleIdeal.main_v4) = v1 c
          ∧ r.2.mem ((c.tc : Thread Cert.SettleIdeal.nD Cert.SettleIdeal.τ).loc Cert.SettleIdeal.main_v4) = v2 c
          ∧ r.2.mem ((c.tc : Thread Cert.SettleIdeal.nD Cert.SettleIdeal.τ).loc Cert.SettleIdeal.main_v6) = v3 c
          ∧ r.2.mem ((c.tc : Thread Cert.SettleIdeal.nD Cert.SettleIdeal.τ).loc Cert.SettleIdeal.main_arg0) = m ((c.tc : Thread Cert.SettleIdeal.nD Cert.SettleIdeal.τ).loc Cert.SettleIdeal.main_arg0)
          ∧ r.2.mem ((c.tc : Thread Cert.SettleIdeal.nD Cert.SettleIdeal.τ).loc Cert.SettleIdeal.main_arg1) = m ((c.tc : Thread Cert.SettleIdeal.nD Cert.SettleIdeal.τ).loc Cert.SettleIdeal.main_arg1))
      ∧ θ_run (Cert.LossesIdeal.defs (F := Ideal)) (onTc (τ := Cert.LossesIdeal.τ) (Cert.LossesIdeal.main (F := Ideal))) ⟨m', fun _ => 0, g'⟩ (fun r => ∀ c : Dev Cert.LossesIdeal.nD,
          r.2.mem ((c.tc : Thread Cert.LossesIdeal.nD Cert.LossesIdeal.τ).loc Cert.LossesIdeal.main_v13) = v0 c
          ∧ r.2.mem ((c.tc : Thread Cert.LossesIdeal.nD Cert.LossesIdeal.τ).loc Cert.LossesIdeal.main_v5) = v1 c
          ∧ r.2.mem ((c.tc : Thread Cert.LossesIdeal.nD Cert.LossesIdeal.τ).loc Cert.LossesIdeal.main_v9) = v2 c
          ∧ r.2.mem ((c.tc : Thread Cert.LossesIdeal.nD Cert.LossesIdeal.τ).loc Cert.LossesIdeal.main_v11) = v3 c
          ∧ r.2.mem ((c.tc : Thread Cert.LossesIdeal.nD Cert.LossesIdeal.τ).loc Cert.LossesIdeal.main_arg0) = m' ((c.tc : Thread Cert.LossesIdeal.nD Cert.LossesIdeal.τ).loc Cert.LossesIdeal.main_arg0)
          ∧ r.2.mem ((c.tc : Thread Cert.LossesIdeal.nD Cert.LossesIdeal.τ).loc Cert.LossesIdeal.main_arg1) = m' ((c.tc : Thread Cert.LossesIdeal.nD Cert.LossesIdeal.τ).loc Cert.LossesIdeal.main_arg1))

def bitexact_Gather_Take [hGather : Cert.Gather.Facts] [hTake : Cert.Take.Facts] [hPre_in_codebook : Cert.Pre_in_codebook.Facts] : Prop :=
  ∀ (m : (ℓ : Loc Cert.Gather.nD Cert.Gather.τ Cert.Gather.sig) → Buf (Elt Bits) ℓ) (g : Dev Cert.Gather.nD → PrngReg)
    (m' : (ℓ : Loc Cert.Take.nD Cert.Take.τ Cert.Take.sig) → Buf (Elt Bits) ℓ) (g' : Dev Cert.Take.nD → PrngReg), Pre_Gather m →
    (∀ c : Dev Cert.Gather.nD,
      m' ((c.tc : Thread Cert.Take.nD Cert.Take.τ).loc Cert.Take.main_arg0) = m ((c.tc : Thread Cert.Gather.nD Cert.Gather.τ).loc Cert.Gather.main_arg0)
      ∧ m' ((c.tc : Thread Cert.Take.nD Cert.Take.τ).loc Cert.Take.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v2)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v2) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Take.defs (F := Bits)) (onTc (τ := Cert.Take.τ) (Cert.Take.main (F := Bits))) ⟨m', fun _ => 0, g'⟩ (fun r => ∀ c : Dev Cert.Take.nD,
          r.2.mem ((c.tc : Thread Cert.Take.nD Cert.Take.τ).loc Cert.Take.main_v0) = v0 c
          ∧ r.2.mem ((c.tc : Thread Cert.Take.nD Cert.Take.τ).loc Cert.Take.main_arg0) = m' ((c.tc : Thread Cert.Take.nD Cert.Take.τ).loc Cert.Take.main_arg0)
          ∧ r.2.mem ((c.tc : Thread Cert.Take.nD Cert.Take.τ).loc Cert.Take.main_arg1) = m' ((c.tc : Thread Cert.Take.nD Cert.Take.τ).loc Cert.Take.main_arg1))

def bitexact_Settle_Losses_on_straight_through [hSettle : Cert.Settle.Facts] [hLosses : Cert.Losses.Facts] [hOn_straight_through : Cert.On_straight_through.Facts] : Prop :=
  ∀ (m : (ℓ : Loc Cert.Settle.nD Cert.Settle.τ Cert.Settle.sig) → Buf (Elt Bits) ℓ) (g : Dev Cert.Settle.nD → PrngReg)
    (m' : (ℓ : Loc Cert.Losses.nD Cert.Losses.τ Cert.Losses.sig) → Buf (Elt Bits) ℓ) (g' : Dev Cert.Losses.nD → PrngReg), Pre_Settle m →
    (∀ c : Dev Cert.Settle.nD,
      m' ((c.tc : Thread Cert.Losses.nD Cert.Losses.τ).loc Cert.Losses.main_arg0) = m ((c.tc : Thread Cert.Settle.nD Cert.Settle.τ).loc Cert.Settle.main_arg0)
      ∧ m' ((c.tc : Thread Cert.Losses.nD Cert.Losses.τ).loc Cert.Losses.main_arg1) = m ((c.tc : Thread Cert.Settle.nD Cert.Settle.τ).loc Cert.Settle.main_arg1)) →
    ∃ (v0 : (c : Dev Cert.Settle.nD) → Buf (Elt Bits) ((c.tc : Thread Cert.Settle.nD Cert.Settle.τ).loc Cert.Settle.main_v8)) (v1 : (c : Dev Cert.Settle.nD) → Buf (Elt Bits) ((c.tc : Thread Cert.Settle.nD Cert.Settle.τ).loc Cert.Settle.main_v4)) (v2 : (c : Dev Cert.Settle.nD) → Buf (Elt Bits) ((c.tc : Thread Cert.Settle.nD Cert.Settle.τ).loc Cert.Settle.main_v4)) (v3 : (c : Dev Cert.Settle.nD) → Buf (Elt Bits) ((c.tc : Thread Cert.Settle.nD Cert.Settle.τ).loc Cert.Settle.main_v6)),
      θ_run (Cert.Settle.defs (F := Bits)) (onTc (τ := Cert.Settle.τ) (Cert.Settle.main (F := Bits))) ⟨m, fun _ => 0, g⟩ (fun r => ∀ c : Dev Cert.Settle.nD,
          (∀ i : (⟨4, ![16, 32, 32, 32]⟩ : Shape).Idx, (Cert.On_straight_through.fn (F := Bits) (m ((c.tc : Thread Cert.Settle.nD Cert.Settle.τ).loc Cert.Settle.main_arg0)) (m ((c.tc : Thread Cert.Settle.nD Cert.Settle.τ).loc Cert.Settle.main_arg1))).1 i = 1#1 → r.2.mem ((c.tc : Thread Cert.Settle.nD Cert.Settle.τ).loc Cert.Settle.main_v8) i = v0 c i)
          ∧ (∀ i : (⟨0, ![]⟩ : Shape).Idx, (Cert.On_straight_through.fn (F := Bits) (m ((c.tc : Thread Cert.Settle.nD Cert.Settle.τ).loc Cert.Settle.main_arg0)) (m ((c.tc : Thread Cert.Settle.nD Cert.Settle.τ).loc Cert.Settle.main_arg1))).2.1 i = 1#1 → r.2.mem ((c.tc : Thread Cert.Settle.nD Cert.Settle.τ).loc Cert.Settle.main_v4) i = v1 c i)
          ∧ (∀ i : (⟨0, ![]⟩ : Shape).Idx, (Cert.On_straight_through.fn (F := Bits) (m ((c.tc : Thread Cert.Settle.nD Cert.Settle.τ).loc Cert.Settle.main_arg0)) (m ((c.tc : Thread Cert.Settle.nD Cert.Settle.τ).loc Cert.Settle.main_arg1))).2.2.1 i = 1#1 → r.2.mem ((c.tc : Thread Cert.Settle.nD Cert.Settle.τ).loc Cert.Settle.main_v4) i = v2 c i)
          ∧ (∀ i : (⟨0, ![]⟩ : Shape).Idx, (Cert.On_straight_through.fn (F := Bits) (m ((c.tc : Thread Cert.Settle.nD Cert.Settle.τ).loc Cert.Settle.main_arg0)) (m ((c.tc : Thread Cert.Settle.nD Cert.Settle.τ).loc Cert.Settle.main_arg1))).2.2.2 i = 1#1 → r.2.mem ((c.tc : Thread Cert.Settle.nD Cert.Settle.τ).loc Cert.Settle.main_v6) i = v3 c i)
          ∧ r.2.mem ((c.tc : Thread Cert.Settle.nD Cert.Settle.τ).loc Cert.Settle.main_arg0) = m ((c.tc : Thread Cert.Settle.nD Cert.Settle.τ).loc Cert.Settle.main_arg0)
          ∧ r.2.mem ((c.tc : Thread Cert.Settle.nD Cert.Settle.τ).loc Cert.Settle.main_arg1) = m ((c.tc : Thread Cert.Settle.nD Cert.Settle.τ).loc Cert.Settle.main_arg1))
      ∧ θ_run (Cert.Losses.defs (F := Bits)) (onTc (τ := Cert.Losses.τ) (Cert.Losses.main (F := Bits))) ⟨m', fun _ => 0, g'⟩ (fun r => ∀ c : Dev Cert.Losses.nD,
          (∀ i : (⟨4, ![16, 32, 32, 32]⟩ : Shape).Idx, (Cert.On_straight_through.fn (F := Bits) (m ((c.tc : Thread Cert.Settle.nD Cert.Settle.τ).loc Cert.Settle.main_arg0)) (m ((c.tc : Thread Cert.Settle.nD Cert.Settle.τ).loc Cert.Settle.main_arg1))).1 i = 1#1 → r.2.mem ((c.tc : Thread Cert.Losses.nD Cert.Losses.τ).loc Cert.Losses.main_v13) i = v0 c i)
          ∧ (∀ i : (⟨0, ![]⟩ : Shape).Idx, (Cert.On_straight_through.fn (F := Bits) (m ((c.tc : Thread Cert.Settle.nD Cert.Settle.τ).loc Cert.Settle.main_arg0)) (m ((c.tc : Thread Cert.Settle.nD Cert.Settle.τ).loc Cert.Settle.main_arg1))).2.1 i = 1#1 → r.2.mem ((c.tc : Thread Cert.Losses.nD Cert.Losses.τ).loc Cert.Losses.main_v5) i = v1 c i)
          ∧ (∀ i : (⟨0, ![]⟩ : Shape).Idx, (Cert.On_straight_through.fn (F := Bits) (m ((c.tc : Thread Cert.Settle.nD Cert.Settle.τ).loc Cert.Settle.main_arg0)) (m ((c.tc : Thread Cert.Settle.nD Cert.Settle.τ).loc Cert.Settle.main_arg1))).2.2.1 i = 1#1 → r.2.mem ((c.tc : Thread Cert.Losses.nD Cert.Losses.τ).loc Cert.Losses.main_v9) i = v2 c i)
          ∧ (∀ i : (⟨0, ![]⟩ : Shape).Idx, (Cert.On_straight_through.fn (F := Bits) (m ((c.tc : Thread Cert.Settle.nD Cert.Settle.τ).loc Cert.Settle.main_arg0)) (m ((c.tc : Thread Cert.Settle.nD Cert.Settle.τ).loc Cert.Settle.main_arg1))).2.2.2 i = 1#1 → r.2.mem ((c.tc : Thread Cert.Losses.nD Cert.Losses.τ).loc Cert.Losses.main_v11) i = v3 c i)
          ∧ r.2.mem ((c.tc : Thread Cert.Losses.nD Cert.Losses.τ).loc Cert.Losses.main_arg0) = m' ((c.tc : Thread Cert.Losses.nD Cert.Losses.τ).loc Cert.Losses.main_arg0)
          ∧ r.2.mem ((c.tc : Thread Cert.Losses.nD Cert.Losses.τ).loc Cert.Losses.main_arg1) = m' ((c.tc : Thread Cert.Losses.nD Cert.Losses.τ).loc Cert.Losses.main_arg1))

def Claim : Prop :=
  ∃ (hGather : Cert.Gather.Facts) (hGatherIdeal : Cert.GatherIdeal.Facts) (hTakeIdeal : Cert.TakeIdeal.Facts) (hKernelIdeal : Cert.KernelIdeal.Facts) (hReferenceIdeal : Cert.ReferenceIdeal.Facts) (hSearch : Cert.Search.Facts) (hSearchIdeal : Cert.SearchIdeal.Facts) (hNearestIdeal : Cert.NearestIdeal.Facts) (hSettle : Cert.Settle.Facts) (hSettleIdeal : Cert.SettleIdeal.Facts) (hLossesIdeal : Cert.LossesIdeal.Facts) (hTake : Cert.Take.Facts) (hLosses : Cert.Losses.Facts) (hPre_in_codebook : Cert.Pre_in_codebook.Facts) (hOn_straight_through : Cert.On_straight_through.Facts),
    quiescent_Gather (hGather := hGather) (hPre_in_codebook := hPre_in_codebook)
    ∧ quiescent_GatherIdeal (hGatherIdeal := hGatherIdeal) (hPre_in_codebook := hPre_in_codebook)
    ∧ quiescent_TakeIdeal (hTakeIdeal := hTakeIdeal)
    ∧ quiescent_TakeIdeal_pre_in_codebook (hTakeIdeal := hTakeIdeal) (hPre_in_codebook := hPre_in_codebook)
    ∧ quiescent_KernelIdeal (hKernelIdeal := hKernelIdeal)
    ∧ quiescent_ReferenceIdeal (hReferenceIdeal := hReferenceIdeal)
    ∧ quiescent_Search (hSearch := hSearch)
    ∧ quiescent_SearchIdeal (hSearchIdeal := hSearchIdeal)
    ∧ quiescent_NearestIdeal (hNearestIdeal := hNearestIdeal)
    ∧ quiescent_Settle (hSettle := hSettle)
    ∧ quiescent_SettleIdeal (hSettleIdeal := hSettleIdeal)
    ∧ quiescent_LossesIdeal (hLossesIdeal := hLossesIdeal)
    ∧ quiescent_Take (hTake := hTake)
    ∧ quiescent_Take_pre_in_codebook (hTake := hTake) (hPre_in_codebook := hPre_in_codebook)
    ∧ quiescent_Losses (hLosses := hLosses)
    ∧ preserves_Gather_GatherIdeal
    ∧ algebraic_GatherIdeal_TakeIdeal (hGatherIdeal := hGatherIdeal) (hTakeIdeal := hTakeIdeal) (hPre_in_codebook := hPre_in_codebook)
    ∧ algebraic_KernelIdeal_ReferenceIdeal (hKernelIdeal := hKernelIdeal) (hReferenceIdeal := hReferenceIdeal)
    ∧ preserves_Search_SearchIdeal
    ∧ algebraic_SearchIdeal_NearestIdeal (hSearchIdeal := hSearchIdeal) (hNearestIdeal := hNearestIdeal)
    ∧ preserves_Settle_SettleIdeal
    ∧ algebraic_SettleIdeal_LossesIdeal (hSettleIdeal := hSettleIdeal) (hLossesIdeal := hLossesIdeal)
    ∧ bitexact_Gather_Take (hGather := hGather) (hTake := hTake) (hPre_in_codebook := hPre_in_codebook)
    ∧ bitexact_Settle_Losses_on_straight_through (hSettle := hSettle) (hLosses := hLosses) (hOn_straight_through := hOn_straight_through)
-- ==== On_straight_through.lean ====
abbrev S16x32x32x32 : Shape := ⟨4, ![16, 32, 32, 32]⟩
abbrev S16384x32 : Shape := ⟨2, ![16384, 32]⟩
abbrev S_ : Shape := ⟨0, ![]⟩

class Facts : Prop where
  bcast_S_S16x32x32x32 : S_.BroadcastsInDim S16x32x32x32 (![] : Fin 0 → Fin S16x32x32x32.rank)

variable [Facts]

def fn {F : FTy → Type} [FloatOps F] (main_arg0 : FVec F S16x32x32x32 .f32) (main_arg1 : FVec F S16384x32 .f32) : IVec S16x32x32x32 1 × IVec S_ 1 × IVec S_ 1 × IVec S_ 1 :=
  let main_c : IVec S_ 1 := constantI S_ 1 1#1
  let main_v0 : IVec S16x32x32x32 1 := broadcastInDim S16x32x32x32 ![] bcast_S_S16x32x32x32 main_c
  let main_c_0 : IVec S_ 1 := constantI S_ 1 0#1
  let main_c_1 : IVec S_ 1 := constantI S_ 1 0#1
  let main_c_2 : IVec S_ 1 := constantI S_ 1 0#1
  (main_v0, main_c_0, main_c_1, main_c_2)
-- ==== Pre_in_codebook.lean ====
abbrev S8192x32 : Shape := ⟨2, ![8192, 32]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S8192x32 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 8192#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Gather.lean ====
abbrev S8192x32 : Shape := ⟨2, ![8192, 32]⟩
abbrev S16384 : Shape := ⟨1, ![16384]⟩
abbrev S_ : Shape := ⟨0, ![]⟩
abbrev S8192x128 : Shape := ⟨2, ![8192, 128]⟩
abbrev S16384x128 : Shape := ⟨2, ![16384, 128]⟩
abbrev S512 : Shape := ⟨1, ![512]⟩
abbrev S512x128 : Shape := ⟨2, ![512, 128]⟩
abbrev S16384x32 : Shape := ⟨2, ![16384, 32]⟩

abbrev nBuf : Table → Nat
  | .hbm => 7
  | .local .scVector .vmem => 2
  | _ => 0

abbrev bufTy : (tb : Table) → Fin (nBuf tb) → BufTy
  | .hbm, ⟨0, _⟩ => ⟨S8192x32, .f32⟩
  | .hbm, ⟨1, _⟩ => ⟨S16384, .i32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S16384x128, .f32⟩
  | .hbm, ⟨6, _⟩ => ⟨S16384x32, .f32⟩
  | .local .scVector .vmem, ⟨0, _⟩ => ⟨S512, .i32⟩
  | .local .scVector .vmem, ⟨1, _⟩ => ⟨S512x128, .f32⟩
  | _, _ => ⟨S8192x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
abbrev S16x32x32x32 : Shape := ⟨4, ![16, 32, 32, 32]⟩
abbrev S8192x32 : Shape := ⟨2, ![8192, 32]⟩
abbrev S16384x32 : Shape := ⟨2, ![16384, 32]⟩
abbrev S32x8192 : Shape := ⟨2, ![32, 8192]⟩
abbrev S16384 : Shape := ⟨1, ![16384]⟩
abbrev S256x32 : Shape := ⟨2, ![256, 32]⟩
abbrev S256 : Shape := ⟨1, ![256]⟩
abbrev S256x1 : Shape := ⟨2, ![256, 1]⟩
abbrev S8x8192 : Shape := ⟨2, ![8, 8192]⟩
abbrev S4x8192 : Shape := ⟨2, ![4, 8192]⟩
abbrev S2x8192 : Shape := ⟨2, ![2, 8192]⟩
abbrev S1x8192 : Shape := ⟨2, ![1, 8192]⟩
abbrev S256x8192 : Shape := ⟨2, ![256, 8192]⟩
abbrev S_ : Shape := ⟨0, ![]⟩
abbrev S8192x128 : Shape := ⟨2, ![8192, 128]⟩
abbrev S16384x128 : Shape := ⟨2, ![16384, 128]⟩
abbrev S512 : Shape := ⟨1, ![512]⟩
abbrev S512x128 : Shape := ⟨2, ![512, 128]⟩
abbrev S1x1 : Shape := ⟨2, ![1, 1]⟩
abbrev S1x16384x32 : Shape := ⟨3, ![1, 16384, 32]⟩
abbrev S1 : Shape := ⟨1, ![1]⟩
abbrev S1x1x1 : Shape := ⟨3, ![1, 1, 1]⟩
abbrev S16x32x32 : Shape := ⟨3, ![16, 32, 32]⟩

abbrev nBuf : Table → Nat
  | .hbm => 22
  | .local .tc .vmem => 9
  | .local .scVector .vmem => 2
  | _ => 0

abbrev bufTy : (tb : Table) → Fin (nBuf tb) → BufTy
  | .hbm, ⟨0, _⟩ => ⟨S16x32x32x32, .f32⟩
  | .hbm, ⟨1, _⟩ => ⟨S8192x32, .f32⟩
  | .hbm, ⟨2, _⟩ => ⟨S16x32x32x32, .f32⟩
  | .hbm, ⟨3, _⟩ => ⟨S16384x32, .f32⟩
  | .hbm, ⟨4, _⟩ => ⟨S32x8192, .f32⟩
  | .hbm, ⟨5, _⟩ => ⟨S16384, .i32⟩
  | .hbm, ⟨6, _⟩ => ⟨S_, .i32⟩
  | .hbm, ⟨7, _⟩ => ⟨S_, .f32⟩
  | .hbm, ⟨8, _⟩ => ⟨S8192x128, .f32⟩
  | .hbm, ⟨9, _⟩ => ⟨S16384x128, .f32⟩
  | .hbm, ⟨10, _⟩ => ⟨S16384x32, .f32⟩
  | .hbm, ⟨11, _⟩ => ⟨S16384x32, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x32x32x32, .f32⟩
  | .hbm, ⟨20, _⟩ => ⟨S16x32x32x32, .f32⟩
  | .hbm, ⟨21, _⟩ => ⟨S16x32x32, .i32⟩
  | .local .tc .vmem, ⟨0, _⟩ => ⟨S256x32, .f32⟩
  | .local .tc .vmem, ⟨1, _⟩ => ⟨S256x32, .f32⟩
  | .local .tc .vmem, ⟨2, _⟩ => ⟨S32x8192, .f32⟩
  | .local .tc .vmem, ⟨3, _⟩ => ⟨S256, .i32⟩
  | .local .tc .vmem, ⟨4, _⟩ => ⟨S256, .i32⟩
  | .local .tc .vmem, ⟨5, _⟩ => ⟨S16384x32, .f32⟩
  | .local .tc .vmem, ⟨6, _⟩ => ⟨S16384x32, .f32⟩
  | .local .tc .vmem, ⟨7, _⟩ => ⟨S16384x32, .f32⟩
  | .local .tc .vmem, ⟨8, _⟩ => ⟨S1x1, .f32⟩
  | .local .scVector .vmem, ⟨0, _⟩ => ⟨S512, .i32⟩
  | .local .scVector .vmem, ⟨1, _⟩ => ⟨S512x128, .f32⟩
  | _, _ => ⟨S16x32x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v4_scv : Ref sig .scVector := ⟨.hbm, 8, rfl⟩
abbrev main_v3_scv : Ref sig .scVector := ⟨.hbm, 5, rfl⟩
abbrev main_v5_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 8
abbrev cc2_sem1_0 : DmaSem sig := 9
abbrev cc2_sem2_0 : DmaSem sig := 10
abbrev cc2_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid2 : Pipeline.Grid := .none

abbrev stage2_0 : Fin 1 → Memref sig .tc .vmem S16384x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16384x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16384x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x32x32x32 : Shape := ⟨4, ![16, 32, 32, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S32x8192 : Shape := ⟨2, ![32, 8192]⟩
abbrev S1 : Shape := ⟨1, ![1]⟩
abbrev S1x1 : Shape := ⟨2, ![1, 1]⟩
abbrev S16x32x32 : Shape := ⟨3, ![16, 32, 32]⟩

abbrev nBuf : Space → Nat
  | .hbm => 73
  | .vmem => 0
  | .smem => 0
  | _ => 0

abbrev bufTy : (tb : Table) → Fin (tcTables nBuf tb) → BufTy
  | .hbm, ⟨0, _⟩ => ⟨S16x32x32x32, .f32⟩
  | .hbm, ⟨1, _⟩ => ⟨S8192x32, .f32⟩
  | .hbm, ⟨2, _⟩ => ⟨S16x32x32x32, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S32x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x8192, .i32⟩
  | .hbm, ⟨26, _⟩ => ⟨S_, .f32⟩
  | .hbm, ⟨27, _⟩ => ⟨S_, .i32⟩
  | .hbm, ⟨28, _⟩ => ⟨S16384, .f32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x32, .f32⟩
  | .hbm, ⟨49, _⟩ => ⟨S16384x32, .i1⟩
  | .hbm, ⟨50, _⟩ => ⟨S_, .f32⟩
  | .hbm, ⟨51, _⟩ => ⟨S16384x32, .f32⟩
  | .hbm, ⟨52, _⟩ => ⟨S16384x32, .f32⟩
  | .hbm, ⟨53, _⟩ => ⟨S16x32x32x32, .f32⟩
  | .hbm, ⟨54, _⟩ => ⟨S16x32x32x32, .f32⟩
  | .hbm, ⟨55, _⟩ => ⟨S16x32x32x32, .f32⟩
  | .hbm, ⟨56, _⟩ => ⟨S16x32x32x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S16x32x32x32, .f32⟩
  | .hbm, ⟨62, _⟩ => ⟨S16x32x32x32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S16x32x32x32, .f32⟩
  | .hbm, ⟨71, _⟩ => ⟨S16x32x32x32, .f32⟩
  | .hbm, ⟨72, _⟩ => ⟨S16x32x32, .i32⟩
  | _, _ => ⟨S16x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩

abbrev nD : Nat := 1
abbrev τ : Topo := Topo.v7x

variable {F : FTy → Type} [FloatOps F]
-- ==== Search.lean ====
abbrev S16x32x32x32 : Shape := ⟨4, ![16, 32, 32, 32]⟩
abbrev S8192x32 : Shape := ⟨2, ![8192, 32]⟩
abbrev S16384x32 : Shape := ⟨2, ![16384, 32]⟩
abbrev S32x8192 : Shape := ⟨2, ![32, 8192]⟩
abbrev S16384 : Shape := ⟨1, ![16384]⟩
abbrev S256x32 : Shape := ⟨2, ![256, 32]⟩
abbrev S256 : Shape := ⟨1, ![256]⟩
abbrev S256x1 : Shape := ⟨2, ![256, 1]⟩
abbrev S8x8192 : Shape := ⟨2, ![8, 8192]⟩
abbrev S4x8192 : Shape := ⟨2, ![4, 8192]⟩
abbrev S2x8192 : Shape := ⟨2, ![2, 8192]⟩
abbrev S1x8192 : Shape := ⟨2, ![1, 8192]⟩
abbrev S256x8192 : Shape := ⟨2, ![256, 8192]⟩

abbrev nBuf : Space → Nat
  | .hbm => 6
  | .vmem => 5
  | .smem => 0
  | _ => 0

abbrev bufTy : (tb : Table) → Fin (tcTables nBuf tb) → BufTy
  | .hbm, ⟨0, _⟩ => ⟨S16x32x32x32, .f32⟩
  | .hbm, ⟨1, _⟩ => ⟨S8192x32, .f32⟩
  | .hbm, ⟨2, _⟩ => ⟨S16x32x32x32, .f32⟩
  | .hbm, ⟨3, _⟩ => ⟨S16384x32, .f32⟩
  | .hbm, ⟨4, _⟩ => ⟨S32x8192, .f32⟩
  | .hbm, ⟨5, _⟩ => ⟨S16384, .i32⟩
  | .local _ .vmem, ⟨0, _⟩ => ⟨S256x32, .f32⟩
  | .local _ .vmem, ⟨1, _⟩ => ⟨S256x32, .f32⟩
  | .local _ .vmem, ⟨2, _⟩ => ⟨S32x8192, .f32⟩
  | .local _ .vmem, ⟨3, _⟩ => ⟨S256, .i32⟩
  | .local _ .vmem, ⟨4, _⟩ => ⟨S256, .i32⟩
  | _, _ => ⟨S16x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NearestIdeal.lean ====
abbrev S16x32x32x32 : Shape := ⟨4, ![16, 32, 32, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S32x8192 : Shape := ⟨2, ![32, 8192]⟩

abbrev nBuf : Space → Nat
  | .hbm => 30
  | .vmem => 0
  | .smem => 0
  | _ => 0

abbrev bufTy : (tb : Table) → Fin (tcTables nBuf tb) → BufTy
  | .hbm, ⟨0, _⟩ => ⟨S16x32x32x32, .f32⟩
  | .hbm, ⟨1, _⟩ => ⟨S8192x32, .f32⟩
  | .hbm, ⟨2, _⟩ => ⟨S16x32x32x32, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S32x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x8192, .i32⟩
  | .hbm, ⟨26, _⟩ => ⟨S_, .f32⟩
  | .hbm, ⟨27, _⟩ => ⟨S_, .i32⟩
  | .hbm, ⟨28, _⟩ => ⟨S16384, .f32⟩
  | .hbm, ⟨29, _⟩ => ⟨S16384, .i32⟩
  | _, _ => ⟨S16x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Settle.lean ====
abbrev S16x32x32x32 : Shape := ⟨4, ![16, 32, 32, 32]⟩
abbrev S16384x32 : Shape := ⟨2, ![16384, 32]⟩
abbrev S1x1 : Shape := ⟨2, ![1, 1]⟩
abbrev S1x16384x32 : Shape := ⟨3, ![1, 16384, 32]⟩
abbrev S1 : Shape := ⟨1, ![1]⟩
abbrev S1x1x1 : Shape := ⟨3, ![1, 1, 1]⟩
abbrev S_ : Shape := ⟨0, ![]⟩

abbrev nBuf : Space → Nat
  | .hbm => 14
  | .vmem => 4
  | .smem => 0
  | _ => 0

abbrev bufTy : (tb : Table) → Fin (tcTables nBuf tb) → BufTy
  | .hbm, ⟨0, _⟩ => ⟨S16x32x32x32, .f32⟩
  | .hbm, ⟨1, _⟩ => ⟨S16384x32, .f32⟩
  | .hbm, ⟨2, _⟩ => ⟨S16x32x32x32, .f32⟩
  | .hbm, ⟨3, _⟩ => ⟨S16384x32, .f32⟩
  | .hbm, ⟨4, _⟩ => ⟨S16384x32, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x32x32x32, .f32⟩
  | .hbm, ⟨13, _⟩ => ⟨S16x32x32x32, .f32⟩
  | .local _ .vmem, ⟨0, _⟩ => ⟨S16384x32, .f32⟩
  | .local _ .vmem, ⟨1, _⟩ => ⟨S16384x32, .f32⟩
  | .local _ .vmem, ⟨2, _⟩ => ⟨S16384x32, .f32⟩
  | .local _ .vmem, ⟨3, _⟩ => ⟨S1x1, .f32⟩
  | _, _ => ⟨S16x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Take.lean ====
abbrev S8192x32 : Shape := ⟨2, ![8192, 32]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 25
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x32, .f32⟩
  | .hbm, ⟨21, _⟩ => ⟨S16384x32, .i1⟩
  | .hbm, ⟨22, _⟩ => ⟨S_, .f32⟩
  | .hbm, ⟨23, _⟩ => ⟨S16384x32, .f32⟩
  | .hbm, ⟨24, _⟩ => ⟨S16384x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Losses.lean ====
abbrev S16x32x32x32 : Shape := ⟨4, ![16, 32, 32, 32]⟩
abbrev S16384x32 : Shape := ⟨2, ![16384, 32]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x32x32x32, .f32⟩
  | .hbm, ⟨1, _⟩ => ⟨S16384x32, .f32⟩
  | .hbm, ⟨2, _⟩ => ⟨S16x32x32x32, .f32⟩
  | .hbm, ⟨3, _⟩ => ⟨S16x32x32x32, .f32⟩
  | .hbm, ⟨4, _⟩ => ⟨S16x32x32x32, .f32⟩
  | .hbm, ⟨5, _⟩ => ⟨S16x32x32x32, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x32x32x32, .f32⟩
  | .hbm, ⟨11, _⟩ => ⟨S16x32x32x32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x32x32x32, .f32⟩
  | .hbm, ⟨20, _⟩ => ⟨S16x32x32x32, .f32⟩
  | _, _ => ⟨S16x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Words.lean ====
/-
  Facts on words and on host operations read at an index: when a fold of conjunctions is one, what a signed range check
  says of a word, and which row a gather of whole rows reads.
-/
module

public import Idealize.ShloMosaic.PureOps
public import Idealize.ShloMosaic.PureOps.Reduce
public import Idealize.ShloMosaic.Lib.ValueIdx

@[expose] public section

noncomputable section

namespace Cert.Proof.Words

open Idealize.ShloMosaic Idealize.ShloMosaic.ValueIdx

/-! ## Conjunctions -/

theorem andi_one (a b : BitVec 1) : IntOp.andi a b = 1#1 ↔ a = 1#1 ∧ b = 1#1 := by
  revert a b; decide

/-- A fold of conjunctions is one exactly if it starts at one and every member is one. -/
theorem foldl_andi {ι : Type} (g : ι → BitVec 1) (l : List ι) (a : BitVec 1) :
    l.foldl (fun r i => IntOp.andi r (g i)) a = 1#1 ↔ a = 1#1 ∧ ∀ i ∈ l, g i = 1#1 := by
  induction l generalizing a with
  | nil => simp
  | cons x l ih => rw [List.foldl_cons, ih, andi_one]; simp [and_assoc]

/-- A conjunction over an array's axes, starting at one, is one exactly if every element that falls to the place is one. -/
theorem reduce_andi {s t u : Shape} {axes : List (Fin s.rank)} (x : s.Idx → BitVec 1) (init : u.Idx → BitVec 1)
    (h : s.ReducesTo axes t) (hu : 0 < u.numel) (hi : ∀ i, init i = 1#1) (j : t.Idx) :
    Host.reduce IntOp.andi x init h hu j = 1#1 ↔ ∀ i, h.drop i = j → x i = 1#1 := by
  rw [Host.reduce_eq_foldl, foldl_andi]
  refine ⟨fun e i hij => e.2 i ?_, fun e => ⟨hi _, fun i hi' => e i ?_⟩⟩
  · rw [List.mem_filter]
    exact ⟨List.mem_map.mpr ⟨s.rowMajor i, List.mem_finRange _, Equiv.symm_apply_apply _ _⟩, by simpa using hij⟩
  · rw [List.mem_filter] at hi'; simpa using hi'.2

/-! ## Range checks -/

theorem ofBool_one (p : Bool) : BitVec.ofBool p = 1#1 ↔ p = true := by cases p <;> decide

theorem range_of_checks (v : BitVec 32) (e : IntOp.andi (IntOp.cmpi .sge v 0#32) (IntOp.cmpi .slt v 8192#32) = 1#1) : v.toNat < 8192 := by
  rw [andi_one] at e
  obtain ⟨e1, e2⟩ := e
  simp only [IntOp.cmpi, ofBool_one, BitVec.sle_eq_decide, BitVec.slt_eq_decide, decide_eq_true_eq, BitVec.toInt_eq_toNat_cond,
    BitVec.toNat_ofNat, Nat.reducePow, Nat.reduceMod] at e1 e2
  omega

/-- A word below 8192 is not negative. -/
theorem slt_zero_of_lt (v : BitVec 32) (h : v.toNat < 8192) : IntOp.cmpi .slt v 0#32 = 0#1 := by
  have hf : BitVec.slt v 0#32 = false := by
    rw [BitVec.slt_eq_decide, decide_eq_false_iff_not, BitVec.toInt_eq_toNat_cond, BitVec.toInt_eq_toNat_cond]
    simp only [BitVec.toNat_ofNat, Nat.reducePow, Nat.reduceMod]; omega
  simp [IntOp.cmpi, hf]
theorem sge_zero_of_lt (v : BitVec 32) (h : v.toNat < 8192) : IntOp.cmpi .sge v 0#32 = 1#1 := by
  simp only [IntOp.cmpi, ofBool_one, BitVec.sle_eq_decide, decide_eq_true_eq, BitVec.toInt_eq_toNat_cond, BitVec.toNat_ofNat,
    Nat.reducePow, Nat.reduceMod]
  omega
theorem sle_last_of_lt (v : BitVec 32) (h : v.toNat < 8192) : IntOp.cmpi .sle v 8191#32 = 1#1 := by
  simp only [IntOp.cmpi, ofBool_one, BitVec.sle_eq_decide, decide_eq_true_eq, BitVec.toInt_eq_toNat_cond, BitVec.toNat_ofNat,
    Nat.reducePow, Nat.reduceMod]
  omega
theorem toInt_of_lt (v : BitVec 32) (h : v.toNat < 8192) : v.toInt.toNat = v.toNat := by
  rw [BitVec.toInt_eq_toNat_cond]; simp only [Nat.reducePow]; split <;> omega

/-! ## A gather of whole rows -/

/-- The dimension numbers of a gather of whole rows of an [N, C] array at an [R, 1] array of row numbers. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Such a gather's element is the same column of the row its row number names, read signed and clamped. -/
theorem gather_rows {N R C w : Nat} {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (a : Fin R) (b : Fin C) :
    Host.gather (rowDims N R C wf) x idx (ix2 a b) = x (ix2 ⟨min (idx (ix2 a 0)).toInt.toNat (N - 1), by omega⟩ b) := by
  unfold Host.gather
  congr 1
  funext k
  refine Fin.ext ?_
  show (rowDims N R C wf).start (ix2 a b) idx k + (rowDims N R C wf).batchCoord (ix2 a b) k + (rowDims N R C wf).offCoord (ix2 a b) k = _
  rw [GatherDims.batchCoord_eq_zero _ _ _ List.not_mem_nil]
  match k with
  | ⟨0, _⟩ =>
    rw [GatherDims.offCoord_eq_zero _ _ _ (fun h => ((GatherDims.mem_sKept _ _).mp h).1 (List.mem_singleton.mpr rfl))]
    unfold GatherDims.start
    rw [dif_pos (show (⟨0, Nat.zero_lt_two⟩ : Fin 2) ∈ (rowDims N R C wf).startIndexMap from List.mem_singleton.mpr rfl)]
    have hsi : (rowDims N R C wf).siIdx (ix2 a b) ⟨List.idxOf (0 : Fin 2) (rowDims N R C wf).startIndexMap,
        List.idxOf_lt_length_iff.2 (List.mem_singleton.mpr rfl)⟩ = ix2 a 0 := by
      funext c; refine Fin.ext ?_
      match c with
      | ⟨0, _⟩ => rfl
      | ⟨1, _⟩ => rfl
    simp only [Nat.add_zero]
    show min (idx ((rowDims N R C wf).siIdx (ix2 a b) ⟨List.idxOf (0 : Fin 2) (rowDims N R C wf).startIndexMap, _⟩)).toInt.toNat _ = _
    rw [hsi]; rfl
  | ⟨1, _⟩ =>
    have h0 : (rowDims N R C wf).start (ix2 a b) idx (⟨1, Nat.one_lt_two⟩ : Fin 2) = 0 := by
      unfold GatherDims.start; exact dif_neg (fun h => absurd (congrArg Fin.val (List.mem_singleton.mp h)) Nat.one_ne_zero)
    show (rowDims N R C wf).start (ix2 a b) idx (⟨1, Nat.one_lt_two⟩ : Fin 2) + 0 + _ = _
    rw [h0, Nat.zero_add]
    rfl

end Cert.Proof.Words

end
-- ==== Proof.GatherTileIdeal.lean ====
/-
  The row gather on the SparseCore: one vector subcore's task.

  Thirty-two vector subcores share the 16384 row numbers, 512 each. A task fetches its 512 row numbers into its index
  scratch, gathers the rows of the padded codebook which they name into its row scratch, and writes those rows to its own
  block of the result. This module sets up the names of the launch, says what a task is handed and hands back, and proves
  the task once, at any core and subcore. The contents of the three arrays stay variables, and the postcondition names the
  value left in the block: `taken`, the table read at the row numbers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.VecWindow
public import proofs.«01_k».proof.Proof.Gen.GatherIdeal
public import proofs.«01_k».proof.Proof.Gen.GatherIdeal.Skeleton

@[expose] public section

noncomputable section

namespace Cert.Proof.GatherTileIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's names -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays -/

/-- Where the padded codebook, the row numbers and the gathered rows lie. -/
abbrev tLoc (d : Dev nD) : Loc nD τ sig := (SparseCore.T d).loc main_v0
abbrev iLoc (d : Dev nD) : Loc nD τ sig := (SparseCore.T d).loc main_arg1
abbrev oLoc (d : Dev nD) : Loc nD τ sig := (SparseCore.T d).loc main_v1

local notation "tM" => (Memref.whole main_v0_scv : Memref sig Kind.scVector Space.hbm S8192x128 EltTy.f32)
local notation "iM" => (Memref.whole main_arg1_scv : Memref sig Kind.scVector Space.hbm S16384 EltTy.i32)
local notation "oM" => (Memref.whole main_v1_scv : Memref sig Kind.scVector Space.hbm S16384x128 EltTy.f32)
local notation "sM" => (Memref.whole cc0_scratch0 : Memref sig Kind.scVector Space.vmem S512 EltTy.i32)
local notation "rM" => (Memref.whole cc0_scratch1 : Memref sig Kind.scVector Space.vmem S512x128 EltTy.f32)

/-- The index of an entry of a table, from its row and its column. -/
def cell {r c : ℕ} (i : Fin r) (j : Fin c) : (⟨2, ![r, c]⟩ : Shape).Idx
  | 0 => i
  | 1 => j
  | ⟨_ + 2, h⟩ => absurd h (Nat.not_lt.2 (Nat.le_add_left _ _))

/-- The index of an entry of a list. -/
def item {n : ℕ} (i : Fin n) : (⟨1, ![n]⟩ : Shape).Idx
  | 0 => i
  | ⟨_ + 1, h⟩ => absurd h (Nat.not_lt.2 (Nat.le_add_left _ _))

/-- A row number as a row of the table (every row number met is below 8192, so the remainder is the number itself). -/
def rowNo (w : BitVec 32) : Fin 8192 := ⟨w.toNat % 8192, Nat.mod_lt _ (by decide)⟩

/-- The gathered rows: row `i` of the result is the table's row at row number `i`. -/
def taken (tb : S8192x128.Idx → Elt F .f32) (ix : S16384.Idx → Elt F .i32) : S16384x128.Idx → Elt F .f32 :=
  fun j => tb (cell (rowNo (ix (item (j 0)))) (j 1))

variable (tb : (d : Dev nD) → Buf (Elt F) (tLoc d)) (ix : (d : Dev nD) → Buf (Elt F) (iLoc d)) (ov : (d : Dev nD) → Buf (Elt F) (oLoc d))

abbrev takenAt (d : Dev nD) : Buf (Elt F) (oLoc d) := taken (F := F) (tb d) (ix d)

/-! ## The blocks of the tasks -/

theorem iDiv : 32 ∣ S16384.size 0 := ⟨512, rfl⟩
theorem oDiv : 32 ∣ S16384x128.size 0 := ⟨512, rfl⟩
abbrev iPart (i : Fin 32) : Rect S16384 := Rect.part (s := S16384) (a₀ := 0) iDiv i
abbrev oPart (i : Fin 32) : Rect S16384x128 := Rect.part (s := S16384x128) (a₀ := 0) oDiv i
abbrev iSet (i : Fin 32) : Finset S16384.Idx := ((iM).view.slice (iPart i)).set
abbrev oSet (i : Fin 32) : Finset S16384x128.Idx := ((oM).view.slice (oPart i)).set

/-- The share of the table which task `i` reads it under. -/
abbrev tq (i : Fin 32) : PosShare TreeShare := pieceOf fullShare 32 (by decide) i

/-- The block of the task on vector subcore `s` of SparseCore `c`. -/
def blk (c : Fin 2) (s : Fin 16) : Fin 32 := ⟨2 * s.val + c.val, by omega⟩

/-- What a task is handed: its row numbers, its share of the table, its block of the result. -/
abbrev goPts (d : Dev nD) (i : Fin 32) : sProp 𝕄 :=
  iprop((iLoc d ↦[iSet i]{fullShare} ix d) ∗ (tLoc d ↦{tq i} tb d) ∗ oLoc d ↦[oSet i]{fullShare} ov d)

/-- What it hands back: the same, its block at the gathered rows. -/
abbrev donePts (d : Dev nD) (i : Fin 32) : sProp 𝕄 :=
  iprop((iLoc d ↦[iSet i]{fullShare} ix d) ∗ (tLoc d ↦{tq i} tb d) ∗ oLoc d ↦[oSet i]{fullShare} takenAt tb ix d)

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_core : grid0.bound 0 = 2 := rfl
theorem bound_sub : grid0.bound 1 = 16 := rfl
abbrev bL (L : grid0.Coords) : Fin 32 := blk (Fin.cast bound_core (L 0)) (Fin.cast bound_sub (L 1))

abbrev iRectK (L : grid0.Coords) : Rect S16384 := Rect.unit (s := S16384) (k0_off1 L) S512.size (k0_off1_inb L)
abbrev oRectK (L : grid0.Coords) : Rect S16384x128 := Rect.unit (s := S16384x128) (k0_off2 L) S512x128.size (k0_off2_inb L)
abbrev iK (L : grid0.Coords) : Memref sig .scVector .hbm S512 .i32 := (iM).slice (iRectK L) (fun _ => rfl)
abbrev oK (L : grid0.Coords) : Memref sig .scVector .hbm S512x128 .f32 := (oM).slice (oRectK L) (fun _ => rfl)
abbrev tAll : Memref sig .scVector .hbm S8192x128 .f32 := (tM).slice (Rect.unit (s := S8192x128) ![0, 0] S8192x128.size inb_S8192x128_S8192x128_0_0) (fun _ => rfl)

theorem bL_val : (bL L).val = 2 * (L 1).val + (L 0).val := rfl

theorem iRectK_eq : iRectK L = iPart (bL L) := by
  unfold iRectK iPart Rect.part Rect.block
  congr 1 <;> funext a
  · rw [k0_off1_eq]
    match a with
    | 0 => simp only [Shape.partIx, Shape.partSize, ↓reduceIte, bL_val]; show _ = _ * 512; simp; omega
  · match a with
    | 0 => simp [Shape.partSize]
theorem oRectK_eq : oRectK L = oPart (bL L) := by
  unfold oRectK oPart Rect.part Rect.block
  congr 1 <;> funext a
  · rw [k0_off2_eq]
    match a with
    | 0 => simp only [Shape.partIx, Shape.partSize, ↓reduceIte, bL_val]; show _ = _ * 512; simp; omega
    | 1 => simp [Shape.partIx, Shape.partSize]
  · match a with
    | 0 => simp [Shape.partSize]
    | 1 => simp [Shape.partSize]

theorem set_iK : (iK L).view.set = iSet (bL L) := by
  show ((iM).view.slice (iRectK L)).set = ((iM).view.slice (iPart (bL L))).set
  exact iRectK_eq L ▸ rfl
theorem set_oK : (oK L).view.set = oSet (bL L) := by
  show ((oM).view.slice (oRectK L)).set = ((oM).view.slice (oPart (bL L))).set
  exact oRectK_eq L ▸ rfl

theorem pts_iK (f : Buf (Elt F) (iLoc d)) :
    ((iK L).view.loc (V d (cV L) (jV L)) ↦[(iK L).view.set]{fullShare} f : sProp 𝕄) = iLoc d ↦[iSet (bL L)]{fullShare} f := by
  rw [set_iK]
theorem pts_oK (f : Buf (Elt F) (oLoc d)) :
    ((oK L).view.loc (V d (cV L) (jV L)) ↦[(oK L).view.set]{fullShare} f : sProp 𝕄) = oLoc d ↦[oSet (bL L)]{fullShare} f := by
  rw [set_oK]
theorem pts_tM (q : PosShare TreeShare) (f : Buf (Elt F) (tLoc d)) :
    ((tM).view.loc (V d (cV L) (jV L)) ↦{q} f : sProp 𝕄) = tLoc d ↦{q} f := rfl
theorem pts_sM (f : Buf (Elt F) ((V d (cV L) (jV L)).loc cc0_scratch0)) :
    ((sM).view.loc (V d (cV L) (jV L)) ↦{fullShare} f : sProp 𝕄) = (V d (cV L) (jV L)).loc cc0_scratch0 ↦{fullShare} f := rfl
theorem pts_rM (f : Buf (Elt F) ((V d (cV L) (jV L)).loc cc0_scratch1)) :
    ((rM).view.loc (V d (cV L) (jV L)) ↦{fullShare} f : sProp 𝕄) = (V d (cV L) (jV L)).loc cc0_scratch1 ↦{fullShare} f := rfl

/-! ### The subcore's own semaphores and buffers -/

abbrev gCell (d : Dev nD) (c : Fin τ.nSC) (i : Fin τ.nSub) : GSem nD τ sig := (V d c i, .dma cc0_scratch2.sem)
abbrev aCell (d : Dev nD) (c : Fin τ.nSC) (i : Fin τ.nSub) : GSem nD τ sig := (V d c i, .dma cc0_scoped0.sem)
abbrev bCell (d : Dev nD) (c : Fin τ.nSC) (i : Fin τ.nSub) : GSem nD τ sig := (V d c i, .dma cc0_scoped1.sem)

theorem ownSems0_V :
    (ownSems0 (V d (cV L) (jV L)) : sProp 𝕄)
      = iprop(semVal (gCell d (cV L) (jV L)) 0 ∗ semVal (aCell d (cV L) (jV L)) 0 ∗ semVal (bCell d (cV L) (jV L)) 0
          ∗ bigSep ((((ownCells (V d (cV L) (jV L))).erase (gCell d (cV L) (jV L))).erase (aCell d (cV L) (jV L))).erase (bCell d (cV L) (jV L))) fun g => semVal g 0) := by
  unfold SparseCore.Cfg.ownSems0
  rw [SparseCore.bigSep_erase' ((mem_ownCells (g := gCell d (cV L) (jV L))).mpr ⟨rfl, by
      show (SemLoc.dma cc0_scratch2.sem : SemLoc sig).isScoped .scVector = true; decide⟩),
    SparseCore.bigSep_erase' (Finset.mem_erase.mpr ⟨by simp [gCell, aCell]; decide, (mem_ownCells (g := aCell d (cV L) (jV L))).mpr ⟨rfl, by
      show (SemLoc.dma cc0_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d (cV L) (jV L))).mpr ⟨rfl, by show (SemLoc.dma cc0_scoped1.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### What the transfers move -/

/-- A word of the task's row numbers as the task reads it. -/
theorem read_iK (f : Buf (Elt F) (iLoc d)) (j : S512.Idx) : (iK L).view.read (Elt F) f j = f ((iK L).view.emb j) :=
  (View.read_apply _ _).trans (cast_eq _ _)

/-- The row numbers which the gather reads from the index scratch name rows of the table. -/
theorem rows_inb (hix : ∀ d (j : S16384.Idx), (ix d j).toNat < 8192)
    (fs : Buf (Elt F) ((V d (cV L) (jV L)).loc cc0_scratch0)) (pay : S512.Idx → Elt F .i32) (hpay : pay = (iK L).view.read (Elt F) (ix d)) :
    ∀ x, ((sM).view.read (Elt F) (View.write (Elt F) (sM).view fs pay Finset.univ) x).toNat < S8192x128.size gathers_S8192x128_S512x128.axis := by
  subst hpay; intro x
  rw [View.write_whole_univ]
  simp only [Memref.view_whole, View.read_whole]
  rw [read_iK]
  exact hix d _

/-- Entry `k` of the row numbers of the task, as an entry of the whole list. -/
theorem emb_iK (j : S512.Idx) : ((iK L).view.emb j 0).val = 1024 * (L 1).val + 512 * (L 0).val + (j 0).val := by
  have h : ((iK L).view.emb j 0).val = (k0_off1 L) 0 + 1 * (j 0).val := rfl
  rw [h, k0_off1_eq]
  simp
theorem emb_oK_row (x : S512x128.Idx) : ((oK L).view.emb x 0).val = 1024 * (L 1).val + 512 * (L 0).val + (x 0).val := by
  have h : ((oK L).view.emb x 0).val = (k0_off2 L) 0 + 1 * (x 0).val := rfl
  rw [h, k0_off2_eq]
  simp
theorem emb_oK_col (x : S512x128.Idx) : ((oK L).view.emb x 1).val = (x 1).val := by
  have h : ((oK L).view.emb x 1).val = (k0_off2 L) 1 + 1 * (x 1).val := rfl
  rw [h, k0_off2_eq]
  simp

theorem rowMajor_symm_S512 (k : Fin S512.numel) : ((S512.rowMajor.symm k) 0).val = k.val := by
  have h := Shape.rowMajor_val_one (d := ![512]) (S512.rowMajor.symm k)
  rw [← h]
  exact congrArg Fin.val (S512.rowMajor.apply_symm_apply k)

/-- The gathered payload at an entry of the row scratch is the entry of the result which the task writes there. -/
theorem gathered_eq (hix : ∀ d (j : S16384.Idx), (ix d j).toNat < 8192)
    (idx : S512.Idx → Elt F .i32) (hidx : idx = (iK L).view.read (Elt F) (ix d)) (hn : S512.numel = S512x128.size gathers_S8192x128_S512x128.axis')
    (hin : ∀ x, (idx x).toNat < S8192x128.size gathers_S8192x128_S512x128.axis) (x : S512x128.Idx) :
    SparseCore.gatherPayload gathers_S8192x128_S512x128 ((tAll).view.read (Elt F) (tb d)) (SparseCore.rows idx hn hin) x
      = takenAt tb ix d ((oK L).view.emb x) := by
  subst hidx
  unfold SparseCore.gatherPayload takenAt taken
  rw [show ∀ j, (tAll).view.read (Elt F) (tb d) j = tb d ((tAll).view.emb j) from fun j => (View.read_apply _ _).trans (cast_eq _ _)]
  congr 1
  funext a
  apply Fin.ext
  match a with
  | 0 =>
    have h1 : ∀ y : S8192x128.Idx, ((tAll).view.emb y 0).val = (y 0).val := fun y => by
      show 0 + 1 * (y 0).val = _; omega
    rw [h1]
    have h2 := Shape.Gathers.idx_axis gathers_S8192x128_S512x128 (SparseCore.rows ((iK L).view.read (Elt F) (ix d)) hn hin) x
    refine (congrArg Fin.val h2).trans ?_
    unfold SparseCore.rows
    show ((iK L).view.read (Elt F) (ix d) _).toNat = (ix d (item ((oK L).view.emb x 0))).toNat % 8192
    rw [read_iK, Nat.mod_eq_of_lt (hix d _)]
    congr 2
    funext b
    match b with
    | 0 =>
      apply Fin.ext
      rw [emb_iK, rowMajor_symm_S512]
      show _ = ((oK L).view.emb x 0).val
      rw [emb_oK_row]
      rfl
  | 1 =>
    have h1 : ∀ y : S8192x128.Idx, ((tAll).view.emb y 1).val = (y 1).val := fun y => by
      show 0 + 1 * (y 1).val = _; omega
    rw [h1, Shape.Gathers.idx_of_ne gathers_S8192x128_S512x128 _ x 1 (by decide)]
    show _ = ((oK L).view.emb x 1).val
    rw [emb_oK_col]
    rfl

/-- The task's block, written with the gathered rows, holds the result's rows. -/
theorem block_written (hix : ∀ d (j : S16384.Idx), (ix d j).toNat < 8192)
    (idx : S512.Idx → Elt F .i32) (hidx : idx = (iK L).view.read (Elt F) (ix d)) (hn : S512.numel = S512x128.size gathers_S8192x128_S512x128.axis')
    (hin : ∀ x, (idx x).toNat < S8192x128.size gathers_S8192x128_S512x128.axis)
    (pay : S512x128.Idx → Elt F .f32)
    (hpay : pay = SparseCore.gatherPayload gathers_S8192x128_S512x128 ((tAll).view.read (Elt F) (tb d)) (SparseCore.rows idx hn hin)) :
    ((oK L).view.loc (V d (cV L) (jV L)) ↦[(oK L).view.set]{fullShare} (oK L).view.writes (Elt F) (ov d) [⟨Rect.whole S512x128, pay⟩] : sProp 𝕄)
      = oLoc d ↦[oSet (bL L)]{fullShare} takenAt tb ix d := by
  rw [← pts_oK (F := F) d L]
  refine pointsTo_congr fun j hj => ?_
  obtain ⟨x, -, rfl⟩ := Finset.mem_map.mp hj
  have h1 : (oK L).view.read (Elt F) ((oK L).view.writes (Elt F) (ov d) [⟨Rect.whole S512x128, pay⟩]) x = pay x :=
    congrFun (View.read_writes_full (oK L).view (ov d) (off := fun _ => 0) (fun a => by omega) pay []) x
  rw [View.read_apply] at h1
  refine ((cast_eq _ _).symm.trans h1).trans ?_
  rw [hpay]
  exact gathered_eq tb ix d L hix idx hidx hn hin x

variable [FloatOps F]

set_option maxHeartbeats 4000000 in
/-- The task: the fetch of its row numbers, the gather of the rows they name, the write to its block. -/
theorem tile_body (hF : (K (F := F)).Facts) (hix : ∀ d (j : S16384.Idx), (ix d j).toNat < 8192)
    (O : CellTallies nD τ sig (HIx 1)) (W : Waits sig (HIx 1)) (hO : ∀ g, O g none = 0) :
    iprop(levAts (K (F := F)).L (K (F := F)).lev ∗ emp
        ∗ goPts tb ix ov d (bL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather L tM (Memref.isWhole_whole _) iM (Memref.isWhole_whole _) oM (Memref.isWhole_whole _)
            sM (Memref.isWhole_whole _) rM (Memref.isWhole_whole _) cc0_scratch2 cc0_scoped0 cc0_scoped1)
          fun _ => iprop(donePts tb ix d (bL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_eq_skeleton]; unfold cc0_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Ht' := (Entails.of_eq (pts_tM (F := F) d L _ _).symm) $$ Ht
  ihave Hs' := (Entails.of_eq (pts_sM (F := F) d L _).symm) $$ Hs
  ihave Hr' := (Entails.of_eq (pts_rM (F := F) d L _).symm) $$ Hr
  sl_exec
  -- the gather of the rows
  ihave Hts := (pointsTo_split_subset (q := tq (bL L)) (f := tb d) (S := Finset.univ) (Finset.subset_univ (tAll).view.set)).1 $$ Ht'
  icases Hts with ⟨Hts, Htr⟩
  have hrs : (rM).view.set = Finset.univ := View.set_whole _
  have hss : (sM).view.set = Finset.univ := View.set_whole _
  ihave Hr'' := (Entails.of_eq (show ((rM).view.loc (V d (cV L) (jV L)) ↦{fullShare} fr : sProp 𝕄)
      = (rM).view.loc (V d (cV L) (jV L)) ↦[(rM).view.set]{fullShare} fr by rw [hrs])) $$ Hr'
  ihave Hs'' := (Entails.of_eq (show ((sM).view.loc (V d (cV L) (jV L)) ↦{fullShare} View.write (Elt F) (sM).view fs (tile_body.sl.dma0 ix d L) Finset.univ : sProp 𝕄)
      = (sM).view.loc (V d (cV L) (jV L)) ↦[(sM).view.set]{fullShare} View.write (Elt F) (sM).view fs (tile_body.sl.dma0 ix d L) Finset.univ
      by rw [hss])) $$ Hs'
  have hN : ∀ h : S8192x128.Gathers 0 S512x128, ∑ j, ((rM).slice (S512x128.rowRect h.axis' j) (S512x128.stride_rowRect h.axis' j)).view.dmaCredit
      = (rM).view.dmaCredit := fun h => SparseCore.sum_rowCredit_eq_dmaCredit (rM) h.axis' (fun _ => rfl)
  have hin := rows_inb ix d L hix fs (tile_body.sl.dma0 ix d L) rfl
  iapply (SparseCore.wp_indirectGatherLocal countersEmb 𝒱₀ (V d (cV L) (jV L)) none (hg := gathers_S8192x128_S512x128) (default : HIx 1)
      (rM).view.dmaCredit (hN _) (by decide) hin) $$ [Hts Hr'' Hs'' HsemG]
  · isplitl [Hts]; · iexact Hts
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rM).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemG, HO⟩
  ihave Ht' := (pointsTo_split_subset (q := tq (bL L)) (f := tb d) (S := Finset.univ) (Finset.subset_univ (tAll).view.set)).2 $$ [Hts Htr]; · isplitl [Hts] <;> iassumption
  ihave Hr3 := (Entails.of_eq (show ((rM).view.loc (V d (cV L) (jV L)) ↦[(rM).view.set]{fullShare} _ : sProp 𝕄)
      = (rM).view.loc (V d (cV L) (jV L)) ↦{fullShare} _ by rw [hrs])) $$ Hr'
  ihave Hs3 := (Entails.of_eq (show ((sM).view.loc (V d (cV L) (jV L)) ↦[(sM).view.set]{fullShare} _ : sProp 𝕄)
      = (sM).view.loc (V d (cV L) (jV L)) ↦{fullShare} _ by rw [hss])) $$ Hs'
  sl_exec
  sl_step
  isplitl [Hi' Ht' Ho']
  · isplitl [Hi']; · iapply (Entails.of_eq (pts_iK (F := F) d L _)); iexact Hi'
    isplitl [Ht']; · iexact Ht'
    iapply (Entails.of_eq (block_written tb ix ov d L hix _ (by rw [View.write_whole_univ]; rfl) rfl hin (tile_body.sl.dma0_1 tb ix d L fs fr hin)
      (by unfold tile_body.sl.dma0_1; rw [View.write_whole_univ (cc0_scratch1)]; rfl)))
    iexact Ho'
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.GatherTileIdeal

end
-- ==== Proof.GatherLaunchIdeal.lean ====
/-
  The row gather on the SparseCore: the call of all thirty-two tasks.

  What the call takes and gives, the obligation of a task as the launch states it, and the split of the three arrays into
  the blocks and shares of the tasks and back.
-/
module

public import proofs.«01_k».proof.Proof.GatherTileIdeal

@[expose] public section

noncomputable section

namespace Cert.Proof.GatherTileIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tM" => (Memref.whole main_v0_scv : Memref sig Kind.scVector Space.hbm S8192x128 EltTy.f32)
local notation "iM" => (Memref.whole main_arg1_scv : Memref sig Kind.scVector Space.hbm S16384 EltTy.i32)
local notation "oM" => (Memref.whole main_v1_scv : Memref sig Kind.scVector Space.hbm S16384x128 EltTy.f32)
local notation "sM" => (Memref.whole cc0_scratch0 : Memref sig Kind.scVector Space.vmem S512 EltTy.i32)
local notation "rM" => (Memref.whole cc0_scratch1 : Memref sig Kind.scVector Space.vmem S512x128 EltTy.f32)

variable (tb : (d : Dev nD) → Buf (Elt F) (tLoc d)) (ix : (d : Dev nD) → Buf (Elt F) (iLoc d)) (ov : (d : Dev nD) → Buf (Elt F) (oLoc d))

/-! ## What the handshakes carry -/

theorem nCore_zero : (K (F := F)).nCore 0 = 2 := rfl
theorem nSub_zero : (K (F := F)).nSub 0 = 16 := rfl

/-- The block of a task, from the call's own numbering of its cores and subcores. -/
abbrev blkK (c : Fin ((K (F := F)).nCore 0)) (i : Fin ((K (F := F)).nSub 0)) : Fin 32 := blk (Fin.cast nCore_zero c) (Fin.cast nSub_zero i)

/-- A SparseCore takes and gives what its sixteen tasks do. -/
def P : (K (F := F)).Pay (nD := nD) (Val := Elt F) (Name := ℕ) (U := UU) where
  st := fun q d => match q with | 0 => fun c => bigSep Finset.univ fun i => goPts tb ix ov d (blkK (F := F) c i)
  dn := fun q d => match q with | 0 => fun c => bigSep Finset.univ fun i => donePts tb ix d (blkK (F := F) c i)
  go := fun q d => match q with | 0 => fun c i => goPts tb ix ov d (blkK (F := F) c i)
  td := fun q d => match q with | 0 => fun c i => donePts tb ix d (blkK (F := F) c i)
  x := fun _ _ => iprop(emp)

instance P_storable : (P (F := F) tb ix ov).IsStorable where
  st q d := match q with
    | 0 => fun c => (inferInstance : BI.Storable (upEmb : UEmb _ 𝕄) (bigSep Finset.univ fun i => goPts tb ix ov d (blkK (F := F) c i)))
  dn q d := match q with
    | 0 => fun c => (inferInstance : BI.Storable (upEmb : UEmb _ 𝕄) (bigSep Finset.univ fun i => donePts tb ix d (blkK (F := F) c i)))
  go q d := match q with
    | 0 => fun c i => (inferInstance : BI.Storable (upEmb : UEmb _ 𝕄) (goPts tb ix ov d (blkK (F := F) c i)))
  td q d := match q with
    | 0 => fun c i => (inferInstance : BI.Storable (upEmb : UEmb _ 𝕄) (donePts tb ix d (blkK (F := F) c i)))

/-! ## The obligation of a task -/

section Obligation

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          tM (Memref.isWhole_whole _) iM (Memref.isWhole_whole _) oM (Memref.isWhole_whole _)
          sM (Memref.isWhole_whole _) rM (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d (j : S16384.Idx), (ix d j).toNat < 8192) :
    (K (F := F)).TileObl (D (F := F)) 𝒱 (P tb ix ov) v₀ 0 := by
  intro d c i O W hO _ _
  simp only [show (P tb ix ov).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix ov d (coordsV ⟨_, hci.1⟩ ⟨_, hci.2⟩) hF hix O W hO).trans (wp_mono frame _ _ fun _ => obl_post)

end Obligation

theorem vecSplit : (K (F := F)).VecSplit' (P tb ix ov) 0 := by
  intro d c
  show (bigSep Finset.univ fun i => goPts tb ix ov d (blkK (F := F) c i)) ⊢ |={Set.univ}=> iprop(
      (bigSep Finset.univ fun i => goPts tb ix ov d (blkK (F := F) c i))
      ∗ ((bigSep Finset.univ fun i => donePts tb ix d (blkK (F := F) c i)) -∗ bigSep Finset.univ fun i => donePts tb ix d (blkK (F := F) c i)))
  iintro H; imodintro
  isplitl [H]; · iexact H
  iintro H; iexact H

/-! ## The arrays split into blocks and shares, and join again -/

theorem iSet_eq (i : Fin 32) : iSet i = (iPart i).set := by
  show ((View.whole (main_arg1_scv : Ref sig .scVector)).slice (iPart i)).set = _
  rw [View.set_slice]; exact Finset.map_refl
theorem oSet_eq (i : Fin 32) : oSet i = (oPart i).set := by
  show ((View.whole (main_v1_scv : Ref sig .scVector)).slice (oPart i)).set = _
  rw [View.set_slice]; exact Finset.map_refl
theorem iSets_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint iDiv h
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint oDiv h
theorem iSets_cover : (Finset.univ : Finset (Fin 32)).biUnion iSet = Finset.univ :=
  (Finset.biUnion_congr rfl fun i _ => iSet_eq i).trans (Rect.biUnion_part iDiv)
theorem oSets_cover : (Finset.univ : Finset (Fin 32)).biUnion oSet = Finset.univ :=
  (Finset.biUnion_congr rfl fun i _ => oSet_eq i).trans (Rect.biUnion_part oDiv)

theorem iPts_blocks (d : Dev nD) (f : Buf (Elt F) (iLoc d)) :
    (iLoc d ↦{fullShare} f : sProp 𝕄) = bigSep Finset.univ fun i : Fin 32 => iLoc d ↦[iSet i]{fullShare} f := by
  rw [← pointsTo_biUnion Finset.univ (ℓ := iLoc d) iSet iSets_disjoint, iSets_cover]; try rfl
theorem oPts_blocks (d : Dev nD) (f : Buf (Elt F) (oLoc d)) :
    (oLoc d ↦{fullShare} f : sProp 𝕄) = bigSep Finset.univ fun i : Fin 32 => oLoc d ↦[oSet i]{fullShare} f := by
  rw [← pointsTo_biUnion Finset.univ (ℓ := oLoc d) oSet oSets_disjoint, oSets_cover]; try rfl
theorem tPts_shares (d : Dev nD) (f : Buf (Elt F) (tLoc d)) :
    (tLoc d ↦{fullShare} f : sProp 𝕄) = bigSep Finset.univ fun i : Fin 32 => tLoc d ↦{tq i} f :=
  pointsTo_piecesOf Finset.univ f (by decide) fullShare

/-- The blocks by core and subcore are the blocks. -/
def blkEquiv : Fin 2 × Fin 16 ≃ Fin 32 where
  toFun p := blk p.1 p.2
  invFun b := (⟨b.val % 2, Nat.mod_lt _ (by decide)⟩, ⟨b.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv b := Fin.ext (by show 2 * (b.val / 2) + b.val % 2 = b.val; omega)

theorem bigSep_blocks (Φ : Fin 32 → sProp 𝕄) :
    (bigSep Finset.univ fun c : Fin ((K (F := F)).nCore 0) => bigSep Finset.univ fun i : Fin ((K (F := F)).nSub 0) => Φ (blkK (F := F) c i)) = bigSep Finset.univ Φ := by
  rw [bigSep_univ_equiv blkEquiv Φ, bigSep_univ_prod]
  rfl

/-- The three arrays whole are what the call's SparseCores take. -/
theorem st0_eq (d : Dev nD) :
    (bigSep Finset.univ fun c : Fin ((K (F := F)).nCore 0) => (P tb ix ov).st 0 d c)
      = iprop((iLoc d ↦{fullShare} ix d) ∗ (tLoc d ↦{fullShare} tb d) ∗ oLoc d ↦{fullShare} ov d) := by
  show (bigSep Finset.univ fun c : Fin ((K (F := F)).nCore 0) => bigSep Finset.univ fun i : Fin ((K (F := F)).nSub 0) => goPts tb ix ov d (blkK (F := F) c i)) = _
  rw [bigSep_blocks (F := F) (fun i => goPts tb ix ov d i), bigSep_sep', bigSep_sep', ← iPts_blocks, ← tPts_shares, ← oPts_blocks]
/-- What they give is the three arrays whole, the result at the gathered rows. -/
theorem dn0_eq (d : Dev nD) :
    (bigSep Finset.univ fun c : Fin ((K (F := F)).nCore 0) => (P tb ix ov).dn 0 d c)
      = iprop((iLoc d ↦{fullShare} ix d) ∗ (tLoc d ↦{fullShare} tb d) ∗ oLoc d ↦{fullShare} takenAt tb ix d) := by
  show (bigSep Finset.univ fun c : Fin ((K (F := F)).nCore 0) => bigSep Finset.univ fun i : Fin ((K (F := F)).nSub 0) => donePts tb ix d (blkK (F := F) c i)) = _
  rw [bigSep_blocks (F := F) (fun i => donePts tb ix d i), bigSep_sep', bigSep_sep', ← iPts_blocks, ← tPts_shares, ← oPts_blocks]

end Cert.Proof.GatherTileIdeal

end
-- ==== Proof.GatherRunIdeal.lean ====
/-
  The program that gathers: its host code pads the codebook's rows to 128 numbers, the SparseCore gathers, and the host
  code takes the first 32 numbers of each gathered row. The run of the whole program and what its result array holds.
-/
module

public import proofs.«01_k».proof.Proof.GatherLaunchIdeal

@[expose] public section

noncomputable section

namespace Cert.Proof.GatherTileIdeal

open Cert.GatherIdeal Cert.GatherIdeal.Gen

open Idealize.ShloMosaic
open Idealize.ShloMosaic.SparseCore (S V T)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

variable (m : (ℓ : Loc nD τ sig) → Buf (Elt F) ℓ) (ρ : Dev nD → PrngReg)

/-! ## The host operations and the arrays they leave -/

abbrev aR : DevRef τ sig := Proc.devRef .tc (main_arg0 : Ref sig .tc)
abbrev iR : DevRef τ sig := Proc.devRef .tc (main_arg1 : Ref sig .tc)
abbrev cR : DevRef τ sig := Proc.devRef .tc (main_c : Ref sig .tc)
abbrev fR : DevRef τ sig := Proc.devRef .tc (main_call0_v0 : Ref sig .tc)
abbrev tR : DevRef τ sig := Proc.devRef .tc (main_v0 : Ref sig .tc)
abbrev oR : DevRef τ sig := Proc.devRef .tc (main_v1 : Ref sig .tc)
abbrev zR : DevRef τ sig := Proc.devRef .tc (main_v2 : Ref sig .tc)

abbrev opC : HloOp τ sig (Elt F) := StableHlo.nullary main_c (constantI S_ 32 0#32)
abbrev opF : HloOp τ sig (Elt F) := StableHlo.TRef.unary (Tx := ⟨S_, .i32⟩) (.of main_c) main_call0.v0 (sitofp .f32)
abbrev opT : HloOp τ sig (Elt F) := StableHlo.TRef.binary (Ta := ⟨S8192x32, .f32⟩) (.of main_arg0) main_call0.v0 main_call0.v1
  (fun x v => pad S8192x128 ![0, 0] ![0, 96] ![0, 0] x v pads_S8192x32_S8192x128_000_0960 h_S_)
abbrev opZ : HloOp τ sig (Elt F) := StableHlo.unary main_v1 main_v2
  ((extractStridedSlice S16384x32 ![0, 0] · slices_S16384x128_S16384x32_0_0) : (⟨S16384x128, .f32⟩ : BufTy).Contents (Elt F) → (⟨S16384x32, .f32⟩ : BufTy).Contents (Elt F))

/-- The TensorCore's arrays. -/
abbrev refs : Finset (DevRef τ sig) := {aR, iR, cR, fR, tR, oR, zR}

omit [FloatOps F] in
theorem held_refs (d : Dev nD) (W : Valuation τ sig (Elt F)) :
    (held (T d) refs W : sProp 𝕄)
      = iprop(((SparseCore.T d).loc main_arg0 ↦{fullShare} W aR) ∗ (iLoc d ↦{fullShare} W iR) ∗ ((SparseCore.T d).loc main_c ↦{fullShare} W cR)
          ∗ ((SparseCore.T d).loc main_call0_v0 ↦{fullShare} W fR) ∗ (tLoc d ↦{fullShare} W tR) ∗ (oLoc d ↦{fullShare} W oR)
          ∗ (SparseCore.T d).loc main_v2 ↦{fullShare} W zR) := by
  unfold held refs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

def V0 (d : Dev nD) : Valuation τ sig (Elt F) := fun b => m (d, b)

omit [FloatOps F] in
theorem unscoped_held (d : Dev nD) : (unscopedBufs d (fun b => m ((SparseCore.T d).loc b)) : sProp 𝕄) = held (T d) refs (V0 m d) := by
  rw [held_refs]
  unfold unscopedBufs
  rw [show (Finset.univ.filter fun b : Ref sig .tc => ¬ b.isScoped) = {main_arg0, main_arg1, main_c, main_call0_v0, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The arrays before the call. -/
def V3 (d : Dev nD) : Valuation τ sig (Elt F) := (opT (F := F)).result ((opF (F := F)).result ((opC (F := F)).result (V0 m d)))

theorem V3_of_ne (d : Dev nD) (b : DevRef τ sig) (h1 : b ≠ tR) (h2 : b ≠ fR) (h3 : b ≠ cR) : V3 m d b = m (d, b) := by
  unfold V3
  rw [(opT (F := F)).result_of_not_mem _ (show b ∉ ({tR} : Finset (DevRef τ sig)) from fun h => h1 (Finset.mem_singleton.mp h)),
    (opF (F := F)).result_of_not_mem _ (show b ∉ ({fR} : Finset (DevRef τ sig)) from fun h => h2 (Finset.mem_singleton.mp h)),
    (opC (F := F)).result_of_not_mem _ (show b ∉ ({cR} : Finset (DevRef τ sig)) from fun h => h3 (Finset.mem_singleton.mp h))]
  rfl

/-- The padded codebook, the row numbers and the result's launch contents. -/
def tb (d : Dev nD) : Buf (Elt F) (tLoc d) := V3 m d tR
def ix (d : Dev nD) : Buf (Elt F) (iLoc d) := m (iLoc d)
def ov (d : Dev nD) : Buf (Elt F) (oLoc d) := m (oLoc d)

abbrev zLoc (d : Dev nD) : Loc nD τ sig := (SparseCore.T d).loc main_v2
abbrev aLoc (d : Dev nD) : Loc nD τ sig := (SparseCore.T d).loc main_arg0

/-- What the program's result holds: the first 32 numbers of each gathered row. -/
def Zv (d : Dev nD) : Buf (Elt F) (zLoc d) :=
  (extractStridedSlice S16384x32 ![0, 0] (takenAt (tb m) (ix m) d) slices_S16384x128_S16384x32_0_0 : S16384x32.Idx → Elt F .f32)

def V4 (d : Dev nD) : Valuation τ sig (Elt F) := Function.update (V3 m d) oR (takenAt (tb m) (ix m) d)
theorem V4_o (d : Dev nD) : V4 m d oR = takenAt (tb m) (ix m) d := Function.update_self _ _ _
theorem V4_ne (d : Dev nD) (b : DevRef τ sig) (h : b ≠ oR) : V4 m d b = V3 m d b := Function.update_of_ne h _ _

theorem opZ_z (d : Dev nD) : (opZ (F := F)).result (V4 m d) zR = Zv m d :=
  (StableHlo.unary_result _ _ _ _ _ _).trans (by rw [V4_o]; rfl)
theorem opZ_ne (d : Dev nD) (b : DevRef τ sig) (h : b ≠ zR) : (opZ (F := F)).result (V4 m d) b = V4 m d b :=
  (opZ (F := F)).result_of_not_mem _ (show b ∉ ({zR} : Finset (DevRef τ sig)) from fun h' => h (Finset.mem_singleton.mp h'))

theorem bufsC : (opC (F := F)).bufs ⊆ refs := show ({cR} : Finset (DevRef τ sig)) ⊆ refs by decide
theorem bufsF : (opF (F := F)).bufs ⊆ refs := show ({cR, fR} : Finset (DevRef τ sig)) ⊆ refs by decide
theorem bufsT : (opT (F := F)).bufs ⊆ refs := show ({aR, fR, tR} : Finset (DevRef τ sig)) ⊆ refs by decide
theorem bufsZ : (opZ (F := F)).bufs ⊆ refs := show ({oR, zR} : Finset (DevRef τ sig)) ⊆ refs by decide

/-! ## The launch -/

def u₀ : UU := (initOf (K (F := F)).hsCells (K (F := F)).hsToks, 1)

omit [FloatOps F] in
theorem sep_of_emps {I : Type} (s : Finset I) : bigSep s (fun _ => (iprop(emp) : sProp 𝕄)) = iprop(emp) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (tb m) (ix m) (ov m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [sep_of_emps]; iempintro
  rw [show (bigSep Finset.univ fun thr : Thread nD τ => bigSep Finset.univ fun q : Fin 1 => (P (F := F) (tb m) (ix m) (ov m)).x q thr) = bigSep Finset.univ fun _ => iprop(emp) from
    bigSep_congr fun _ _ => bigSep_univ_of_subsingleton (0 : Fin 1), sep_of_emps]
  iempintro

/-- What the TensorCore's program keeps for the claims. -/
abbrev FIN (d : Dev nD) : sProp 𝕄 :=
  iprop((aLoc d ↦{fullShare} m (aLoc d)) ∗ (iLoc d ↦{fullShare} m (iLoc d))
    ∗ zLoc d ↦{fullShare} Zv m d)

theorem hmain (κ : GSem nD τ sig → ℕ) (d : Dev nD) :
    iprop((K (F := F)).ctx EH (P (tb m) (ix m) (ov m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opC) (S := refs) bufsC (V := V0 m d)) $$ [Hb Hheld]
  · isplitl [Hb] <;> iassumption
  iintro ⟨Hb, Hheld⟩
  rw [wp_ret]; imodintro
  iapply (wp_hlo_within 𝒱 (SparseCore.T d) none Set.univ (op := opF) (S := refs) bufsF (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opT) (S := refs) bufsT (V := (opF (F := F)).result ((opC (F := F)).result (V0 m d)))) $$ [Hb Hheld]
  · isplitl [Hb] <;> iassumption
  iintro ⟨Hb, Hheld⟩
  rw [wp_ret]; imodintro; imodintro
  -- the call
  ihave Hh := (Entails.of_eq (show (held (T d) refs ((opT (F := F)).result ((opF (F := F)).result ((opC (F := F)).result (V0 m d)))) : sProp 𝕄) = _ from held_refs (F := F) d (V3 m d))) $$ Hheld
  icases Hh with ⟨Ha, Hi, Hc, Hf, Ht, Ho, Hz⟩
  ihave Hi' := (Entails.of_eq (show (iLoc d ↦{fullShare} V3 m d iR : sProp 𝕄) = iLoc d ↦{fullShare} ix m d by
    rw [V3_of_ne m d iR (by decide) (by decide) (by decide)]; rfl)) $$ Hi
  ihave Ho' := (Entails.of_eq (show (oLoc d ↦{fullShare} V3 m d oR : sProp 𝕄) = oLoc d ↦{fullShare} ov m d by
    rw [V3_of_ne m d oR (by decide) (by decide) (by decide)]; rfl)) $$ Ho
  iapply ((K (F := F)).wp_run (D (F := F)) 𝒱 (EH := EH) (P := P (tb m) (ix m) (ov m)) κ d 0) $$ [Hst Ha Hi' Hc Hf Ht Ho' Hz Hb Hts]
  isplitr; · iexact Hctx
  isplitl [Hst]; · iexact Hst
  isplitl [Hi' Ht Ho']
  · rw [st0_eq]
    isplitl [Hi']; · iexact Hi'
    isplitl [Ht]; · iexact Ht
    iexact Ho'
  iintro ⟨Hst, Hdn⟩
  ihave Hdn' := (Entails.of_eq (dn0_eq (tb m) (ix m) (ov m) d)) $$ Hdn
  icases Hdn' with ⟨Hi, Ht, Ho⟩
  iapply (wp_hlo_within 𝒱 (SparseCore.T d) none Set.univ (op := opZ) (S := refs) bufsZ (V := V4 m d)) $$ [Hb Ha Hi Hc Hf Ht Ho Hz]
  · isplitl [Hb]; · iexact Hb
    rw [held_refs, V4_o, V4_ne m d aR (by decide), V4_ne m d iR (by decide), V4_ne m d cR (by decide), V4_ne m d fR (by decide),
      V4_ne m d tR (by decide), V4_ne m d zR (by decide), V3_of_ne m d iR (by decide) (by decide) (by decide)]
    isplitl [Ha]; · iexact Ha
    isplitl [Hi]; · iexact Hi
    isplitl [Hc]; · iexact Hc
    isplitl [Hf]; · iexact Hf
    isplitl [Ht]; · iexact Ht
    isplitl [Ho]; · iexact Ho
    iexact Hz
  iintro ⟨Hb, Hheld⟩
  ihave Hh := (Entails.of_eq (held_refs (F := F) d _)) $$ Hheld
  icases Hh with ⟨Ha, Hi, -, -, -, -, Hz⟩
  ihave Ha' := (Entails.of_eq (show (aLoc d ↦{fullShare} (opZ (F := F)).result (V4 m d) aR : sProp 𝕄)
      = aLoc d ↦{fullShare} m (aLoc d) by
    rw [opZ_ne m d aR (by decide), V4_ne m d aR (by decide), V3_of_ne m d aR (by decide) (by decide) (by decide)])) $$ Ha
  ihave Hi' := (Entails.of_eq (show (iLoc d ↦{fullShare} (opZ (F := F)).result (V4 m d) iR : sProp 𝕄) = iLoc d ↦{fullShare} m (iLoc d) by
    rw [opZ_ne m d iR (by decide), V4_ne m d iR (by decide), V3_of_ne m d iR (by decide) (by decide) (by decide)])) $$ Hi
  ihave Hz' := (Entails.of_eq (show (zLoc d ↦{fullShare} (opZ (F := F)).result (V4 m d) zR : sProp 𝕄)
      = zLoc d ↦{fullShare} Zv m d by rw [opZ_z])) $$ Hz
  rw [wp_ret]; imodintro; imodintro
  isplitl [Hst]; · iexact Hst
  isplitr [Hb Hts]
  · isplitl [Ha']; · iexact Ha'
    isplitl [Hi']; · iexact Hi'
    iexact Hz'
  isplitl [Hb] <;> iassumption

/-- What the claims read of the final memory. -/
def fq (d : Dev nD) (s' : Phys nD τ sig (Elt F)) : Prop :=
  s'.mem.mem (zLoc d) = Zv m d
    ∧ s'.mem.mem (aLoc d) = m (aLoc d) ∧ s'.mem.mem (iLoc d) = m (iLoc d)

set_option maxRecDepth 16384 in
theorem hfin (d : Dev nD) (s' : Phys nD τ sig (Elt F)) : iprop(FIN m d ∗ SI s') ⊢ (⌜fq m d s'⌝ : sProp 𝕄) := by
  iintro ⟨⟨Ha, Hi, Hz⟩, HSI⟩
  ihave H := (persistent_entails_right (SI_pointsTo_agree (st := s') (ℓ := aLoc d) (I := Finset.univ) (q := fullShare)
    (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := zLoc d) (I := Finset.univ) (q := fullShare) (f := Zv m d)) $$ [HSI Hz]
  · isplitl [HSI] <;> iassumption
  icases H with %h3
  ipureintro
  exact ⟨funext fun i => h3 i (Finset.mem_univ i), funext fun i => h1 i (Finset.mem_univ i), funext fun i => h2 i (Finset.mem_univ i)⟩

/-- The final states: the result at the gathered rows, the arguments as they were, every semaphore at zero. -/
def QC : PUnit × MemSt nD τ sig (Elt F) → Prop := fun r =>
  (∀ c : Dev nD, r.2.mem (zLoc c) = Zv m c
    ∧ r.2.mem (aLoc c) = m (aLoc c) ∧ r.2.mem (iLoc c) = m (iLoc c)) ∧ r.2.sem = fun _ => 0

/-- Row numbers within the codebook. -/
def PreOK : Prop := ∀ (d : Dev nD) (j : S16384.Idx), (m (iLoc d) j).toNat < 8192

theorem run_main [∀ e, Nonempty (Elt F e)] (hpre : PreOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (tb m) (ix m) (ov m)) (A := ∅) facts v₀
    (fun q hq => match q with | 0 => nomatch hq)
    (fun q _ => match q with | 0 => tileObl (tb m) (ix m) (ov m) facts hpre)
    (fun q _ => match q with | 0 => SparseCore.Cfg.VecSplit.of_plain (vecSplit (tb m) (ix m) (ov m)))
    m ρ main (fun _ => iprop(emp)) (FIN m) (u₀ (F := F)) (sep_elim_left.trans (hu₀ m)) (hmain m ρ) (fq m) (hfin m) (QC m) (fun _ h hz => ⟨h, hz⟩)

end Cert.Proof.GatherTileIdeal

end
-- ==== Proof.GatherRead.lean ====
/-
  What the gathering program's result holds, read off its arguments: each row is the codebook's row of its row number.
-/
module

public import proofs.«01_k».proof.Proof.Words
public import proofs.«01_k».proof.Proof.GatherRunIdeal

@[expose] public section

noncomputable section

namespace Cert.Proof.GatherRead

open Cert.GatherIdeal Cert.GatherIdeal.Gen Cert.Proof.GatherTileIdeal
open Idealize.ShloMosaic Idealize.ShloMosaic.ValueIdx

variable {F : FTy → Type} [FloatOps F]

/-- A column below 32 of the padded codebook is the codebook's. -/
theorem padded_apply (x : S8192x32.Idx → Elt F .f32) (v : S_.Idx → Elt F .f32) (r : Fin 8192) (b : Fin 32) :
    pad S8192x128 ![0, 0] ![0, 96] ![0, 0] x v pads_S8192x32_S8192x128_000_0960 h_S_ (ix2 r ⟨b.val, by omega⟩) = x (ix2 r b) := by
  unfold pad
  rw [dif_pos]
  · congr 1; funext a; refine Fin.ext ?_
    match a with
    | ⟨0, _⟩ => simp [ix2]
    | ⟨1, _⟩ => simp [ix2]
  · intro a
    match a with
    | ⟨0, _⟩ => exact ⟨Nat.zero_le _, by simp [Nat.mod_one], by simpa [ix2] using r.isLt⟩
    | ⟨1, _⟩ => exact ⟨Nat.zero_le _, by simp [Nat.mod_one], by simpa [ix2] using b.isLt⟩

variable (m : (ℓ : Loc nD τ sig) → Buf (Elt F) ℓ)

theorem tb_eq (d : Dev nD) : ∃ v : S_.Idx → Elt F .f32,
    tb m d = (pad S8192x128 ![0, 0] ![0, 96] ![0, 0] (m (aLoc d) : S8192x32.Idx → Elt F .f32) v pads_S8192x32_S8192x128_000_0960 h_S_ : S8192x128.Idx → Elt F .f32) := by
  unfold tb V3
  refine ⟨(opF (F := F)).result ((opC (F := F)).result (V0 m d)) fR, ?_⟩
  refine Eq.trans (b := (pad S8192x128 ![0, 0] ![0, 96] ![0, 0] ((opF (F := F)).result ((opC (F := F)).result (V0 m d)) aR : S8192x32.Idx → Elt F .f32)
    ((opF (F := F)).result ((opC (F := F)).result (V0 m d)) fR : S_.Idx → Elt F .f32) pads_S8192x32_S8192x128_000_0960 h_S_ : S8192x128.Idx → Elt F .f32))
    (StableHlo.binary_result _ _ _ _ _ _ _ _) ?_
  refine congrArg (fun y : S8192x32.Idx → Elt F .f32 => pad S8192x128 ![0, 0] ![0, 96] ![0, 0] y
    ((opF (F := F)).result ((opC (F := F)).result (V0 m d)) fR : S_.Idx → Elt F .f32) pads_S8192x32_S8192x128_000_0960 h_S_) ?_
  show (opF (F := F)).result ((opC (F := F)).result (V0 m d)) aR = m (aLoc d)
  rw [(opF (F := F)).result_of_not_mem _ (show aR ∉ ({fR} : Finset (DevRef τ sig)) by decide),
    (opC (F := F)).result_of_not_mem _ (show aR ∉ ({cR} : Finset (DevRef τ sig)) by decide)]
  rfl

theorem Zv_apply (hpre : PreOK m) (d : Dev nD) (a : Fin 16384) (b : Fin 32) :
    (Zv m d : S16384x32.Idx → Elt F .f32) (ix2 a b)
      = (m (aLoc d) : S8192x32.Idx → Elt F .f32) (ix2 ⟨(m (iLoc d) (ix1 a) : BitVec 32).toNat, hpre d (ix1 a)⟩ b) := by
  obtain ⟨v, hv⟩ := tb_eq m d
  refine Eq.trans ?_ (padded_apply (m (aLoc d) : S8192x32.Idx → Elt F .f32) v _ b)
  rw [← hv]
  unfold Zv extractStridedSlice takenAt taken
  have hr : rowNo ((ix m d : S16384.Idx → BitVec 32) (ix1 a)) = ⟨(m (iLoc d) (ix1 a) : BitVec 32).toNat, hpre d (ix1 a)⟩ :=
    Fin.ext (Nat.mod_eq_of_lt (hpre d (ix1 a)))
  rw [← hr]
  congr 1
  funext k; refine Fin.ext ?_
  match k with
  | ⟨0, _⟩ =>
    show (rowNo ((ix m d : S16384.Idx → BitVec 32) _)).val = (rowNo ((ix m d : S16384.Idx → BitVec 32) (ix1 a))).val
    congr 3
    funext q; refine Fin.ext ?_
    match q with
    | ⟨0, _⟩ => exact Nat.zero_add _
  | ⟨1, _⟩ => exact Nat.zero_add _

end Cert.Proof.GatherRead

end
-- ==== Proof.TakeRead.lean ====
/-
  The reference's take: at row numbers within the codebook, each row of its result is the codebook's row of that number.
-/
module

public import proofs.«01_k».proof.Proof.Words
public import proofs.«01_k».proof.Proof.Gen.TakeIdeal
public import proofs.«01_k».proof.Proof.Gen.TakeIdeal.Run

@[expose] public section

noncomputable section

namespace Cert.Proof.TakeRead

open Cert.TakeIdeal Cert.TakeIdeal.Gen Idealize.ShloMosaic Idealize.SL.Sem Idealize.ShloMosaic.ValueIdx Idealize.ShloMosaic.TcCoe

variable {F : FTy → Type} [FloatOps F]

/-- The row numbers, a negative one counted from the end. -/
def wrapped (ix : IVec S16384 32) : IVec S16384 32 := select (cmpi .slt ix (broadcastInDim S16384 ![] bcast_S_S16384 (constantI S_ 32 0#32))) (addi ix (broadcastInDim S16384 ![] bcast_S_S16384 (constantI S_ 32 8192#32))) ix

/-- The row numbers as a column. -/
def column (ix : IVec S16384 32) : IVec S16384x1 32 := broadcastInDim S16384x1 ![0] bcast_S16384_S16384x1_0 (wrapped ix)

/-- Whether each row number lies in the codebook. -/
def inside (ix : IVec S16384 32) : IVec S16384x32 1 := broadcastInDim S16384x32 ![0] bcast_S16384_S16384x32_0 (Host.reduce IntOp.andi (andi (cmpi .sge (column ix) (broadcastInDim S16384x1 ![] bcast_S_S16384x1 (constantI S_ 32 0#32))) (cmpi .sle (column ix) (broadcastInDim S16384x1 ![0, 1] bcast_S1x1_S16384x1_0_1 (broadcastInDim S1x1 ![1] bcast_S1_S1x1_1 (constantI S1 32 8191#32))))) (constantI S_ 1 1#1) reducesTo_S16384x1_S16384_d1 h_S_)

/-- The reference's result as a function of the codebook and the row numbers. -/
def takeOf (x : FVec F S8192x32 .f32) (ix : IVec S16384 32) : FVec F S16384x32 .f32 :=
  select (inside ix) (Host.gather gather_S8192x32_S16384x1_S16384x32_1_0_n_n_0_1_132 x (column ix)) (broadcastInDim S16384x32 ![] bcast_S_S16384x32 (constant S_ .f32 0x7FC00000#32))

variable (ix : IVec S16384 32) (hix : ∀ j, (ix j).toNat < 8192)

include hix in
theorem wrapped_eq : wrapped ix = ix := by
  funext j
  show Scalar.select (IntOp.cmpi .slt (ix j) 0#32) _ _ = _
  rw [Words.slt_zero_of_lt _ (hix j), select_zero]

theorem column_apply (i : S16384x1.Idx) : column ix i = wrapped ix (ix1 (i 0)) := by
  unfold column broadcastInDim
  congr 1; funext a; refine Fin.ext ?_
  match a with
  | ⟨0, _⟩ => first | rfl | simp

include hix in
theorem inside_eq (j : S16384x32.Idx) : inside ix j = 1#1 := by
  unfold inside
  show Host.reduce IntOp.andi _ _ _ _ _ = 1#1
  refine (Words.reduce_andi _ (constantI S_ 1 1#1) _ _ (fun _ => rfl) _).mpr ?_
  intro i _
  show IntOp.andi (IntOp.cmpi .sge (column ix i) 0#32) (IntOp.cmpi .sle (column ix i) 8191#32) = 1#1
  rw [column_apply, wrapped_eq ix hix, Words.andi_one]
  exact ⟨Words.sge_zero_of_lt _ (hix _), Words.sle_last_of_lt _ (hix _)⟩

include hix in
/-- Each row of the reference's result is the codebook's row of its number. -/
theorem takeOf_apply (x : FVec F S8192x32 .f32) (a : Fin 16384) (b : Fin 32) :
    takeOf x ix (ix2 a b) = x (ix2 ⟨(ix (ix1 a)).toNat, hix _⟩ b) := by
  unfold takeOf
  show Scalar.select (inside ix (ix2 a b)) _ _ = _
  rw [inside_eq ix hix, select_one]
  refine (Words.gather_rows (N := 8192) (R := 16384) (C := 32) (by decide) gather_S8192x32_S16384x1_S16384x32_1_0_n_n_0_1_132_wf x (column ix) a b).trans ?_
  have h : column ix (ix2 a 0) = ix (ix1 a) := by rw [column_apply, wrapped_eq ix hix]
  congr 2
  refine Fin.ext ?_
  show min (column ix (ix2 a 0)).toInt.toNat (8192 - 1) = (ix (ix1 a)).toNat
  rw [h, Words.toInt_of_lt _ (hix _)]
  have := hix (ix1 a); omega

/-- The reference's run: its result at `takeOf` of its arguments, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = (takeOf (m ((c.tc : Thread nD τ).loc main_arg0)) (m ((c.tc : Thread nD τ).loc main_arg1)) : FVec F S16384x32 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.TakeIdeal.Value.run m ρ

end Cert.Proof.TakeRead

end
-- ==== Proof.KernelTile.lean ====
/-
  The row gather on the SparseCore: one vector subcore's task.

  Thirty-two vector subcores share the 16384 row numbers, 512 each. A task fetches its 512 row numbers into its index
  scratch, gathers the rows of the padded codebook which they name into its row scratch, and writes those rows to its own
  block of the result. This module sets up the names of the launch, says what a task is handed and hands back, and proves
  the task once, at any core and subcore. The contents of the three arrays stay variables, and the postcondition names the
  value left in the block: `taken`, the table read at the row numbers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.VecWindow
public import proofs.«01_k».proof.Proof.Gen.KernelIdeal
public import proofs.«01_k».proof.Proof.Gen.KernelIdeal.Skeleton

@[expose] public section

noncomputable section

namespace Cert.Proof.KernelTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's names -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The three arrays -/

/-- Where the padded codebook, the row numbers and the gathered rows lie. -/
abbrev tLoc (d : Dev nD) : Loc nD τ sig := (SparseCore.T d).loc main_v4
abbrev iLoc (d : Dev nD) : Loc nD τ sig := (SparseCore.T d).loc main_v3
abbrev oLoc (d : Dev nD) : Loc nD τ sig := (SparseCore.T d).loc main_v5

local notation "tM" => (Memref.whole main_v4_scv : Memref sig Kind.scVector Space.hbm S8192x128 EltTy.f32)
local notation "iM" => (Memref.whole main_v3_scv : Memref sig Kind.scVector Space.hbm S16384 EltTy.i32)
local notation "oM" => (Memref.whole main_v5_scv : Memref sig Kind.scVector Space.hbm S16384x128 EltTy.f32)
local notation "sM" => (Memref.whole cc1_scratch0 : Memref sig Kind.scVector Space.vmem S512 EltTy.i32)
local notation "rM" => (Memref.whole cc1_scratch1 : Memref sig Kind.scVector Space.vmem S512x128 EltTy.f32)

/-- The index of an entry of a table, from its row and its column. -/
def cell {r c : ℕ} (i : Fin r) (j : Fin c) : (⟨2, ![r, c]⟩ : Shape).Idx
  | 0 => i
  | 1 => j
  | ⟨_ + 2, h⟩ => absurd h (Nat.not_lt.2 (Nat.le_add_left _ _))

/-- The index of an entry of a list. -/
def item {n : ℕ} (i : Fin n) : (⟨1, ![n]⟩ : Shape).Idx
  | 0 => i
  | ⟨_ + 1, h⟩ => absurd h (Nat.not_lt.2 (Nat.le_add_left _ _))

/-- A row number as a row of the table (every row number met is below 8192, so the remainder is the number itself). -/
def rowNo (w : BitVec 32) : Fin 8192 := ⟨w.toNat % 8192, Nat.mod_lt _ (by decide)⟩

/-- The gathered rows: row `i` of the result is the table's row at row number `i`. -/
def taken (tb : S8192x128.Idx → Elt F .f32) (ix : S16384.Idx → Elt F .i32) : S16384x128.Idx → Elt F .f32 :=
  fun j => tb (cell (rowNo (ix (item (j 0)))) (j 1))

variable (tb : (d : Dev nD) → Buf (Elt F) (tLoc d)) (ix : (d : Dev nD) → Buf (Elt F) (iLoc d)) (ov : (d : Dev nD) → Buf (Elt F) (oLoc d))

abbrev takenAt (d : Dev nD) : Buf (Elt F) (oLoc d) := taken (F := F) (tb d) (ix d)

/-! ## The blocks of the tasks -/

theorem iDiv : 32 ∣ S16384.size 0 := ⟨512, rfl⟩
theorem oDiv : 32 ∣ S16384x128.size 0 := ⟨512, rfl⟩
abbrev iPart (i : Fin 32) : Rect S16384 := Rect.part (s := S16384) (a₀ := 0) iDiv i
abbrev oPart (i : Fin 32) : Rect S16384x128 := Rect.part (s := S16384x128) (a₀ := 0) oDiv i
abbrev iSet (i : Fin 32) : Finset S16384.Idx := ((iM).view.slice (iPart i)).set
abbrev oSet (i : Fin 32) : Finset S16384x128.Idx := ((oM).view.slice (oPart i)).set

/-- The share of the table which task `i` reads it under. -/
abbrev tq (i : Fin 32) : PosShare TreeShare := pieceOf fullShare 32 (by decide) i

/-- The block of the task on vector subcore `s` of SparseCore `c`. -/
def blk (c : Fin 2) (s : Fin 16) : Fin 32 := ⟨2 * s.val + c.val, by omega⟩

/-- What a task is handed: its row numbers, its share of the table, its block of the result. -/
abbrev goPts (d : Dev nD) (i : Fin 32) : sProp 𝕄 :=
  iprop((iLoc d ↦[iSet i]{fullShare} ix d) ∗ (tLoc d ↦{tq i} tb d) ∗ oLoc d ↦[oSet i]{fullShare} ov d)

/-- What it hands back: the same, its block at the gathered rows. -/
abbrev donePts (d : Dev nD) (i : Fin 32) : sProp 𝕄 :=
  iprop((iLoc d ↦[iSet i]{fullShare} ix d) ∗ (tLoc d ↦{tq i} tb d) ∗ oLoc d ↦[oSet i]{fullShare} takenAt tb ix d)

/-! ## The task -/

section Tile

variable (d : Dev nD) (L : grid1.Coords)

abbrev cV (L : grid1.Coords) : Fin τ.nSC := (L 0).castLE hcore1
abbrev jV (L : grid1.Coords) : Fin τ.nSub := (L 1).castLE hsub1
theorem bound_core : grid1.bound 0 = 2 := rfl
theorem bound_sub : grid1.bound 1 = 16 := rfl
abbrev bL (L : grid1.Coords) : Fin 32 := blk (Fin.cast bound_core (L 0)) (Fin.cast bound_sub (L 1))

abbrev iRectK (L : grid1.Coords) : Rect S16384 := Rect.unit (s := S16384) (k1_off1 L) S512.size (k1_off1_inb L)
abbrev oRectK (L : grid1.Coords) : Rect S16384x128 := Rect.unit (s := S16384x128) (k1_off2 L) S512x128.size (k1_off2_inb L)
abbrev iK (L : grid1.Coords) : Memref sig .scVector .hbm S512 .i32 := (iM).slice (iRectK L) (fun _ => rfl)
abbrev oK (L : grid1.Coords) : Memref sig .scVector .hbm S512x128 .f32 := (oM).slice (oRectK L) (fun _ => rfl)
abbrev tAll : Memref sig .scVector .hbm S8192x128 .f32 := (tM).slice (Rect.unit (s := S8192x128) ![0, 0] S8192x128.size inb_S8192x128_S8192x128_0_0) (fun _ => rfl)

theorem bL_val : (bL L).val = 2 * (L 1).val + (L 0).val := rfl

theorem iRectK_eq : iRectK L = iPart (bL L) := by
  unfold iRectK iPart Rect.part Rect.block
  congr 1 <;> funext a
  · rw [k1_off1_eq]
    match a with
    | 0 => simp only [Shape.partIx, Shape.partSize, ↓reduceIte, bL_val]; show _ = _ * 512; simp; omega
  · match a with
    | 0 => simp [Shape.partSize]
theorem oRectK_eq : oRectK L = oPart (bL L) := by
  unfold oRectK oPart Rect.part Rect.block
  congr 1 <;> funext a
  · rw [k1_off2_eq]
    match a with
    | 0 => simp only [Shape.partIx, Shape.partSize, ↓reduceIte, bL_val]; show _ = _ * 512; simp; omega
    | 1 => simp [Shape.partIx, Shape.partSize]
  · match a with
    | 0 => simp [Shape.partSize]
    | 1 => simp [Shape.partSize]

theorem set_iK : (iK L).view.set = iSet (bL L) := by
  show ((iM).view.slice (iRectK L)).set = ((iM).view.slice (iPart (bL L))).set
  exact iRectK_eq L ▸ rfl
theorem set_oK : (oK L).view.set = oSet (bL L) := by
  show ((oM).view.slice (oRectK L)).set = ((oM).view.slice (oPart (bL L))).set
  exact oRectK_eq L ▸ rfl

theorem pts_iK (f : Buf (Elt F) (iLoc d)) :
    ((iK L).view.loc (V d (cV L) (jV L)) ↦[(iK L).view.set]{fullShare} f : sProp 𝕄) = iLoc d ↦[iSet (bL L)]{fullShare} f := by
  rw [set_iK]
theorem pts_oK (f : Buf (Elt F) (oLoc d)) :
    ((oK L).view.loc (V d (cV L) (jV L)) ↦[(oK L).view.set]{fullShare} f : sProp 𝕄) = oLoc d ↦[oSet (bL L)]{fullShare} f := by
  rw [set_oK]
theorem pts_tM (q : PosShare TreeShare) (f : Buf (Elt F) (tLoc d)) :
    ((tM).view.loc (V d (cV L) (jV L)) ↦{q} f : sProp 𝕄) = tLoc d ↦{q} f := rfl
theorem pts_sM (f : Buf (Elt F) ((V d (cV L) (jV L)).loc cc1_scratch0)) :
    ((sM).view.loc (V d (cV L) (jV L)) ↦{fullShare} f : sProp 𝕄) = (V d (cV L) (jV L)).loc cc1_scratch0 ↦{fullShare} f := rfl
theorem pts_rM (f : Buf (Elt F) ((V d (cV L) (jV L)).loc cc1_scratch1)) :
    ((rM).view.loc (V d (cV L) (jV L)) ↦{fullShare} f : sProp 𝕄) = (V d (cV L) (jV L)).loc cc1_scratch1 ↦{fullShare} f := rfl

/-! ### The subcore's own semaphores and buffers -/

abbrev gCell (d : Dev nD) (c : Fin τ.nSC) (i : Fin τ.nSub) : GSem nD τ sig := (V d c i, .dma cc1_scratch2.sem)
abbrev aCell (d : Dev nD) (c : Fin τ.nSC) (i : Fin τ.nSub) : GSem nD τ sig := (V d c i, .dma cc1_scoped0.sem)
abbrev bCell (d : Dev nD) (c : Fin τ.nSC) (i : Fin τ.nSub) : GSem nD τ sig := (V d c i, .dma cc1_scoped1.sem)

theorem ownSems0_V :
    (ownSems0 (V d (cV L) (jV L)) : sProp 𝕄)
      = iprop(semVal (gCell d (cV L) (jV L)) 0 ∗ semVal (aCell d (cV L) (jV L)) 0 ∗ semVal (bCell d (cV L) (jV L)) 0
          ∗ bigSep ((((ownCells (V d (cV L) (jV L))).erase (gCell d (cV L) (jV L))).erase (aCell d (cV L) (jV L))).erase (bCell d (cV L) (jV L))) fun g => semVal g 0) := by
  unfold SparseCore.Cfg.ownSems0
  rw [SparseCore.bigSep_erase' ((mem_ownCells (g := gCell d (cV L) (jV L))).mpr ⟨rfl, by
      show (SemLoc.dma cc1_scratch2.sem : SemLoc sig).isScoped .scVector = true; decide⟩),
    SparseCore.bigSep_erase' (Finset.mem_erase.mpr ⟨by simp [gCell, aCell]; decide, (mem_ownCells (g := aCell d (cV L) (jV L))).mpr ⟨rfl, by
      show (SemLoc.dma cc1_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d (cV L) (jV L))).mpr ⟨rfl, by show (SemLoc.dma cc1_scoped1.sem : SemLoc sig).isScoped .scVector = true; decide⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ### What the transfers move -/

/-- A word of the task's row numbers as the task reads it. -/
theorem read_iK (f : Buf (Elt F) (iLoc d)) (j : S512.Idx) : (iK L).view.read (Elt F) f j = f ((iK L).view.emb j) :=
  (View.read_apply _ _).trans (cast_eq _ _)

/-- The row numbers which the gather reads from the index scratch name rows of the table. -/
theorem rows_inb (hix : ∀ d (j : S16384.Idx), (ix d j).toNat < 8192)
    (fs : Buf (Elt F) ((V d (cV L) (jV L)).loc cc1_scratch0)) (pay : S512.Idx → Elt F .i32) (hpay : pay = (iK L).view.read (Elt F) (ix d)) :
    ∀ x, ((sM).view.read (Elt F) (View.write (Elt F) (sM).view fs pay Finset.univ) x).toNat < S8192x128.size gathers_S8192x128_S512x128.axis := by
  subst hpay; intro x
  rw [View.write_whole_univ]
  simp only [Memref.view_whole, View.read_whole]
  rw [read_iK]
  exact hix d _

/-- Entry `k` of the row numbers of the task, as an entry of the whole list. -/
theorem emb_iK (j : S512.Idx) : ((iK L).view.emb j 0).val = 1024 * (L 1).val + 512 * (L 0).val + (j 0).val := by
  have h : ((iK L).view.emb j 0).val = (k1_off1 L) 0 + 1 * (j 0).val := rfl
  rw [h, k1_off1_eq]
  simp
theorem emb_oK_row (x : S512x128.Idx) : ((oK L).view.emb x 0).val = 1024 * (L 1).val + 512 * (L 0).val + (x 0).val := by
  have h : ((oK L).view.emb x 0).val = (k1_off2 L) 0 + 1 * (x 0).val := rfl
  rw [h, k1_off2_eq]
  simp
theorem emb_oK_col (x : S512x128.Idx) : ((oK L).view.emb x 1).val = (x 1).val := by
  have h : ((oK L).view.emb x 1).val = (k1_off2 L) 1 + 1 * (x 1).val := rfl
  rw [h, k1_off2_eq]
  simp

theorem rowMajor_symm_S512 (k : Fin S512.numel) : ((S512.rowMajor.symm k) 0).val = k.val := by
  have h := Shape.rowMajor_val_one (d := ![512]) (S512.rowMajor.symm k)
  rw [← h]
  exact congrArg Fin.val (S512.rowMajor.apply_symm_apply k)

/-- The gathered payload at an entry of the row scratch is the entry of the result which the task writes there. -/
theorem gathered_eq (hix : ∀ d (j : S16384.Idx), (ix d j).toNat < 8192)
    (idx : S512.Idx → Elt F .i32) (hidx : idx = (iK L).view.read (Elt F) (ix d)) (hn : S512.numel = S512x128.size gathers_S8192x128_S512x128.axis')
    (hin : ∀ x, (idx x).toNat < S8192x128.size gathers_S8192x128_S512x128.axis) (x : S512x128.Idx) :
    SparseCore.gatherPayload gathers_S8192x128_S512x128 ((tAll).view.read (Elt F) (tb d)) (SparseCore.rows idx hn hin) x
      = takenAt tb ix d ((oK L).view.emb x) := by
  subst hidx
  unfold SparseCore.gatherPayload takenAt taken
  rw [show ∀ j, (tAll).view.read (Elt F) (tb d) j = tb d ((tAll).view.emb j) from fun j => (View.read_apply _ _).trans (cast_eq _ _)]
  congr 1
  funext a
  apply Fin.ext
  match a with
  | 0 =>
    have h1 : ∀ y : S8192x128.Idx, ((tAll).view.emb y 0).val = (y 0).val := fun y => by
      show 0 + 1 * (y 0).val = _; omega
    rw [h1]
    have h2 := Shape.Gathers.idx_axis gathers_S8192x128_S512x128 (SparseCore.rows ((iK L).view.read (Elt F) (ix d)) hn hin) x
    refine (congrArg Fin.val h2).trans ?_
    unfold SparseCore.rows
    show ((iK L).view.read (Elt F) (ix d) _).toNat = (ix d (item ((oK L).view.emb x 0))).toNat % 8192
    rw [read_iK, Nat.mod_eq_of_lt (hix d _)]
    congr 2
    funext b
    match b with
    | 0 =>
      apply Fin.ext
      rw [emb_iK, rowMajor_symm_S512]
      show _ = ((oK L).view.emb x 0).val
      rw [emb_oK_row]
      rfl
  | 1 =>
    have h1 : ∀ y : S8192x128.Idx, ((tAll).view.emb y 1).val = (y 1).val := fun y => by
      show 0 + 1 * (y 1).val = _; omega
    rw [h1, Shape.Gathers.idx_of_ne gathers_S8192x128_S512x128 _ x 1 (by decide)]
    show _ = ((oK L).view.emb x 1).val
    rw [emb_oK_col]
    rfl

/-- The task's block, written with the gathered rows, holds the result's rows. -/
theorem block_written (hix : ∀ d (j : S16384.Idx), (ix d j).toNat < 8192)
    (idx : S512.Idx → Elt F .i32) (hidx : idx = (iK L).view.read (Elt F) (ix d)) (hn : S512.numel = S512x128.size gathers_S8192x128_S512x128.axis')
    (hin : ∀ x, (idx x).toNat < S8192x128.size gathers_S8192x128_S512x128.axis)
    (pay : S512x128.Idx → Elt F .f32)
    (hpay : pay = SparseCore.gatherPayload gathers_S8192x128_S512x128 ((tAll).view.read (Elt F) (tb d)) (SparseCore.rows idx hn hin)) :
    ((oK L).view.loc (V d (cV L) (jV L)) ↦[(oK L).view.set]{fullShare} (oK L).view.writes (Elt F) (ov d) [⟨Rect.whole S512x128, pay⟩] : sProp 𝕄)
      = oLoc d ↦[oSet (bL L)]{fullShare} takenAt tb ix d := by
  rw [← pts_oK (F := F) d L]
  refine pointsTo_congr fun j hj => ?_
  obtain ⟨x, -, rfl⟩ := Finset.mem_map.mp hj
  have h1 : (oK L).view.read (Elt F) ((oK L).view.writes (Elt F) (ov d) [⟨Rect.whole S512x128, pay⟩]) x = pay x :=
    congrFun (View.read_writes_full (oK L).view (ov d) (off := fun _ => 0) (fun a => by omega) pay []) x
  rw [View.read_apply] at h1
  refine ((cast_eq _ _).symm.trans h1).trans ?_
  rw [hpay]
  exact gathered_eq tb ix d L hix idx hidx hn hin x

variable [FloatOps F]

set_option maxHeartbeats 4000000 in
/-- The task: the fetch of its row numbers, the gather of the rows they name, the write to its block. -/
theorem tile_body (hF : (K (F := F)).Facts) (hix : ∀ d (j : S16384.Idx), (ix d j).toNat < 8192)
    (O : CellTallies nD τ sig (HIx 1)) (W : Waits sig (HIx 1)) (hO : ∀ g, O g none = 0) :
    iprop(levAts (K (F := F)).L (K (F := F)).lev ∗ emp
        ∗ goPts tb ix ov d (bL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather L tM (Memref.isWhole_whole _) iM (Memref.isWhole_whole _) oM (Memref.isWhole_whole _)
            sM (Memref.isWhole_whole _) rM (Memref.isWhole_whole _) cc1_scratch2 cc1_scoped0 cc1_scoped1)
          fun _ => iprop(donePts tb ix d (bL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_eq_skeleton]; unfold cc1_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Ht' := (Entails.of_eq (pts_tM (F := F) d L _ _).symm) $$ Ht
  ihave Hs' := (Entails.of_eq (pts_sM (F := F) d L _).symm) $$ Hs
  ihave Hr' := (Entails.of_eq (pts_rM (F := F) d L _).symm) $$ Hr
  sl_exec
  -- the gather of the rows
  ihave Hts := (pointsTo_split_subset (q := tq (bL L)) (f := tb d) (S := Finset.univ) (Finset.subset_univ (tAll).view.set)).1 $$ Ht'
  icases Hts with ⟨Hts, Htr⟩
  have hrs : (rM).view.set = Finset.univ := View.set_whole _
  have hss : (sM).view.set = Finset.univ := View.set_whole _
  ihave Hr'' := (Entails.of_eq (show ((rM).view.loc (V d (cV L) (jV L)) ↦{fullShare} fr : sProp 𝕄)
      = (rM).view.loc (V d (cV L) (jV L)) ↦[(rM).view.set]{fullShare} fr by rw [hrs])) $$ Hr'
  ihave Hs'' := (Entails.of_eq (show ((sM).view.loc (V d (cV L) (jV L)) ↦{fullShare} View.write (Elt F) (sM).view fs (tile_body.sl.dma0 ix d L) Finset.univ : sProp 𝕄)
      = (sM).view.loc (V d (cV L) (jV L)) ↦[(sM).view.set]{fullShare} View.write (Elt F) (sM).view fs (tile_body.sl.dma0 ix d L) Finset.univ
      by rw [hss])) $$ Hs'
  have hN : ∀ h : S8192x128.Gathers 0 S512x128, ∑ j, ((rM).slice (S512x128.rowRect h.axis' j) (S512x128.stride_rowRect h.axis' j)).view.dmaCredit
      = (rM).view.dmaCredit := fun h => SparseCore.sum_rowCredit_eq_dmaCredit (rM) h.axis' (fun _ => rfl)
  have hin := rows_inb ix d L hix fs (tile_body.sl.dma0 ix d L) rfl
  iapply (SparseCore.wp_indirectGatherLocal countersEmb 𝒱₀ (V d (cV L) (jV L)) none (hg := gathers_S8192x128_S512x128) (default : HIx 1)
      (rM).view.dmaCredit (hN _) (by decide) hin) $$ [Hts Hr'' Hs'' HsemG]
  · isplitl [Hts]; · iexact Hts
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rM).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hts, Hs'⟩, HsemG, HO⟩
  ihave Ht' := (pointsTo_split_subset (q := tq (bL L)) (f := tb d) (S := Finset.univ) (Finset.subset_univ (tAll).view.set)).2 $$ [Hts Htr]; · isplitl [Hts] <;> iassumption
  ihave Hr3 := (Entails.of_eq (show ((rM).view.loc (V d (cV L) (jV L)) ↦[(rM).view.set]{fullShare} _ : sProp 𝕄)
      = (rM).view.loc (V d (cV L) (jV L)) ↦{fullShare} _ by rw [hrs])) $$ Hr'
  ihave Hs3 := (Entails.of_eq (show ((sM).view.loc (V d (cV L) (jV L)) ↦[(sM).view.set]{fullShare} _ : sProp 𝕄)
      = (sM).view.loc (V d (cV L) (jV L)) ↦{fullShare} _ by rw [hss])) $$ Hs'
  sl_exec
  sl_step
  isplitl [Hi' Ht' Ho']
  · isplitl [Hi']; · iapply (Entails.of_eq (pts_iK (F := F) d L _)); iexact Hi'
    isplitl [Ht']; · iexact Ht'
    iapply (Entails.of_eq (block_written tb ix ov d L hix _ (by rw [View.write_whole_univ]; rfl) rfl hin (tile_body.sl.dma0_1 tb ix d L fs fr hin)
      (by unfold tile_body.sl.dma0_1; rw [View.write_whole_univ (cc1_scratch1)]; rfl)))
    iexact Ho'
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernelTile

end
-- ==== Proof.KernelBodies.lean ====
/-
  The two TensorCore bodies of the kernel: what one run of each leaves in its staging buffers.

  The first computes, for 256 flattened vectors and the transposed codebook, the number of the nearest codebook row of each
  vector. The second, for all the vectors and the gathered rows, computes the straight-through value and the sum of the
  squared differences. Both are stated over what their buffers read.
-/
module

public import proofs.«01_k».proof.Proof.KernelTile

@[expose] public section

noncomputable section

namespace Cert.Proof.KernelTile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The row numbers which the first body stores for the 256 vectors `x`, given the transposed codebook `e`. -/
def nearest (x : FVec F S256x32 .f32) (e : FVec F S32x8192 .f32) : IVec S256 32 :=
  k0_pay1 (k0_pay2 x) (k0_pay3 e) (k0_pay4 x) (k0_pay5 x) (k0_pay6 x)

theorem argmin_run (c : Dev nD) (i : grid0.Coords) (M1 : Memref sig .tc .vmem S256x32 .f32) (h1 : M1.IsWhole)
    (M2 : Memref sig .tc .vmem S32x8192 .f32) (h2 : M2.IsWhole) (M3 : Memref sig .tc .vmem S256 .i32) (h3 : M3.IsWhole)
    (f1 : Buf (Elt F) (M1.view.loc (c : Thread nD τ))) (f2 : Buf (Elt F) (M2.view.loc (c : Thread nD τ))) (f3 : Buf (Elt F) (M3.view.loc (c : Thread nD τ)))
    (Q : PUnit → sProp 𝕄) :
    iprop((M1.view.loc (c : Thread nD τ) ↦[M1.view.set]{fullShare} f1) ∗ (M2.view.loc (c : Thread nD τ) ↦[M2.view.set]{fullShare} f2)
        ∗ (M3.view.loc (c : Thread nD τ) ↦[M3.view.set]{fullShare} f3)
        ∗ (iprop((M1.view.loc (c : Thread nD τ) ↦[M1.view.set]{fullShare} f1) ∗ (M2.view.loc (c : Thread nD τ) ↦[M2.view.set]{fullShare} f2)
            ∗ ∃ f, ⌜M3.view.read (Elt F) f = nearest (M1.view.read (Elt F) f1) (M2.view.read (Elt F) f2)⌝
                ∗ (M3.view.loc (c : Thread nD τ) ↦[M3.view.set]{fullShare} f)) -∗ Q ⟨⟩))
    ⊢ wp frame (wpE (defs₀ (F := F)) Variants.none (c : Thread nD τ) none) Set.univ
        (cc0__argmin_body i M1 h1 M2 h2 M3 h3) Q := by
  rw [cc0__argmin_body_eq_skeleton]; unfold cc0__argmin_body_skel
  rw [k0_part1_eq_skeleton]; unfold k0_part1_skel
  iintro ⟨H1, H2, H3, Hk⟩
  sl_exec
  sl_step
  iapply Hk
  isplitl [H1]; · iexact H1
  isplitl [H2]; · iexact H2
  iexists _
  isplitr; swap; (· iexact H3)
  ipureintro
  rw [View.read_writes_full, View.readAt_full, View.readAt_full]
  rfl

/-- The straight-through values, and the one sum of squares, which the second body stores. -/
def through (x q : FVec F S16384x32 .f32) : FVec F S16384x32 .f32 := k2_pay3 x q
def sumSq (x q : FVec F S16384x32 .f32) : FVec F S1x1 .f32 := k2_pay4 x q

theorem loss_run (c : Dev nD) (M0 : Memref sig .tc .vmem S16384x32 .f32) (h0 : M0.IsWhole)
    (M1 : Memref sig .tc .vmem S16384x32 .f32) (h1 : M1.IsWhole) (M2 : Memref sig .tc .vmem S16384x32 .f32) (h2 : M2.IsWhole)
    (M3 : Memref sig .tc .vmem S1x1 .f32) (h3 : M3.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ)))
    (Q : PUnit → sProp 𝕄) :
    iprop((M0.view.loc (c : Thread nD τ) ↦[M0.view.set]{fullShare} f0) ∗ (M1.view.loc (c : Thread nD τ) ↦[M1.view.set]{fullShare} f1)
        ∗ (M2.view.loc (c : Thread nD τ) ↦[M2.view.set]{fullShare} f2) ∗ (M3.view.loc (c : Thread nD τ) ↦[M3.view.set]{fullShare} f3)
        ∗ (iprop((M0.view.loc (c : Thread nD τ) ↦[M0.view.set]{fullShare} f0) ∗ (M1.view.loc (c : Thread nD τ) ↦[M1.view.set]{fullShare} f1)
            ∗ (∃ f, ⌜M2.view.read (Elt F) f = through (M0.view.read (Elt F) f0) (M1.view.read (Elt F) f1)⌝
                ∗ (M2.view.loc (c : Thread nD τ) ↦[M2.view.set]{fullShare} f))
            ∗ ∃ f, ⌜M3.view.read (Elt F) f = sumSq (M0.view.read (Elt F) f0) (M1.view.read (Elt F) f1)⌝
                ∗ (M3.view.loc (c : Thread nD τ) ↦[M3.view.set]{fullShare} f)) -∗ Q ⟨⟩))
    ⊢ wp frame (wpE (defs₀ (F := F)) Variants.none (c : Thread nD τ) none) Set.univ
        (cc2__st_loss_body M0 h0 M1 h1 M2 h2 M3 h3) Q := by
  rw [cc2__st_loss_body_eq_skeleton]; unfold cc2__st_loss_body_skel
  iintro ⟨H0, H1, H2, H3, Hk⟩
  sl_exec
  sl_step
  iapply Hk
  isplitl [H0]; · iexact H0
  isplitl [H1]; · iexact H1
  isplitl [H2]
  · iexists _
    isplitr; swap; (· iexact H2)
    ipureintro
    rw [View.read_writes_full, View.readAt_full, View.readAt_full]
    rfl
  iexists _
  isplitr; swap; (· iexact H3)
  ipureintro
  rw [View.read_writes_full, View.readAt_full, View.readAt_full]
  rfl

end Cert.Proof.KernelTile

end
-- ==== Proof.KernelDats.lean ====
/-
  The two TensorCore calls of the kernel as pipelines: what every array and every staging buffer holds at each point of
  the grid, the obligation of the body at a point, and the call as a region of the program.

  The program's contents at the call's entry are a variable `V`. The first call runs over 64 points, the second at one. What
  the TensorCore owes the SparseCore's call, and how far its recorded waits reach, pass through unchanged.
-/
module

public import proofs.«01_k».proof.Proof.KernelBodies
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody

@[expose] public section

noncomputable section

namespace Cert.Proof.KernelTile

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat BodyObligation afterRegion arrRef arrRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (V : Dev nD → Valuation τ sig (Elt F)) (O : Dev nD → CellTallies nD τ sig (HIx 1)) (b : ℕ)

/-- The pairs the core may have recorded before a call: those at or below level `b`. -/
abbrev below (c : Dev nD) : Set (SemLoc sig × HIx 1) := {p | (K (F := F)).lev (T c, p.1) p.2 ≤ b}

/-! ## The first call: the nearest row of each vector -/

/-- The 256 vectors of point `t`, and the transposed codebook. -/
def rows0 (c : Dev nD) (t : Fin cfg0.N) : FVec F S256x32 .f32 :=
  ((cfg0.win 0).blk t).view.read (Elt F) (V c (Proc.devRef .tc (arrRef spec0 0)))
def book0 (c : Dev nD) (t : Fin cfg0.N) : FVec F S32x8192 .f32 :=
  ((cfg0.win 1).blk t).view.read (Elt F) (V c (Proc.devRef .tc (arrRef spec0 1)))

def dat0 (c : Dev nD) : Dat τ (Elt F) (HIx 1) ℕ UU ℕ cfg0 c where
  A w := V c (Proc.devRef .tc (arrRef spec0 w))
  after w t := match w with
    | ⟨0, _⟩ => rows0 V c t
    | ⟨1, _⟩ => book0 V c t
    | ⟨2, _⟩ => nearest (rows0 V c t) (book0 V c t)
    | ⟨_ + 3, h⟩ => absurd h (Nat.not_lt.2 (Nat.le_add_left _ _))
  Φ _ := Pipeline.scopedRest (Ix := HIx 1) (Name := ℕ) (U := UU) (Lvl := ℕ) (Val := Elt F) spec0 c
  q _ := fullShare
  owed _ := O c
  recorded _ := below (F := F) b c

theorem before0_0 (c : Dev nD) (t : Fin cfg0.N) (d : (cfg0.win 0).block.Idx → Elt F (cfg0.win 0).elt) :
    (dat0 V O b c).before 0 t d = rows0 V c t :=
  (Dat.before_in_eq_fetched (dat0 V O b c) 0 rfl (fun _ => rfl) (fun _ _ _ => rfl) (fun _ => rfl) t d).trans rfl
theorem before0_1 (c : Dev nD) (t : Fin cfg0.N) (d : (cfg0.win 1).block.Idx → Elt F (cfg0.win 1).elt) :
    (dat0 V O b c).before 1 t d = book0 V c t :=
  (Dat.before_in_eq_fetched (dat0 V O b c) 1 rfl (fun _ => rfl) (fun _ _ _ => rfl) (fun _ => rfl) t d).trans rfl

theorem after0_0 (c : Dev nD) (t : Fin cfg0.N) : (dat0 V O b c).after 0 t = rows0 V c t := by dsimp only [dat0]
theorem after0_1 (c : Dev nD) (t : Fin cfg0.N) : (dat0 V O b c).after 1 t = book0 V c t := by dsimp only [dat0]
theorem after0_2 (c : Dev nD) (t : Fin cfg0.N) : (dat0 V O b c).after 2 t = nearest (rows0 V c t) (book0 V c t) := by dsimp only [dat0]
theorem inv0 (c : Dev nD) (t : Fin (cfg0.N + 1)) :
    (dat0 V O b c).Φ t = Pipeline.scopedRest (Ix := HIx 1) (Name := ℕ) (U := UU) (Lvl := ℕ) (Val := Elt F) spec0 c := by
  dsimp only [dat0]
theorem owes0 (c : Dev nD) (t : Fin (cfg0.N + 1)) :
    (dat0 V O b c).owesAt none t
      = iprop(∃ W : Waits sig (HIx 1), ⌜(↑W : Set (SemLoc sig × HIx 1)) ⊆ below (F := F) b c ∪ cfg0.waitPairs none⌝ ∗ owes c.tc (O c) W) := by
  unfold Dat.owesAt Pipeline.owesWithin Dat.bound; dsimp only [dat0]

theorem obl0 (c : Dev nD) : BodyObligation (dat0 V O b c) (defs₀ (F := F)) 𝒱₀ none Set.univ := fun t => by
  rw [bigSep_W0, bigSep_W0]
  show iprop((dat0 V O b c).Φ t.castSucc ∗ (dat0 V O b c).owesAt none t.castSucc
      ∗ (∃ d, owns c.tc (st0_0 t) fullShare ((dat0 V O b c).before 0 t d))
      ∗ (∃ d, owns c.tc (st0_1 t) fullShare ((dat0 V O b c).before 1 t d))
      ∗ (∃ d, owns c.tc (st0_2 t) fullShare ((dat0 V O b c).before 2 t d)))
    ⊢ wp Idealize.ShloMosaic.frame (wpE (defs₀ (F := F)) 𝒱₀ c.tc none) Set.univ (bodyAt0 t) fun _ =>
      iprop((dat0 V O b c).Φ t.succ ∗ (dat0 V O b c).owesAt none t.succ ∗ owns c.tc (st0_0 t) fullShare ((dat0 V O b c).after 0 t)
        ∗ owns c.tc (st0_1 t) fullShare ((dat0 V O b c).after 1 t) ∗ owns c.tc (st0_2 t) fullShare ((dat0 V O b c).after 2 t))
  simp only [before0_0, before0_1]
  rw [inv0, inv0, owes0, owes0, after0_0, after0_1, after0_2]
  unfold owns
  iintro ⟨HΦ, HO, ⟨%d0, %f0, %hf0, H0⟩, ⟨%d1, %f1, %hf1, H1⟩, ⟨%d2, %f2, -, H2⟩⟩
  iapply (argmin_run c (grid0.coords t) (st0_0 t) _ (st0_1 t) _ (st0_2 t) _ f0 f1 f2)
  isplitl [H0]; · iexact H0
  isplitl [H1]; · iexact H1
  isplitl [H2]; · iexact H2
  iintro ⟨H0, H1, ⟨%f, %hf, H2⟩⟩
  isplitl [HΦ]; · iexact HΦ
  isplitl [HO]; · iexact HO
  isplitl [H0]
  · iexists f0; isplitr; · ipureintro; exact hf0
    iexact H0
  isplitl [H1]
  · iexists f1; isplitr; · ipureintro; exact hf1
    iexact H1
  iexists f; isplitr; · ipureintro; rw [hf, hf0, hf1]
  iexact H2

/-! ## The second call: straight-through values and the sum of squares -/

/-- All the vectors, and all the gathered rows. -/
def rows2 (c : Dev nD) (t : Fin cfg2.N) : FVec F S16384x32 .f32 :=
  ((cfg2.win 0).blk t).view.read (Elt F) (V c (Proc.devRef .tc (arrRef spec2 0)))
def near2 (c : Dev nD) (t : Fin cfg2.N) : FVec F S16384x32 .f32 :=
  ((cfg2.win 1).blk t).view.read (Elt F) (V c (Proc.devRef .tc (arrRef spec2 1)))

def dat2 (c : Dev nD) : Dat τ (Elt F) (HIx 1) ℕ UU ℕ cfg2 c where
  A w := V c (Proc.devRef .tc (arrRef spec2 w))
  after w t := match w with
    | ⟨0, _⟩ => rows2 V c t
    | ⟨1, _⟩ => near2 V c t
    | ⟨2, _⟩ => through (rows2 V c t) (near2 V c t)
    | ⟨3, _⟩ => sumSq (rows2 V c t) (near2 V c t)
    | ⟨_ + 4, h⟩ => absurd h (Nat.not_lt.2 (Nat.le_add_left _ _))
  Φ _ := Pipeline.scopedRest (Ix := HIx 1) (Name := ℕ) (U := UU) (Lvl := ℕ) (Val := Elt F) spec2 c
  q _ := fullShare
  owed _ := O c
  recorded _ := below (F := F) b c

theorem before2_0 (c : Dev nD) (t : Fin cfg2.N) (d : (cfg2.win 0).block.Idx → Elt F (cfg2.win 0).elt) :
    (dat2 V O b c).before 0 t d = rows2 V c t :=
  (Dat.before_in_eq_fetched (dat2 V O b c) 0 rfl (fun _ => rfl) (fun _ _ _ => rfl) (fun _ => rfl) t d).trans rfl
theorem before2_1 (c : Dev nD) (t : Fin cfg2.N) (d : (cfg2.win 1).block.Idx → Elt F (cfg2.win 1).elt) :
    (dat2 V O b c).before 1 t d = near2 V c t :=
  (Dat.before_in_eq_fetched (dat2 V O b c) 1 rfl (fun _ => rfl) (fun _ _ _ => rfl) (fun _ => rfl) t d).trans rfl

theorem after2_0 (c : Dev nD) (t : Fin cfg2.N) : (dat2 V O b c).after 0 t = rows2 V c t := by dsimp only [dat2]
theorem after2_1 (c : Dev nD) (t : Fin cfg2.N) : (dat2 V O b c).after 1 t = near2 V c t := by dsimp only [dat2]
theorem after2_2 (c : Dev nD) (t : Fin cfg2.N) : (dat2 V O b c).after 2 t = through (rows2 V c t) (near2 V c t) := by dsimp only [dat2]
theorem after2_3 (c : Dev nD) (t : Fin cfg2.N) : (dat2 V O b c).after 3 t = sumSq (rows2 V c t) (near2 V c t) := by dsimp only [dat2]
theorem inv2 (c : Dev nD) (t : Fin (cfg2.N + 1)) :
    (dat2 V O b c).Φ t = Pipeline.scopedRest (Ix := HIx 1) (Name := ℕ) (U := UU) (Lvl := ℕ) (Val := Elt F) spec2 c := by
  dsimp only [dat2]
theorem owes2 (c : Dev nD) (t : Fin (cfg2.N + 1)) :
    (dat2 V O b c).owesAt none t
      = iprop(∃ W : Waits sig (HIx 1), ⌜(↑W : Set (SemLoc sig × HIx 1)) ⊆ below (F := F) b c ∪ cfg2.waitPairs none⌝ ∗ owes c.tc (O c) W) := by
  unfold Dat.owesAt Pipeline.owesWithin Dat.bound; dsimp only [dat2]

theorem obl2 (c : Dev nD) : BodyObligation (dat2 V O b c) (defs₀ (F := F)) 𝒱₀ none Set.univ := fun t => by
  rw [bigSep_W2, bigSep_W2]
  show iprop((dat2 V O b c).Φ t.castSucc ∗ (dat2 V O b c).owesAt none t.castSucc
      ∗ (∃ d, owns c.tc (st2_0 t) fullShare ((dat2 V O b c).before 0 t d))
      ∗ (∃ d, owns c.tc (st2_1 t) fullShare ((dat2 V O b c).before 1 t d))
      ∗ (∃ d, owns c.tc (st2_2 t) fullShare ((dat2 V O b c).before 2 t d))
      ∗ (∃ d, owns c.tc (st2_3 t) fullShare ((dat2 V O b c).before 3 t d)))
    ⊢ wp Idealize.ShloMosaic.frame (wpE (defs₀ (F := F)) 𝒱₀ c.tc none) Set.univ (bodyAt2 t) fun _ =>
      iprop((dat2 V O b c).Φ t.succ ∗ (dat2 V O b c).owesAt none t.succ ∗ owns c.tc (st2_0 t) fullShare (rows2 V c t)
        ∗ owns c.tc (st2_1 t) fullShare (near2 V c t) ∗ owns c.tc (st2_2 t) fullShare (through (rows2 V c t) (near2 V c t))
        ∗ owns c.tc (st2_3 t) fullShare (sumSq (rows2 V c t) (near2 V c t)))
  simp only [before2_0, before2_1]
  rw [inv2, inv2, owes2, owes2]
  unfold owns
  iintro ⟨HΦ, HO, ⟨%d0, %f0, %hf0, H0⟩, ⟨%d1, %f1, %hf1, H1⟩, ⟨%d2, %f2, -, H2⟩, ⟨%d3, %f3, -, H3⟩⟩
  iapply (loss_run c (st2_0 t) _ (st2_1 t) _ (st2_2 t) _ (st2_3 t) _ f0 f1 f2 f3)
  isplitl [H0]; · iexact H0
  isplitl [H1]; · iexact H1
  isplitl [H2]; · iexact H2
  isplitl [H3]; · iexact H3
  iintro ⟨H0, H1, ⟨%g2, %hg2, H2⟩, ⟨%g3, %hg3, H3⟩⟩
  isplitl [HΦ]; · iexact HΦ
  isplitl [HO]; · iexact HO
  isplitl [H0]
  · iexists f0; isplitr; · ipureintro; exact hf0
    iexact H0
  isplitl [H1]
  · iexists f1; isplitr; · ipureintro; exact hf1
    iexact H1
  isplitl [H2]
  · iexists g2; isplitr; · ipureintro; rw [hg2, hf0, hf1]
    iexact H2
  iexists g3; isplitr; · ipureintro; rw [hg3, hf0, hf1]
  iexact H3

/-! ## The calls as regions -/

/-- The prefetched tables' admissible contents: no table. -/
abbrev adm : (p : Fin 2) → (pcfgs (F := F) p).Adm := fun p => (cfgs p).toPCfg_adm

/-- The data of both pipelines, each at the contents its call finds. -/
def dats (V' : Dev nD → Valuation τ sig (Elt F)) : (p : Fin 2) → (c : Dev nD) → Dat τ (Elt F) (HIx 1) ℕ UU ℕ (Pipeline.pin (pcfgs (F := F)) adm p) c
  | 0 => fun c => dat0 V O b c
  | 1 => fun c => dat2 V' O b c

set_option backward.isDefEq.respectTransparency.types false in
theorem held0 (c : Dev nD) (n : ℕ) (Wc : Valuation τ sig (Elt F))
    (hG : ∀ w, (dat0 V O b c).arrAt w n = Wc (Proc.devRef .tc (arrRef spec0 w))) :
    ((dat0 V O b c).arrays ((dat0 V O b c).arrAt · n) : sProp 𝕄) = StableHlo.held c.tc (arrRefs spec0) Wc :=
  Pipeline.arrays_held (pcfgs (F := F)) adm (dats V O b V) 0 launch0.toP c ((dat0 V O b c).share_full fun _ => rfl) _ Wc hG

/-- The pairs recorded by the call's own waits sit at level zero. -/
theorem below0 (c : Dev nD) (W : Waits sig (HIx 1)) (h : (↑W : Set (SemLoc sig × HIx 1)) ⊆ below (F := F) b c ∪ cfg0.waitPairs none) :
    (K (F := F)).WBelow (T c) W b := fun p hp => by
  rcases h hp with h | ⟨w, s, rfl⟩
  · exact h
  · exact Nat.zero_le _

set_option backward.isDefEq.respectTransparency.types false in
/-- The call as a region: entered with its arrays at `V`, left with them at what the call leaves. -/
def reg0 (V' : Dev nD → Valuation τ sig (Elt F)) (hO : ∀ c g i, 0 < O c g i → b < (K (F := F)).lev g i) :
    Pipeline.RegionSeg (pcfgs (F := F)) adm (dats V O b V') none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obl0 V O b c).loose
  hwaits c := Pipeline.cellsWaits_of_cut (Pipeline.pin (pcfgs (F := F)) adm) (dats V O b V') none 0 c b (O c) (fun _ => rfl)
    (fun _ _ => Finset.mem_univ _) (fun _ _ => Nat.zero_le _) (fun g i h => ⟨Finset.mem_univ _, hO c g i h⟩)
  pre c := iprop(StableHlo.held c.tc (arrRefs spec0) (V c) ∗ ∃ W, ⌜(K (F := F)).WBelow (T c) W b⌝ ∗ owes (T c) (O c) W)
  post c := iprop(StableHlo.held c.tc (arrRefs spec0) (afterRegion (dat0 V O b c) (V c)) ∗ ∃ W, ⌜(K (F := F)).WBelow (T c) W b⌝ ∗ owes (T c) (O c) W)
  X _ := iprop(emp)
  Y _ := iprop(emp)
  Z _ := iprop(emp)
  hentry c := by
    rw [← held0 V O b c 0 (V c) (fun w => rfl), Pipeline.prefHeld_of_none _ rfl,
      show (dats V O b V' 0 c).owesAt none 0 = _ from owes0 V O b c 0]
    iintro ⟨⟨Ha, %W, %hW, HO⟩, -, -⟩
    imodintro
    isplitl [Ha]; · iexact Ha
    isplitr; · iempintro
    isplitl [HO]
    · iexists W; isplitr; · ipureintro; exact fun p hp => Or.inl (hW p hp)
      iexact HO
    isplitr <;> iempintro
  hin c := by
    rw [show (dats V O b V' 0 c).Φ 0 = _ from inv0 V O b c 0]
    iintro ⟨-, -, H⟩
    iexact H
  hout c := by
    rw [Pipeline.ownSems0_none]
    rw [show (dats V O b V' 0 c).Φ _ = _ from inv0 V O b c _]
    iintro H
    isplitr; · iempintro
    isplitr; · iempintro
    iexact H
  hexit c := by
    rw [← held0 V O b c cfg0.N (afterRegion (dat0 V O b c) (V c)) (fun w => (Pipeline.afterRegion_arr _ _ launch0.win.arr_inj w).symm)]
    rw [show (dats V O b V' 0 c).owesAt none _ = _ from owes0 V O b c _]
    iintro ⟨Ha, ⟨%W, %hW, HO⟩, -, -⟩
    imodintro
    isplitl [Ha]; · iexact Ha
    iexists W; isplitr; · ipureintro; exact below0 b c W hW
    iexact HO

set_option backward.isDefEq.respectTransparency.types false in
theorem held2 (c : Dev nD) (n : ℕ) (Wc : Valuation τ sig (Elt F))
    (hG : ∀ w, (dat2 V O b c).arrAt w n = Wc (Proc.devRef .tc (arrRef spec2 w))) :
    ((dat2 V O b c).arrays ((dat2 V O b c).arrAt · n) : sProp 𝕄) = StableHlo.held c.tc (arrRefs spec2) Wc :=
  Pipeline.arrays_held (pcfgs (F := F)) adm (dats V O b V) 1 launch2.toP c ((dat2 V O b c).share_full fun _ => rfl) _ Wc hG

/-- The pairs recorded by the call's own waits sit at level zero. -/
theorem below2 (c : Dev nD) (W : Waits sig (HIx 1)) (h : (↑W : Set (SemLoc sig × HIx 1)) ⊆ below (F := F) b c ∪ cfg2.waitPairs none) :
    (K (F := F)).WBelow (T c) W b := fun p hp => by
  rcases h hp with h | ⟨w, s, rfl⟩
  · exact h
  · exact Nat.zero_le _

set_option backward.isDefEq.respectTransparency.types false in
/-- The call as a region: entered with its arrays at `V'`, left with them at what the call leaves. -/
def reg2 (V' : Dev nD → Valuation τ sig (Elt F)) (hO : ∀ c g i, 0 < O c g i → b < (K (F := F)).lev g i) :
    Pipeline.RegionSeg (pcfgs (F := F)) adm (dats V O b V') none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obl2 V' O b c).loose
  hwaits c := Pipeline.cellsWaits_of_cut (Pipeline.pin (pcfgs (F := F)) adm) (dats V O b V') none 1 c b (O c) (fun _ => rfl)
    (fun _ _ => Finset.mem_univ _) (fun _ _ => Nat.zero_le _) (fun g i h => ⟨Finset.mem_univ _, hO c g i h⟩)
  pre c := iprop(StableHlo.held c.tc (arrRefs spec2) (V' c) ∗ ∃ W, ⌜(K (F := F)).WBelow (T c) W b⌝ ∗ owes (T c) (O c) W)
  post c := iprop(StableHlo.held c.tc (arrRefs spec2) (afterRegion (dat2 V' O b c) (V' c)) ∗ ∃ W, ⌜(K (F := F)).WBelow (T c) W b⌝ ∗ owes (T c) (O c) W)
  X _ := iprop(emp)
  Y _ := iprop(emp)
  Z _ := iprop(emp)
  hentry c := by
    rw [← held2 V' O b c 0 (V' c) (fun w => rfl), Pipeline.prefHeld_of_none _ rfl,
      show (dats V O b V' 1 c).owesAt none 0 = _ from owes2 V' O b c 0]
    iintro ⟨⟨Ha, %W, %hW, HO⟩, -, -⟩
    imodintro
    isplitl [Ha]; · iexact Ha
    isplitr; · iempintro
    isplitl [HO]
    · iexists W; isplitr; · ipureintro; exact fun p hp => Or.inl (hW p hp)
      iexact HO
    isplitr <;> iempintro
  hin c := by
    rw [show (dats V O b V' 1 c).Φ 0 = _ from inv2 V' O b c 0]
    iintro ⟨-, -, H⟩
    iexact H
  hout c := by
    rw [Pipeline.ownSems0_none]
    rw [show (dats V O b V' 1 c).Φ _ = _ from inv2 V' O b c _]
    iintro H
    isplitr; · iempintro
    isplitr; · iempintro
    iexact H
  hexit c := by
    rw [← held2 V' O b c cfg2.N (afterRegion (dat2 V' O b c) (V' c)) (fun w => (Pipeline.afterRegion_arr _ _ launch2.win.arr_inj w).symm)]
    rw [show (dats V O b V' 1 c).owesAt none _ = _ from owes2 V' O b c _]
    iintro ⟨Ha, ⟨%W, %hW, HO⟩, -, -⟩
    imodintro
    isplitl [Ha]; · iexact Ha
    iexists W; isplitr; · ipureintro; exact below2 b c W hW
    iexact HO

end Cert.Proof.KernelTile

end
-- ==== Proof.KernelLaunch.lean ====
/-
  The row gather on the SparseCore: the call of all thirty-two tasks.

  What the call takes and gives, the obligation of a task as the launch states it, and the split of the three arrays into
  the blocks and shares of the tasks and back.
-/
module

public import proofs.«01_k».proof.Proof.KernelTile

@[expose] public section

noncomputable section

namespace Cert.Proof.KernelTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tM" => (Memref.whole main_v4_scv : Memref sig Kind.scVector Space.hbm S8192x128 EltTy.f32)
local notation "iM" => (Memref.whole main_v3_scv : Memref sig Kind.scVector Space.hbm S16384 EltTy.i32)
local notation "oM" => (Memref.whole main_v5_scv : Memref sig Kind.scVector Space.hbm S16384x128 EltTy.f32)
local notation "sM" => (Memref.whole cc1_scratch0 : Memref sig Kind.scVector Space.vmem S512 EltTy.i32)
local notation "rM" => (Memref.whole cc1_scratch1 : Memref sig Kind.scVector Space.vmem S512x128 EltTy.f32)

variable (tb : (d : Dev nD) → Buf (Elt F) (tLoc d)) (ix : (d : Dev nD) → Buf (Elt F) (iLoc d)) (ov : (d : Dev nD) → Buf (Elt F) (oLoc d))

/-! ## What the handshakes carry -/

theorem nCore_zero : (K (F := F)).nCore 0 = 2 := rfl
theorem nSub_zero : (K (F := F)).nSub 0 = 16 := rfl

/-- The block of a task, from the call's own numbering of its cores and subcores. -/
abbrev blkK (c : Fin ((K (F := F)).nCore 0)) (i : Fin ((K (F := F)).nSub 0)) : Fin 32 := blk (Fin.cast nCore_zero c) (Fin.cast nSub_zero i)

/-- A SparseCore takes and gives what its sixteen tasks do. -/
def P : (K (F := F)).Pay (nD := nD) (Val := Elt F) (Name := ℕ) (U := UU) where
  st := fun q d => match q with | 0 => fun c => bigSep Finset.univ fun i => goPts tb ix ov d (blkK (F := F) c i)
  dn := fun q d => match q with | 0 => fun c => bigSep Finset.univ fun i => donePts tb ix d (blkK (F := F) c i)
  go := fun q d => match q with | 0 => fun c i => goPts tb ix ov d (blkK (F := F) c i)
  td := fun q d => match q with | 0 => fun c i => donePts tb ix d (blkK (F := F) c i)
  x := fun _ _ => iprop(emp)

instance P_storable : (P (F := F) tb ix ov).IsStorable where
  st q d := match q with
    | 0 => fun c => (inferInstance : BI.Storable (upEmb : UEmb _ 𝕄) (bigSep Finset.univ fun i => goPts tb ix ov d (blkK (F := F) c i)))
  dn q d := match q with
    | 0 => fun c => (inferInstance : BI.Storable (upEmb : UEmb _ 𝕄) (bigSep Finset.univ fun i => donePts tb ix d (blkK (F := F) c i)))
  go q d := match q with
    | 0 => fun c i => (inferInstance : BI.Storable (upEmb : UEmb _ 𝕄) (goPts tb ix ov d (blkK (F := F) c i)))
  td q d := match q with
    | 0 => fun c i => (inferInstance : BI.Storable (upEmb : UEmb _ 𝕄) (donePts tb ix d (blkK (F := F) c i)))

/-! ## The obligation of a task -/

section Obligation

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather (coordsV c s)
          tM (Memref.isWhole_whole _) iM (Memref.isWhole_whole _) oM (Memref.isWhole_whole _)
          sM (Memref.isWhole_whole _) rM (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d (j : S16384.Idx), (ix d j).toNat < 8192) :
    (K (F := F)).TileObl (D (F := F)) 𝒱 (P tb ix ov) v₀ 0 := by
  intro d c i O W hO _ _
  simp only [show (P tb ix ov).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix ov d (coordsV ⟨_, hci.1⟩ ⟨_, hci.2⟩) hF hix O W hO).trans (wp_mono frame _ _ fun _ => obl_post)

end Obligation

theorem vecSplit : (K (F := F)).VecSplit' (P tb ix ov) 0 := by
  intro d c
  show (bigSep Finset.univ fun i => goPts tb ix ov d (blkK (F := F) c i)) ⊢ |={Set.univ}=> iprop(
      (bigSep Finset.univ fun i => goPts tb ix ov d (blkK (F := F) c i))
      ∗ ((bigSep Finset.univ fun i => donePts tb ix d (blkK (F := F) c i)) -∗ bigSep Finset.univ fun i => donePts tb ix d (blkK (F := F) c i)))
  iintro H; imodintro
  isplitl [H]; · iexact H
  iintro H; iexact H

/-! ## The arrays split into blocks and shares, and join again -/

theorem iSet_eq (i : Fin 32) : iSet i = (iPart i).set := by
  show ((View.whole (main_v3_scv : Ref sig .scVector)).slice (iPart i)).set = _
  rw [View.set_slice]; exact Finset.map_refl
theorem oSet_eq (i : Fin 32) : oSet i = (oPart i).set := by
  show ((View.whole (main_v5_scv : Ref sig .scVector)).slice (oPart i)).set = _
  rw [View.set_slice]; exact Finset.map_refl
theorem iSets_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint iDiv h
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint oDiv h
theorem iSets_cover : (Finset.univ : Finset (Fin 32)).biUnion iSet = Finset.univ :=
  (Finset.biUnion_congr rfl fun i _ => iSet_eq i).trans (Rect.biUnion_part iDiv)
theorem oSets_cover : (Finset.univ : Finset (Fin 32)).biUnion oSet = Finset.univ :=
  (Finset.biUnion_congr rfl fun i _ => oSet_eq i).trans (Rect.biUnion_part oDiv)

theorem iPts_blocks (d : Dev nD) (f : Buf (Elt F) (iLoc d)) :
    (iLoc d ↦{fullShare} f : sProp 𝕄) = bigSep Finset.univ fun i : Fin 32 => iLoc d ↦[iSet i]{fullShare} f := by
  rw [← pointsTo_biUnion Finset.univ (ℓ := iLoc d) iSet iSets_disjoint, iSets_cover]; try rfl
theorem oPts_blocks (d : Dev nD) (f : Buf (Elt F) (oLoc d)) :
    (oLoc d ↦{fullShare} f : sProp 𝕄) = bigSep Finset.univ fun i : Fin 32 => oLoc d ↦[oSet i]{fullShare} f := by
  rw [← pointsTo_biUnion Finset.univ (ℓ := oLoc d) oSet oSets_disjoint, oSets_cover]; try rfl
theorem tPts_shares (d : Dev nD) (f : Buf (Elt F) (tLoc d)) :
    (tLoc d ↦{fullShare} f : sProp 𝕄) = bigSep Finset.univ fun i : Fin 32 => tLoc d ↦{tq i} f :=
  pointsTo_piecesOf Finset.univ f (by decide) fullShare

/-- The blocks by core and subcore are the blocks. -/
def blkEquiv : Fin 2 × Fin 16 ≃ Fin 32 where
  toFun p := blk p.1 p.2
  invFun b := (⟨b.val % 2, Nat.mod_lt _ (by decide)⟩, ⟨b.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv b := Fin.ext (by show 2 * (b.val / 2) + b.val % 2 = b.val; omega)

theorem bigSep_blocks (Φ : Fin 32 → sProp 𝕄) :
    (bigSep Finset.univ fun c : Fin ((K (F := F)).nCore 0) => bigSep Finset.univ fun i : Fin ((K (F := F)).nSub 0) => Φ (blkK (F := F) c i)) = bigSep Finset.univ Φ := by
  rw [bigSep_univ_equiv blkEquiv Φ, bigSep_univ_prod]
  rfl

/-- The three arrays whole are what the call's SparseCores take. -/
theorem st0_eq (d : Dev nD) :
    (bigSep Finset.univ fun c : Fin ((K (F := F)).nCore 0) => (P tb ix ov).st 0 d c)
      = iprop((iLoc d ↦{fullShare} ix d) ∗ (tLoc d ↦{fullShare} tb d) ∗ oLoc d ↦{fullShare} ov d) := by
  show (bigSep Finset.univ fun c : Fin ((K (F := F)).nCore 0) => bigSep Finset.univ fun i : Fin ((K (F := F)).nSub 0) => goPts tb ix ov d (blkK (F := F) c i)) = _
  rw [bigSep_blocks (F := F) (fun i => goPts tb ix ov d i), bigSep_sep', bigSep_sep', ← iPts_blocks, ← tPts_shares, ← oPts_blocks]
/-- What they give is the three arrays whole, the result at the gathered rows. -/
theorem dn0_eq (d : Dev nD) :
    (bigSep Finset.univ fun c : Fin ((K (F := F)).nCore 0) => (P tb ix ov).dn 0 d c)
      = iprop((iLoc d ↦{fullShare} ix d) ∗ (tLoc d ↦{fullShare} tb d) ∗ oLoc d ↦{fullShare} takenAt tb ix d) := by
  show (bigSep Finset.univ fun c : Fin ((K (F := F)).nCore 0) => bigSep Finset.univ fun i : Fin ((K (F := F)).nSub 0) => donePts tb ix d (blkK (F := F) c i)) = _
  rw [bigSep_blocks (F := F) (fun i => donePts tb ix d i), bigSep_sep', bigSep_sep', ← iPts_blocks, ← tPts_shares, ← oPts_blocks]

end Cert.Proof.KernelTile

end
-- ==== Proof.KernelCalls.lean ====
/-
  A TensorCore call of the kernel as one step of the program beside the SparseCore's launch: from the arrays at `V` and what
  the TensorCore holds for the SparseCore's call, to the arrays at what the call leaves and the same holdings.
-/
module

public import proofs.«01_k».proof.Proof.KernelDats
public import proofs.«01_k».proof.Proof.KernelLaunch

@[expose] public section

noncomputable section

namespace Cert.Proof.KernelTile

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat afterRegion arrRef arrRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The pipelines' algebra within the certificate's. -/
abbrev EP : Emb UP (MT nD τ sig (HIx 1) (Elt F) ℕ UU ℕ) := (Emb.inl : Emb UP (UP × Counters)).trans embR

instance : (EP (F := F)).LandsIn (upEmb : UEmb _ (MT nD τ sig (HIx 1) (Elt F) ℕ UU ℕ)) := by
  unfold EP embR; infer_instance

/-- A pipeline's ghost state on core `d`. -/
abbrev pipeGhost (p : Fin 2) (d : Dev nD) : sProp 𝕄 :=
  iprop(Pipeline.cellsGhost cfgs (EP (F := F)) p d ∗ Pipeline.toksInit cfgs (EP (F := F)) p d)

/-- How far the core's recorded waits reach before call `n`, and what it owes there. -/
abbrev lvl (n : ℕ) : ℕ := 8 * SparseCore.Cfg.Blocks.fst 1 1 n
abbrev owed (n : ℕ) (d : Dev nD) : CellTallies nD τ sig (HIx 1) := (K (F := F)).Otc d n

omit [FloatOps F] in
theorem owed_above (n : ℕ) (c : Dev nD) (g : GSem nD τ sig) (i : HIx 1) (h : 0 < owed (F := F) n c g i) : lvl n < (K (F := F)).lev g i :=
  (K (F := F)).lev_of_Otc_pos h

variable (V : Dev nD → Valuation τ sig (Elt F))

theorem sub0 : arrRefs spec0 ⊆ Pipeline.ucRefs τ sig := Pipeline.arrRefs_sub_ucRefs spec0 (by decide)
theorem sub2 : arrRefs spec2 ⊆ Pipeline.ucRefs τ sig := Pipeline.arrRefs_sub_ucRefs spec2 (by decide)

variable (tb : (d : Dev nD) → Buf (Elt F) (tLoc d)) (ix : (d : Dev nD) → Buf (Elt F) (iLoc d)) (ov : (d : Dev nD) → Buf (Elt F) (oLoc d))

abbrev left0 (n : ℕ) (d : Dev nD) : Valuation τ sig (Elt F) := afterRegion (dat0 V (owed (F := F) n) (lvl n) d) (V d)
abbrev left2 (n : ℕ) (d : Dev nD) : Valuation τ sig (Elt F) := afterRegion (dat2 V (owed (F := F) n) (lvl n) d) (V d)

/-- Pipeline `p`'s call, and the same call as the program beside the SparseCore's launch makes it. -/
abbrev callOf (p : Fin 2) : Prog (TpuEff nD τ sig (Elt F) (ΛP (F := F)) .tc) PUnit := .op (.customCall (Pipeline.entry p) ()) .ret

theorem lift_call (p : Fin 2) :
    (Prog.lift (.customCall (SparseCore.inner (Pipeline.entry p)) ()) : Prog (TpuEff nD τ sig (Elt F) (SparseCore.Sig (ΛP (F := F)) 1) .tc) PUnit)
      = SparseCore.liftProg (callOf (F := F) p) := rfl

/-- The arrays of a call at `W`, and the core's recorded waits and debt before call `n`. -/
abbrev holds {gr nw : ℕ} (d : Dev nD) (spec : Fin nw → Pipeline.WinSpec sig gr) (W : Valuation τ sig (Elt F)) (n : ℕ) : sProp 𝕄 :=
  iprop(held (T d) (arrRefs spec) W ∗ ∃ U, ⌜(K (F := F)).WBelow (T d) U (lvl n)⌝ ∗ owes (T d) (owed (F := F) n d) U)

theorem enter0 (d : Dev nD) (n : ℕ) (Φ : PUnit → sProp 𝕄) :
    iprop((iprop(boundary (T d) ∗ holds d spec0 (left0 V n d) n) -∗ wp frame (wpE (D (F := F)) 𝒱 (T d) none) Set.univ (.ret ⟨⟩) Φ)
        ∗ boundary (T d) ∗ holds d spec0 (V d) n ∗ levAts (K (F := F)).L (K (F := F)).lev ∗ pipeGhost 0 d)
      ⊢ wp frame (wpE (D (F := F)) 𝒱 (T d) none) Set.univ (callOf 0) Φ :=
  Pipeline.RegionSeg.wp (pcfgs (F := F)) adm (dats V (owed (F := F) n) (lvl n) V) none cellOf_inj (EP (F := F)) defs₀ 𝒱₀
    (K (F := F)).L (K (F := F)).lev (reg0 V (owed (F := F) n) (lvl n) V (owed_above n)) d none (fun _ h => nomatch h) .ret Φ

theorem enter2 (d : Dev nD) (n : ℕ) (Φ : PUnit → sProp 𝕄) :
    iprop((iprop(boundary (T d) ∗ holds d spec2 (left2 V n d) n) -∗ wp frame (wpE (D (F := F)) 𝒱 (T d) none) Set.univ (.ret ⟨⟩) Φ)
        ∗ boundary (T d) ∗ holds d spec2 (V d) n ∗ levAts (K (F := F)).L (K (F := F)).lev ∗ pipeGhost 1 d)
      ⊢ wp frame (wpE (D (F := F)) 𝒱 (T d) none) Set.univ (callOf 1) Φ :=
  Pipeline.RegionSeg.wp (pcfgs (F := F)) adm (dats V (owed (F := F) n) (lvl n) V) none cellOf_inj (EP (F := F)) defs₀ 𝒱₀
    (K (F := F)).L (K (F := F)).lev (reg2 V (owed (F := F) n) (lvl n) V (owed_above n)) d none (fun _ h => nomatch h) .ret Φ

theorem call0_step (κ : GSem nD τ sig → ℕ) (d : Dev nD) (n : ℕ) (Φ : PUnit → sProp 𝕄) :
    iprop((K (F := F)).ctx EH (P tb ix ov) κ ∗ (K (F := F)).tcSt EH d n ∗ boundary (T d) ∗ held (T d) (Pipeline.ucRefs τ sig) (V d) ∗ pipeGhost 0 d
        ∗ (iprop((K (F := F)).tcSt EH d n ∗ boundary (T d) ∗ held (T d) (Pipeline.ucRefs τ sig) (left0 V n d)) -∗ Φ ⟨⟩))
      ⊢ wp frame (wpE ((K (F := F)).defs (D (F := F))) 𝒱 (T d) none) Set.univ
          (Prog.lift (.customCall (SparseCore.inner (Pipeline.entry 0)) ())) Φ := by
  rw [lift_call 0]
  unfold SparseCore.Cfg.tcSt
  rw [StableHlo.held_sub_split (T d) sub0 (V d), StableHlo.held_sub_split (T d) sub0 (left0 V n d),
    StableHlo.held_congr (T d) (V := left0 V n d) (V' := V d) (Pipeline.afterRegion_off (dat0 V (owed (F := F) n) (lvl n) d) (V d) (Pipeline.ucRefs τ sig))]
  iintro ⟨#Hctx, ⟨HO, Hst⟩, Hb, ⟨Ha, Hr⟩, ⟨Hg, Ht⟩, Hk⟩
  ihave #Hlv := ((K (F := F)).ctx_levAts κ) $$ Hctx
  iapply ((K (F := F)).wp_liftProg (D (F := F)) 𝒱 (T d) Set.univ none (callOf 0) Φ)
  iapply (enter0 V d n Φ)
  isplitl [Hst Hr Hk]
  · iintro ⟨Hb, Ha, HO⟩
    rw [wp_ret]; imodintro
    iapply Hk
    isplitl [HO Hst]
    · isplitl [HO]; · iexact HO
      iexact Hst
    isplitl [Hb]; · iexact Hb
    isplitl [Ha]; · iexact Ha
    iexact Hr
  isplitl [Hb]; · iexact Hb
  isplitl [Ha HO]
  · isplitl [Ha]; · iexact Ha
    iexact HO
  isplitr; · iexact Hlv
  isplitl [Hg]; · iexact Hg
  iexact Ht

theorem call2_step (κ : GSem nD τ sig → ℕ) (d : Dev nD) (n : ℕ) (Φ : PUnit → sProp 𝕄) :
    iprop((K (F := F)).ctx EH (P tb ix ov) κ ∗ (K (F := F)).tcSt EH d n ∗ boundary (T d) ∗ held (T d) (Pipeline.ucRefs τ sig) (V d) ∗ pipeGhost 1 d
        ∗ (iprop((K (F := F)).tcSt EH d n ∗ boundary (T d) ∗ held (T d) (Pipeline.ucRefs τ sig) (left2 V n d)) -∗ Φ ⟨⟩))
      ⊢ wp frame (wpE ((K (F := F)).defs (D (F := F))) 𝒱 (T d) none) Set.univ
          (Prog.lift (.customCall (SparseCore.inner (Pipeline.entry 1)) ())) Φ := by
  rw [lift_call 1]
  unfold SparseCore.Cfg.tcSt
  rw [StableHlo.held_sub_split (T d) sub2 (V d), StableHlo.held_sub_split (T d) sub2 (left2 V n d),
    StableHlo.held_congr (T d) (V := left2 V n d) (V' := V d) (Pipeline.afterRegion_off (dat2 V (owed (F := F) n) (lvl n) d) (V d) (Pipeline.ucRefs τ sig))]
  iintro ⟨#Hctx, ⟨HO, Hst⟩, Hb, ⟨Ha, Hr⟩, ⟨Hg, Ht⟩, Hk⟩
  ihave #Hlv := ((K (F := F)).ctx_levAts κ) $$ Hctx
  iapply ((K (F := F)).wp_liftProg (D (F := F)) 𝒱 (T d) Set.univ none (callOf 1) Φ)
  iapply (enter2 V d n Φ)
  isplitl [Hst Hr Hk]
  · iintro ⟨Hb, Ha, HO⟩
    rw [wp_ret]; imodintro
    iapply Hk
    isplitl [HO Hst]
    · isplitl [HO]; · iexact HO
      iexact Hst
    isplitl [Hb]; · iexact Hb
    isplitl [Ha]; · iexact Ha
    iexact Hr
  isplitl [Hb]; · iexact Hb
  isplitl [Ha HO]
  · isplitl [Ha]; · iexact Ha
    iexact HO
  isplitr; · iexact Hlv
  isplitl [Hg]; · iexact Hg
  iexact Ht

end Cert.Proof.KernelTile

end
-- ==== Proof.KernelRun.lean ====
/-
  The run of the whole kernel: its host code, the TensorCore's search for the nearest codebook row, the SparseCore's gather,
  the TensorCore's losses, one after the other, each from the arrays the one before left. What every array of the TensorCore
  holds at the end, provided the row numbers found lie within the codebook.
-/
module

public import proofs.«01_k».proof.Proof.KernelCalls

@[expose] public section

noncomputable section

namespace Cert.Proof.KernelTile

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat afterRegion arrRef arrRefs ucRefs)
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations, between the calls -/

/-- The inputs' rows and the codebook's columns. -/
abbrev opsRows : List (HloOp τ sig (Elt F)) :=
  [StableHlo.unary main_arg0 main_v0 ((transpose S16x32x32x32 [0, 2, 3, 1] · transposes_S16x32x32x32_S16x32x32x32_0_2_3_1) : (⟨S16x32x32x32, .f32⟩ : BufTy).Contents (Elt F) → (⟨S16x32x32x32, .f32⟩ : BufTy).Contents (Elt F)),
   StableHlo.reshape main_v0 main_v1 (rfl : (.f32 : EltTy) = .f32) shapeCasts_S16x32x32x32_S16384x32,
   StableHlo.unary main_arg1 main_v2 ((transpose S32x8192 [1, 0] · transposes_S8192x32_S32x8192_1_0) : (⟨S8192x32, .f32⟩ : BufTy).Contents (Elt F) → (⟨S32x8192, .f32⟩ : BufTy).Contents (Elt F))]

/-- The codebook's rows, padded for the gather. -/
abbrev opsPad : List (HloOp τ sig (Elt F)) :=
  [StableHlo.nullary main_c (constantI S_ 32 0#32),
   StableHlo.TRef.unary (Tx := ⟨S_, .i32⟩) (.of main_c) main_call0.v0 (sitofp .f32),
   StableHlo.TRef.binary (Ta := ⟨S8192x32, .f32⟩) (.of main_arg1) main_call0.v0 main_call0.v1
    (fun x v => pad S8192x128 ![0, 0] ![0, 96] ![0, 0] x v pads_S8192x32_S8192x128_000_0960 h_S_)]

/-- The first 32 numbers of each gathered row. -/
abbrev opsCut : List (HloOp τ sig (Elt F)) :=
  [StableHlo.unary main_v5 main_v6 ((extractStridedSlice S16384x32 ![0, 0] · slices_S16384x128_S16384x32_0_0) : (⟨S16384x128, .f32⟩ : BufTy).Contents (Elt F) → (⟨S16384x32, .f32⟩ : BufTy).Contents (Elt F))]

/-- The losses, and the results in the inputs' layout. -/
abbrev opsOut : List (HloOp τ sig (Elt F)) :=
  [StableHlo.reshape main_v7_1 main_v8 (rfl : (.f32 : EltTy) = .f32) shapeCasts_S1x1_S_,
   StableHlo.nullary main_cst (constant S_ .f32 0x49000000#32),
   StableHlo.binary main_v8 main_cst main_v9 (Host.divf : (⟨S_, .f32⟩ : BufTy).Contents (Elt F) → (⟨S_, .f32⟩ : BufTy).Contents (Elt F) → (⟨S_, .f32⟩ : BufTy).Contents (Elt F)),
   StableHlo.nullary main_cst_0 (constant S_ .f32 0x3E800000#32),
   StableHlo.binary main_cst_0 main_v9 main_v10 (mulf : (⟨S_, .f32⟩ : BufTy).Contents (Elt F) → (⟨S_, .f32⟩ : BufTy).Contents (Elt F) → (⟨S_, .f32⟩ : BufTy).Contents (Elt F)),
   StableHlo.binary main_v9 main_v10 main_v11 (addf : (⟨S_, .f32⟩ : BufTy).Contents (Elt F) → (⟨S_, .f32⟩ : BufTy).Contents (Elt F) → (⟨S_, .f32⟩ : BufTy).Contents (Elt F)),
   StableHlo.reshape main_v7_0 main_v12 (rfl : (.f32 : EltTy) = .f32) shapeCasts_S16384x32_S16x32x32x32,
   StableHlo.unary main_v12 main_v13 ((transpose S16x32x32x32 [0, 3, 1, 2] · transposes_S16x32x32x32_S16x32x32x32_0_3_1_2) : (⟨S16x32x32x32, .f32⟩ : BufTy).Contents (Elt F) → (⟨S16x32x32x32, .f32⟩ : BufTy).Contents (Elt F)),
   StableHlo.reshape main_v3 main_v14 (rfl : (.i32 : EltTy) = .i32) shapeCasts_S16384_S16x32x32]

theorem main_eq (d : Dev nD) :
    main (F := F) d = (seq opsRows >>= fun _ => Prog.lift (.customCall (SparseCore.inner (Pipeline.entry 0)) ()) >>= fun _ => seq opsPad >>= fun _ =>
      sc.run d 0 >>= fun _ => seq opsCut >>= fun _ => Prog.lift (.customCall (SparseCore.inner (Pipeline.entry 1)) ()) >>= fun _ => seq opsOut >>= fun _ => pure ⟨⟩) := by
  simp only [main, fn_pad.body, seq, bind_assoc, pure_bind]

/-! ## The arrays, stage by stage -/

abbrev tR : DevRef τ sig := Proc.devRef .tc (main_v4 : Ref sig .tc)
abbrev iR : DevRef τ sig := Proc.devRef .tc (main_v3 : Ref sig .tc)
abbrev oR : DevRef τ sig := Proc.devRef .tc (main_v5 : Ref sig .tc)

def W0 (d : Dev nD) : Valuation τ sig (Elt F) := fun b => m (d, b)
def W1 (d : Dev nD) : Valuation τ sig (Elt F) := after opsRows (W0 m d)
def W2 (d : Dev nD) : Valuation τ sig (Elt F) := left0 (W1 m) 0 d
def W3 (d : Dev nD) : Valuation τ sig (Elt F) := after opsPad (W2 m d)

/-- The padded codebook, the row numbers and the gathered array's contents when the SparseCore's call begins. -/
def tb (d : Dev nD) : Buf (Elt F) (tLoc d) := W3 m d tR
def ix (d : Dev nD) : Buf (Elt F) (iLoc d) := W3 m d iR
def ov (d : Dev nD) : Buf (Elt F) (oLoc d) := W3 m d oR

def W4 (d : Dev nD) : Valuation τ sig (Elt F) := Function.update (W3 m d) oR (takenAt (tb m) (ix m) d)
def W5 (d : Dev nD) : Valuation τ sig (Elt F) := after opsCut (W4 m d)
def W6 (d : Dev nD) : Valuation τ sig (Elt F) := left2 (W5 m) 1 d
def W7 (d : Dev nD) : Valuation τ sig (Elt F) := after opsOut (W6 m d)

theorem sub_of (op : HloOp τ sig (Elt F)) (h : op.bufs ⊆ StableHlo.tcRefs τ sig) : op.bufs ⊆ ucRefs τ sig := Pipeline.sub_ucRefs op h

theorem bufsRows : ∀ op ∈ opsRows (F := F), op.bufs ⊆ ucRefs τ sig := by
  simp only [List.forall_mem_cons, List.not_mem_nil, false_imp_iff, implies_true, and_true]
  refine ⟨?_, ?_, ?_⟩ <;> exact of_decide_eq_true rfl

theorem bufsPad : ∀ op ∈ opsPad (F := F), op.bufs ⊆ ucRefs τ sig := by
  simp only [List.forall_mem_cons, List.not_mem_nil, false_imp_iff, implies_true, and_true]
  refine ⟨?_, ?_, ?_⟩ <;> exact of_decide_eq_true rfl

theorem bufsCut : ∀ op ∈ opsCut (F := F), op.bufs ⊆ ucRefs τ sig := by
  simp only [List.forall_mem_cons, List.not_mem_nil, false_imp_iff, implies_true, and_true]
  exact of_decide_eq_true rfl

theorem bufsOut : ∀ op ∈ opsOut (F := F), op.bufs ⊆ ucRefs τ sig := by
  simp only [List.forall_mem_cons, List.not_mem_nil, false_imp_iff, implies_true, and_true]
  refine ⟨?_, ?_, ?_, ?_, ?_, ?_, ?_, ?_, ?_⟩ <;> exact of_decide_eq_true rfl

theorem freshRows : ∀ op ∈ opsRows (F := F), op.fresh = ∅ := by
  simp only [List.forall_mem_cons, List.not_mem_nil, false_imp_iff, implies_true, and_true]; exact ⟨rfl, rfl, rfl⟩
theorem freshPad : ∀ op ∈ opsPad (F := F), op.fresh = ∅ := by
  simp only [List.forall_mem_cons, List.not_mem_nil, false_imp_iff, implies_true, and_true]; exact ⟨rfl, rfl, rfl⟩
theorem freshCut : ∀ op ∈ opsCut (F := F), op.fresh = ∅ := by
  simp only [List.forall_mem_cons, List.not_mem_nil, false_imp_iff, implies_true, and_true]; rfl
theorem freshOut : ∀ op ∈ opsOut (F := F), op.fresh = ∅ := by
  simp only [List.forall_mem_cons, List.not_mem_nil, false_imp_iff, implies_true, and_true]
  exact ⟨rfl, rfl, rfl, rfl, rfl, rfl, rfl, rfl, rfl⟩

/-! ## The SparseCore's three arrays among the others -/

abbrev scRefs : Finset (DevRef τ sig) := {iR, tR, oR}

omit [FloatOps F] in
theorem held_sc (d : Dev nD) (W : Valuation τ sig (Elt F)) :
    (held (T d) (ucRefs τ sig) W : sProp 𝕄)
      = iprop(((iLoc d ↦{fullShare} W iR) ∗ (tLoc d ↦{fullShare} W tR) ∗ (oLoc d ↦{fullShare} W oR)) ∗ held (T d) (ucRefs τ sig \ scRefs) W) := by
  rw [StableHlo.held_sub_split (T d) (show scRefs ⊆ ucRefs τ sig by decide) W]
  congr 1
  unfold held
  rw [SparseCore.bigSep_insert' (by decide), SparseCore.bigSep_insert' (by decide), bigSep_singleton]

theorem W4_o (d : Dev nD) : W4 m d oR = takenAt (tb m) (ix m) d := Function.update_self _ _ _
theorem W4_ne (d : Dev nD) (b : DevRef τ sig) (h : b ≠ oR) : W4 m d b = W3 m d b := Function.update_of_ne h _ _

theorem rest_W4 (d : Dev nD) : (held (T d) (ucRefs τ sig \ scRefs) (W4 m d) : sProp 𝕄) = held (T d) (ucRefs τ sig \ scRefs) (W3 m d) :=
  StableHlo.held_congr (T d) fun b hb => W4_ne m d b fun h => (Finset.mem_sdiff.mp hb).2 (by rw [h]; decide)

/-! ## The launch -/

/-- The certificate's ghost state at the launch: the SparseCore's handshakes' and the two pipelines'. -/
def u₀ : UU :=
  (initOf (K (F := F)).hsCells (K (F := F)).hsToks, (initOf (Pipeline.cells cfgs cellOf_inj) (Pipeline.launchToks cfgs cellOf_inj), 1))

abbrev Gh (d : Dev nD) : sProp 𝕄 :=
  iprop((bigSep Finset.univ fun p : Fin 2 => Pipeline.cellsGhost cfgs (EP (F := F)) p d) ∗ (bigSep Finset.univ fun p : Fin 2 => Pipeline.toksInit cfgs (EP (F := F)) p d))

omit [FloatOps F] in
theorem sep_of_emps {I : Type} (s : Finset I) : bigSep s (fun _ => (iprop(emp) : sProp 𝕄)) = iprop(emp) := bigSep_emp_const s

theorem Gh_split (d : Dev nD) : (Gh d : sProp 𝕄) ⊢ iprop(pipeGhost 0 d ∗ pipeGhost 1 d) := by
  unfold Gh
  rw [show (Finset.univ : Finset (Fin 2)) = {0, 1} by decide, SparseCore.bigSep_insert' (by decide), bigSep_singleton,
    SparseCore.bigSep_insert' (by decide), bigSep_singleton]
  iintro ⟨⟨Ha, Hb⟩, Hc, Hd⟩
  isplitl [Ha Hc]
  · isplitl [Ha]; · iexact Ha
    iexact Hc
  isplitl [Hb]; · iexact Hb
  iexact Hd

theorem hu₀ : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 1 => (P (tb m) (ix m) (ov m)).x q thr) := by
  unfold u₀ Gh
  rw [bigSep_sep']
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb (M' := MT nD τ sig (HIx 1) (Elt F) ℕ UU ℕ) embR (initOf (Pipeline.cells cfgs cellOf_inj) (Pipeline.launchToks cfgs cellOf_inj) : UP) (1 : Counters)) $$ HR
  icases H with ⟨HP, -⟩
  imod (Pipeline.fund_ghost cfgs (EP (F := F)) cellOf_inj) $$ HP with ⟨Hg, Ht⟩
  imodintro
  isplitl [HH]; · iexact HH
  isplitl [Hg Ht]
  · isplitl [Hg]; · iexact Hg
    iexact Ht
  rw [show (bigSep Finset.univ fun thr : Thread nD τ => bigSep Finset.univ fun q : Fin 1 => (P (F := F) (tb m) (ix m) (ov m)).x q thr) = bigSep Finset.univ fun _ => iprop(emp) from
    bigSep_congr fun _ _ => bigSep_univ_of_subsingleton (0 : Fin 1), sep_of_emps]
  iempintro

/-- What the TensorCore's program keeps for the claims: every array. -/
abbrev FIN (d : Dev nD) : sProp 𝕄 := held (T d) (ucRefs τ sig) (W7 m d)

omit [FloatOps F] in
theorem unscoped_held (d : Dev nD) : (unscopedBufs d (fun b => m ((SparseCore.T d).loc b)) : sProp 𝕄) = held (T d) (ucRefs τ sig) (W0 m d) :=
  Pipeline.unscopedBufs_held (Ix := HIx 1) (Name := ℕ) (U := UU) (Lvl := ℕ) d (W0 m d)

theorem hmain (κ : GSem nD τ sig → ℕ) (d : Dev nD) :
    iprop((K (F := F)).ctx EH (P (tb m) (ix m) (ov m)) κ ∗ (K (F := F)).tcSt EH d 0 ∗ (K (F := F)).tcRes m ρ d ∗ Gh d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, HG⟩
  ihave HG := (Gh_split d) $$ HG
  icases HG with ⟨HG0, HG1⟩
  iapply (StableHlo.wp_seq 𝒱 none Set.univ d (ucRefs τ sig) _ opsRows bufsRows freshRows (W0 m d)) $$ [Hb Hheld]
  · isplitl [Hb] <;> iassumption
  iintro ⟨Hb, Hheld⟩
  rw [wp_bind]
  iapply (call0_step (W1 m) (tb m) (ix m) (ov m) κ d 0)
  isplitr; · iexact Hctx
  isplitl [Hst]; · iexact Hst
  isplitl [Hb]; · iexact Hb
  isplitl [Hheld]; · iexact Hheld
  isplitl [HG0]; · iexact HG0
  iintro ⟨Hst, Hb, Hheld⟩
  iapply (StableHlo.wp_seq 𝒱 none Set.univ d (ucRefs τ sig) _ opsPad bufsPad freshPad (W2 m d)) $$ [Hb Hheld]
  · isplitl [Hb]; · iexact Hb
    iexact Hheld
  iintro ⟨Hb, Hheld⟩
  ihave Hh := (Entails.of_eq (show (held (T d) (ucRefs τ sig) (after opsPad (W2 m d)) : sProp 𝕄) = _ from held_sc (F := F) d (W3 m d))) $$ Hheld
  icases Hh with ⟨⟨Hi, Ht, Ho⟩, Hrest⟩
  rw [wp_bind]
  iapply ((K (F := F)).wp_run (D (F := F)) 𝒱 (EH := EH) (P := P (tb m) (ix m) (ov m)) κ d 0) $$ [Hst Hi Ht Ho Hrest Hb Hts HG1]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq (tb m) (ix m) (ov m) d)) $$ Hdn
  icases Hdn' with ⟨Hi, Ht, Ho⟩
  iapply (StableHlo.wp_seq 𝒱 none Set.univ d (ucRefs τ sig) _ opsCut bufsCut freshCut (W4 m d)) $$ [Hb Hi Ht Ho Hrest]
  · isplitl [Hb]; · iexact Hb
    rw [held_sc, rest_W4, W4_o, W4_ne m d tR (by decide), W4_ne m d iR (by decide)]
    isplitr [Hrest]
    · isplitl [Hi]; · iexact Hi
      isplitl [Ht]; · iexact Ht
      iexact Ho
    iexact Hrest
  iintro ⟨Hb, Hheld⟩
  rw [wp_bind]
  iapply (call2_step (W5 m) (tb m) (ix m) (ov m) κ d 1)
  isplitr; · iexact Hctx
  isplitl [Hst]; · iexact Hst
  isplitl [Hb]; · iexact Hb
  isplitl [Hheld]; · iexact Hheld
  isplitl [HG1]; · iexact HG1
  iintro ⟨Hst, Hb, Hheld⟩
  iapply (StableHlo.wp_seq 𝒱 none Set.univ d (ucRefs τ sig) _ opsOut bufsOut freshOut (W6 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-- What the claims read of the final memory: every array of the TensorCore. -/
def fq (d : Dev nD) (s' : Phys nD τ sig (Elt F)) : Prop := ∀ b ∈ ucRefs τ sig, s'.mem.mem (d, b) = W7 m d b

theorem hfin (d : Dev nD) (s' : Phys nD τ sig (Elt F)) : iprop(FIN m d ∗ SI s') ⊢ (⌜fq m d s'⌝ : sProp 𝕄) := by
  unfold FIN held
  exact fun x hx b hb => funext fun i => ((sep_mono (bigSep_elim hb) .rfl).trans
    ((sep_comm.1.trans SI_pointsTo_agree).trans (BI.pure_mono fun h => h i (Finset.mem_univ i)))) x hx

/-- The final states: every array at what the last stage left, every semaphore at zero. -/
def QC : PUnit × MemSt nD τ sig (Elt F) → Prop := fun r =>
  (∀ c : Dev nD, ∀ b ∈ ucRefs τ sig, r.2.mem (c, b) = W7 m c b) ∧ r.2.sem = fun _ => 0

/-- The row numbers found lie within the codebook. -/
def InBook : Prop := ∀ (d : Dev nD) (j : S16384.Idx), (ix m d j).toNat < 8192

theorem run_main [∀ e, Nonempty (Elt F e)] (hpre : InBook m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tb m) (ix m) (ov m)) (A := ∅) facts v₀
    (fun q hq => match q with | 0 => nomatch hq)
    (fun q _ => match q with | 0 => tileObl (tb m) (ix m) (ov m) facts hpre)
    (fun q _ => match q with | 0 => SparseCore.Cfg.VecSplit.of_plain (vecSplit (tb m) (ix m) (ov m)))
    m ρ main (fun d => Gh d) (FIN m) (u₀ (F := F)) (sep_elim_left.trans (hu₀ m)) (hmain m ρ) (fq m) (hfin m) (QC m) (fun _ h hz => ⟨h, hz⟩)

end Cert.Proof.KernelTile

end
-- ==== Proof.KernelArrays.lean ====
/-
  What the whole kernel's arrays hold, stage by stage, as functions of the two arguments: the row numbers the search finds,
  the gathered rows, the straight-through values and the sum of squares.
-/
module

public import proofs.«01_k».proof.Proof.KernelRun
public import proofs.«01_k».proof.Proof.Words
public import Idealize.ShloMosaic.Lib.Pipeline.ValueKit

@[expose] public section

noncomputable section

namespace Cert.Proof.KernelTile

open Cert.KernelIdeal Cert.KernelIdeal.Gen

open Idealize.ShloMosaic
open Idealize.ShloMosaic.TcCoe
open Idealize.ShloMosaic.SparseCore.Cfg (HIx)
open Idealize.ShloMosaic.Pipeline (Dat afterRegion arrRef arrRefs ucRefs)
open Idealize.ShloMosaic.StableHlo (after)
open Idealize.SL Idealize.SL.Sem

variable {F : FTy → Type} [FloatOps F]

/-! ## What the two TensorCore calls leave in their arrays -/

/-- The 256 vectors of block `t`. -/
def blockOf (x : FVec F S16384x32 .f32) (t : Fin 64) : FVec F S256x32 .f32 := fun y => x (ValueIdx.ix2 ⟨256 * t.val + (y 0).val, by have := (y 0).isLt; have : (y 0).val < 256 := this; omega⟩ (y 1))

/-- The row number of each vector: its block's at its place. -/
def foundOf (x : FVec F S16384x32 .f32) (e : FVec F S32x8192 .f32) : IVec S16384 32 := fun j =>
  nearest (blockOf x ⟨(j 0).val / 256, by have : (j 0).val < 16384 := (j 0).isLt; omega⟩) e (ValueIdx.ix1 ⟨(j 0).val % 256, Nat.mod_lt _ (by decide)⟩)

theorem index0_0 : ∀ t : Fin cfg0.N, win0_0.index t 0 = t.val ∧ win0_0.index t 1 = 0 := by decide +kernel
theorem index0_1 : ∀ t : Fin cfg0.N, win0_1.index t 0 = 0 ∧ win0_1.index t 1 = 0 := by decide +kernel
theorem index0_2 : ∀ t : Fin cfg0.N, win0_2.index t 0 = t.val := by decide +kernel
theorem index2_0 : ∀ t : Fin cfg2.N, win2_0.index t 0 = 0 ∧ win2_0.index t 1 = 0 := by decide +kernel
theorem index2_1 : ∀ t : Fin cfg2.N, win2_1.index t 0 = 0 ∧ win2_1.index t 1 = 0 := by decide +kernel

variable (V : Dev nD → Valuation τ sig (Elt F)) (O : Dev nD → CellTallies nD τ sig (HIx 1)) (b : ℕ)

theorem rows0_eq (c : Dev nD) (t : Fin cfg0.N) : rows0 V c t = blockOf (V c (Proc.devRef .tc (main_v1 : Ref sig .tc))) t := by
  funext y
  unfold rows0 blockOf
  blk_ext
  · rw [(index0_0 t).1]; simp [ValueIdx.ix2]; omega
  · rw [(index0_0 t).2]; simp [ValueIdx.ix2]

theorem book0_eq (c : Dev nD) (t : Fin cfg0.N) : book0 V c t = V c (Proc.devRef .tc (main_v2 : Ref sig .tc)) := by
  funext y
  unfold book0
  blk_ext
  · rw [(index0_1 t).1]; omega
  · rw [(index0_1 t).2]; omega

theorem left0_at (c : Dev nD) (t : Fin cfg0.N) : (dat0 V O b c).after 2 t = nearest (blockOf (V c (Proc.devRef .tc (main_v1 : Ref sig .tc))) t) (V c (Proc.devRef .tc (main_v2 : Ref sig .tc))) := by
  rw [after0_2, rows0_eq, book0_eq]

/-- Blocks `X t` of 256 numbers, laid one after the other. -/
theorem found_cell (X : Fin 64 → S256.Idx → BitVec 32) (t : Fin cfg0.N) (y : S256.Idx) :
    X t y = X ⟨((win0_2.blk t).view.emb y 0).val / 256, by have : ((win0_2.blk t).view.emb y 0).val < 16384 := ((win0_2.blk t).view.emb y 0).isLt; omega⟩
      (ValueIdx.ix1 ⟨((win0_2.blk t).view.emb y 0).val % 256, Nat.mod_lt _ (by decide)⟩) := by
  have h : ((win0_2.blk t).view.emb y 0).val = 256 * t.val + (y 0).val := by
    blk_simp
    rw [index0_2 t]; omega
  have hy : (y 0).val < 256 := (y 0).isLt
  congr 1
  · congr 1; refine Fin.ext ?_
    show t.val = ((win0_2.blk t).view.emb y 0).val / 256
    rw [h]; omega
  · funext a; refine Fin.ext ?_
    match a with
    | ⟨0, _⟩ =>
      show (y 0).val = ((win0_2.blk t).view.emb y 0).val % 256
      rw [h]; omega

/-- An array written block by block holds the blocks one after the other. -/
theorem arr0_2 {c : Dev nD} (D : Dat τ (Elt F) (HIx 1) ℕ UU ℕ cfg0 c) (X : Fin 64 → S256.Idx → BitVec 32) (h : ∀ t : Fin cfg0.N, D.after 2 t = X t) :
    D.arrAt 2 cfg0.N = (fun j => X ⟨(j 0).val / 256, by have : (j 0).val < 16384 := (j 0).isLt; omega⟩ (ValueIdx.ix1 ⟨(j 0).val % 256, Nat.mod_lt _ (by decide)⟩) : S16384.Idx → BitVec 32) := by
  refine D.arrAt_eq_of_covers 2 _ (by decide +kernel) fun t hf y => ?_
  rw [show D.after 2 t = X t from h t]
  exact found_cell X t y

theorem found_arr (c : Dev nD) :
    (dat0 V O b c).arrAt 2 cfg0.N = foundOf (V c (Proc.devRef .tc (main_v1 : Ref sig .tc))) (V c (Proc.devRef .tc (main_v2 : Ref sig .tc))) :=
  arr0_2 _ (fun t => nearest (blockOf (V c (Proc.devRef .tc (main_v1 : Ref sig .tc))) t) (V c (Proc.devRef .tc (main_v2 : Ref sig .tc)))) (left0_at V O b c)

theorem rows2_eq (c : Dev nD) (t : Fin cfg2.N) : rows2 V c t = V c (Proc.devRef .tc (main_v1 : Ref sig .tc)) := by
  funext y
  unfold rows2
  blk_ext
  · rw [(index2_0 t).1]; omega
  · rw [(index2_0 t).2]; omega

theorem near2_eq (c : Dev nD) (t : Fin cfg2.N) : near2 V c t = V c (Proc.devRef .tc (main_v6 : Ref sig .tc)) := by
  funext y
  unfold near2
  blk_ext
  · rw [(index2_1 t).1]; omega
  · rw [(index2_1 t).2]; omega

theorem left2_2 (c : Dev nD) (t : Fin cfg2.N) : (dat2 V O b c).after 2 t = through (V c (Proc.devRef .tc (main_v1 : Ref sig .tc))) (V c (Proc.devRef .tc (main_v6 : Ref sig .tc))) := by
  rw [after2_2, rows2_eq, near2_eq]
theorem left2_3 (c : Dev nD) (t : Fin cfg2.N) : (dat2 V O b c).after 3 t = sumSq (V c (Proc.devRef .tc (main_v1 : Ref sig .tc))) (V c (Proc.devRef .tc (main_v6 : Ref sig .tc))) := by
  rw [after2_3, rows2_eq, near2_eq]

theorem whole2_2 : (cfg2.win 2).WholeAt t2_0 := by decide +kernel
theorem whole2_3 : (cfg2.win 3).WholeAt t2_0 := by decide +kernel

/-- An array written whole by the one point is what that point left. -/
theorem arr2_2 {c : Dev nD} (D : Dat τ (Elt F) (HIx 1) ℕ UU ℕ cfg2 c) (X : FVec F S16384x32 .f32) (h : D.after 2 t2_0 = X) : D.arrAt 2 cfg2.N = X := by
  refine D.arrAt_eq_of_after_last 2 t2_0 whole2_2 _ fun j => ?_
  rw [h]; rfl
theorem arr2_3 {c : Dev nD} (D : Dat τ (Elt F) (HIx 1) ℕ UU ℕ cfg2 c) (X : FVec F S1x1 .f32) (h : D.after 3 t2_0 = X) : D.arrAt 3 cfg2.N = X := by
  refine D.arrAt_eq_of_after_last 3 t2_0 whole2_3 _ fun j => ?_
  rw [h]; rfl

theorem through_arr (c : Dev nD) :
    (dat2 V O b c).arrAt 2 cfg2.N = through (V c (Proc.devRef .tc (main_v1 : Ref sig .tc))) (V c (Proc.devRef .tc (main_v6 : Ref sig .tc))) :=
  arr2_2 _ _ (left2_2 V O b c t2_0)

theorem sumSq_arr (c : Dev nD) :
    (dat2 V O b c).arrAt 3 cfg2.N = sumSq (V c (Proc.devRef .tc (main_v1 : Ref sig .tc))) (V c (Proc.devRef .tc (main_v6 : Ref sig .tc))) :=
  arr2_3 _ _ (left2_3 V O b c t2_0)

/-! ## The arrays, from the launch to the end -/

variable (m : (ℓ : Loc nD τ sig) → Buf (Elt F) ℓ)

abbrev argX (d : Dev nD) : FVec F S16x32x32x32 .f32 := m (d, Proc.devRef .tc (main_arg0 : Ref sig .tc))
abbrev argE (d : Dev nD) : FVec F S8192x32 .f32 := m (d, Proc.devRef .tc (main_arg1 : Ref sig .tc))

/-- The vectors, one to a row, and the codebook transposed. -/
def rowsOf (x : FVec F S16x32x32x32 .f32) : FVec F S16384x32 .f32 :=
  shapeCast S16384x32 (transpose S16x32x32x32 [0, 2, 3, 1] x transposes_S16x32x32x32_S16x32x32x32_0_2_3_1) shapeCasts_S16x32x32x32_S16384x32
def colsOf (e : FVec F S8192x32 .f32) : FVec F S32x8192 .f32 := transpose S32x8192 [1, 0] e transposes_S8192x32_S32x8192_1_0

/-- The row numbers found, and the codebook's rows of those numbers. -/
def idxOf (x : FVec F S16x32x32x32 .f32) (e : FVec F S8192x32 .f32) : IVec S16384 32 := foundOf (rowsOf x) (colsOf e)
def nearOf (e : FVec F S8192x32 .f32) (ix : IVec S16384 32) : FVec F S16384x32 .f32 := fun j => e (ValueIdx.ix2 (rowNo (ix (ValueIdx.ix1 (j 0)))) (j 1))

theorem W1_v1 (d : Dev nD) : W1 m d (Proc.devRef .tc (main_v1 : Ref sig .tc)) = rowsOf (argX m d) := by
  unfold W1 W0; simp only [opsRows]; after_results <;> rfl
theorem W1_v2 (d : Dev nD) : W1 m d (Proc.devRef .tc (main_v2 : Ref sig .tc)) = colsOf (argE m d) := by
  unfold W1 W0; simp only [opsRows]; after_results <;> rfl
theorem W1_arg0 (d : Dev nD) : W1 m d (Proc.devRef .tc (main_arg0 : Ref sig .tc)) = argX m d := by
  unfold W1 W0; simp only [opsRows]; after_results <;> rfl
theorem W1_arg1 (d : Dev nD) : W1 m d (Proc.devRef .tc (main_arg1 : Ref sig .tc)) = argE m d := by
  unfold W1 W0; simp only [opsRows]; after_results <;> rfl

theorem W2_v3 (d : Dev nD) : W2 m d iR = idxOf (argX m d) (argE m d) := by
  unfold W2 idxOf
  rw [← W1_v1, ← W1_v2]
  exact (Pipeline.afterRegion_arr (dat0 (W1 m) (owed (F := F) 0) (lvl 0) d) (W1 m d) launch0.win.arr_inj 2).trans (found_arr (W1 m) _ _ d)

theorem W2_keeps (d : Dev nD) (r : Ref sig .tc) (h : r ≠ main_v3) : W2 m d (Proc.devRef .tc r) = W1 m d (Proc.devRef .tc r) :=
  Pipeline.afterRegion_keeps (dat0 (W1 m) (owed (F := F) 0) (lvl 0) d) (W1 m d) launch0.win.arr_inj (fun _ => rfl) r
    fun w e => match w with | 0 => rfl | 1 => rfl | 2 => absurd e.symm h

abbrev aR : DevRef τ sig := Proc.devRef .tc (main_arg0 : Ref sig .tc)
abbrev eR : DevRef τ sig := Proc.devRef .tc (main_arg1 : Ref sig .tc)
abbrev xR : DevRef τ sig := Proc.devRef .tc (main_v1 : Ref sig .tc)
abbrev qR : DevRef τ sig := Proc.devRef .tc (main_v6 : Ref sig .tc)

section pad

variable (W : Valuation τ sig (Elt F))

theorem pad_keeps (r : Ref sig .tc) (h : r = main_arg0 ∨ r = main_arg1 ∨ r = main_v1 ∨ r = main_v3) : after opsPad W (Proc.devRef .tc r) = W (Proc.devRef .tc r) := by
  simp only [opsPad, StableHlo.TRef.binary, StableHlo.TRef.unary, StableHlo.TRef.toBuf, StableHlo.TRef.ofBuf, cast_eq]
  rcases h with rfl | rfl | rfl | rfl <;> (after_results <;> rfl)

theorem pad_table : ∃ v : S_.Idx → Elt F .f32,
    after opsPad W tR = (pad S8192x128 ![0, 0] ![0, 96] ![0, 0] (W eR : S8192x32.Idx → Elt F .f32) v pads_S8192x32_S8192x128_000_0960 h_S_ : S8192x128.Idx → Elt F .f32) := by
  refine ⟨sitofp .f32 (constantI S_ 32 0#32), ?_⟩
  simp only [opsPad, StableHlo.TRef.binary, StableHlo.TRef.unary, StableHlo.TRef.toBuf, StableHlo.TRef.ofBuf, cast_eq]
  after_results <;> rfl

theorem cut_keeps (r : Ref sig .tc) (h : r = main_arg0 ∨ r = main_arg1 ∨ r = main_v1 ∨ r = main_v3) : after opsCut W (Proc.devRef .tc r) = W (Proc.devRef .tc r) := by
  simp only [opsCut]
  rcases h with rfl | rfl | rfl | rfl <;> (after_results <;> rfl)

theorem cut_rows : after opsCut W qR = (extractStridedSlice S16384x32 ![0, 0] (W oR : S16384x128.Idx → Elt F .f32) slices_S16384x128_S16384x32_0_0 : S16384x32.Idx → Elt F .f32) := by
  simp only [opsCut]
  after_results <;> rfl

theorem out_keeps (r : Ref sig .tc) (h : r = main_arg0 ∨ r = main_arg1) : after opsOut W (Proc.devRef .tc r) = W (Proc.devRef .tc r) := by
  simp only [opsOut]
  rcases h with rfl | rfl <;> (after_results <;> rfl)

/-- The mean of the squares, the loss and the two arrays in the inputs' layout. -/
def meanOf (s : FVec F S1x1 .f32) : FVec F S_ .f32 := Host.divf (shapeCast S_ s shapeCasts_S1x1_S_) (constant S_ .f32 0x49000000#32)
def lossOf (s : FVec F S1x1 .f32) : FVec F S_ .f32 := addf (meanOf s) (mulf (constant S_ .f32 0x3E800000#32) (meanOf s))
def backOf (y : FVec F S16384x32 .f32) : FVec F S16x32x32x32 .f32 :=
  transpose S16x32x32x32 [0, 3, 1, 2] (shapeCast S16x32x32x32 y shapeCasts_S16384x32_S16x32x32x32) transposes_S16x32x32x32_S16x32x32x32_0_3_1_2

theorem out_mean : after opsOut W (Proc.devRef .tc (main_v9 : Ref sig .tc)) = meanOf (W (Proc.devRef .tc (main_v7_1 : Ref sig .tc))) := by
  simp only [opsOut]
  after_results <;> rfl
theorem out_loss : after opsOut W (Proc.devRef .tc (main_v11 : Ref sig .tc)) = lossOf (W (Proc.devRef .tc (main_v7_1 : Ref sig .tc))) := by
  simp only [opsOut]
  after_results <;> rfl
theorem out_back : after opsOut W (Proc.devRef .tc (main_v13 : Ref sig .tc)) = backOf (W (Proc.devRef .tc (main_v7_0 : Ref sig .tc))) := by
  simp only [opsOut]
  after_results <;> rfl
theorem out_index : after opsOut W (Proc.devRef .tc (main_v14 : Ref sig .tc)) = (shapeCast S16x32x32 (W iR : S16384.Idx → BitVec 32) shapeCasts_S16384_S16x32x32 : S16x32x32.Idx → BitVec 32) := by
  simp only [opsOut]
  after_results <;> rfl

end pad

theorem ix_eq (d : Dev nD) : ix m d = idxOf (argX m d) (argE m d) :=
  (pad_keeps (W2 m d) main_v3 (by decide)).trans (W2_v3 m d)

theorem W3_arg0 (d : Dev nD) : W3 m d aR = argX m d :=
  (pad_keeps (W2 m d) main_arg0 (by decide)).trans ((W2_keeps m d main_arg0 (by decide)).trans (W1_arg0 m d))
theorem W3_arg1 (d : Dev nD) : W3 m d eR = argE m d :=
  (pad_keeps (W2 m d) main_arg1 (by decide)).trans ((W2_keeps m d main_arg1 (by decide)).trans (W1_arg1 m d))
theorem W3_v1 (d : Dev nD) : W3 m d xR = rowsOf (argX m d) :=
  (pad_keeps (W2 m d) main_v1 (by decide)).trans ((W2_keeps m d main_v1 (by decide)).trans (W1_v1 m d))

theorem tb_eq (d : Dev nD) : ∃ v : S_.Idx → Elt F .f32,
    tb m d = (pad S8192x128 ![0, 0] ![0, 96] ![0, 0] (argE m d) v pads_S8192x32_S8192x128_000_0960 h_S_ : S8192x128.Idx → Elt F .f32) := by
  obtain ⟨v, hv⟩ := pad_table (W2 m d)
  refine ⟨v, hv.trans ?_⟩
  rw [W2_keeps m d main_arg1 (by decide), W1_arg1]

theorem W5_keeps (d : Dev nD) (r : Ref sig .tc) (h : r = main_arg0 ∨ r = main_arg1 ∨ r = main_v1 ∨ r = main_v3) : W5 m d (Proc.devRef .tc r) = W3 m d (Proc.devRef .tc r) :=
  (cut_keeps (W4 m d) r h).trans (W4_ne m d _ (by rcases h with rfl | rfl | rfl | rfl <;> decide))

/-- A column below 32 of the padded codebook is the codebook's. -/
theorem padded_apply (x : S8192x32.Idx → Elt F .f32) (v : S_.Idx → Elt F .f32) (r : Fin 8192) (b : Fin 32) :
    pad S8192x128 ![0, 0] ![0, 96] ![0, 0] x v pads_S8192x32_S8192x128_000_0960 h_S_ (ValueIdx.ix2 r ⟨b.val, by omega⟩) = x (ValueIdx.ix2 r b) := by
  unfold pad
  rw [dif_pos]
  · congr 1; funext a; refine Fin.ext ?_
    match a with
    | ⟨0, _⟩ => simp [ValueIdx.ix2]
    | ⟨1, _⟩ => simp [ValueIdx.ix2]
  · intro a
    match a with
    | ⟨0, _⟩ => exact ⟨Nat.zero_le _, by simp [Nat.mod_one], by simpa [ValueIdx.ix2] using r.isLt⟩
    | ⟨1, _⟩ => exact ⟨Nat.zero_le _, by simp [Nat.mod_one], by simpa [ValueIdx.ix2] using b.isLt⟩

theorem W5_v6 (d : Dev nD) : W5 m d qR = nearOf (argE m d) (idxOf (argX m d) (argE m d)) := by
  refine (cut_rows (W4 m d)).trans ?_
  rw [W4_o]
  obtain ⟨v, hv⟩ := tb_eq m d
  funext j
  unfold nearOf
  rw [← ix_eq]
  refine Eq.trans ?_ (padded_apply (argE m d) v _ (j 1))
  rw [← hv]
  unfold extractStridedSlice takenAt taken
  congr 1
  funext k; refine Fin.ext ?_
  match k with
  | ⟨0, _⟩ =>
    show (rowNo ((ix m d : S16384.Idx → BitVec 32) _)).val = (rowNo ((ix m d : S16384.Idx → BitVec 32) (ValueIdx.ix1 (j 0)))).val
    congr 3
    funext q; refine Fin.ext ?_
    match q with
    | ⟨0, _⟩ => exact Nat.zero_add _
  | ⟨1, _⟩ => exact Nat.zero_add _

theorem W6_keeps (d : Dev nD) (r : Ref sig .tc) (h0 : r ≠ main_v7_0) (h1 : r ≠ main_v7_1) : W6 m d (Proc.devRef .tc r) = W5 m d (Proc.devRef .tc r) :=
  Pipeline.afterRegion_keeps (dat2 (W5 m) (owed (F := F) 1) (lvl 1) d) (W5 m d) launch2.win.arr_inj (fun _ => rfl) r
    fun w e => match w with | 0 => rfl | 1 => rfl | 2 => absurd e.symm h0 | 3 => absurd e.symm h1

abbrev near (d : Dev nD) : FVec F S16384x32 .f32 := nearOf (argE m d) (idxOf (argX m d) (argE m d))

theorem W6_v7_0 (d : Dev nD) : W6 m d (Proc.devRef .tc (main_v7_0 : Ref sig .tc)) = through (rowsOf (argX m d)) (near m d) := by
  rw [← W3_v1, ← W5_keeps m d main_v1 (by decide), near, ← W5_v6]
  exact (Pipeline.afterRegion_arr (dat2 (W5 m) (owed (F := F) 1) (lvl 1) d) (W5 m d) launch2.win.arr_inj 2).trans (through_arr (W5 m) _ _ d)
theorem W6_v7_1 (d : Dev nD) : W6 m d (Proc.devRef .tc (main_v7_1 : Ref sig .tc)) = sumSq (rowsOf (argX m d)) (near m d) := by
  rw [← W3_v1, ← W5_keeps m d main_v1 (by decide), near, ← W5_v6]
  exact (Pipeline.afterRegion_arr (dat2 (W5 m) (owed (F := F) 1) (lvl 1) d) (W5 m d) launch2.win.arr_inj 3).trans (sumSq_arr (W5 m) _ _ d)

theorem W6_v3 (d : Dev nD) : W6 m d iR = idxOf (argX m d) (argE m d) :=
  (W6_keeps m d main_v3 (by decide) (by decide)).trans ((W5_keeps m d main_v3 (by decide)).trans (ix_eq m d))

theorem W7_arg0 (d : Dev nD) : W7 m d aR = argX m d :=
  (out_keeps (W6 m d) main_arg0 (by decide)).trans ((W6_keeps m d main_arg0 (by decide) (by decide)).trans ((W5_keeps m d main_arg0 (by decide)).trans (W3_arg0 m d)))
theorem W7_arg1 (d : Dev nD) : W7 m d eR = argE m d :=
  (out_keeps (W6 m d) main_arg1 (by decide)).trans ((W6_keeps m d main_arg1 (by decide) (by decide)).trans ((W5_keeps m d main_arg1 (by decide)).trans (W3_arg1 m d)))

/-! ## The run, read at the results -/

/-- What the results hold as functions of the inputs and the codebook. -/
def QR (r : PUnit × MemSt nD τ sig (Elt F)) : Prop := ∀ c : Dev nD,
  r.2.mem ((c.tc : Thread nD τ).loc main_v13) = backOf (through (rowsOf (argX m c)) (near m c))
    ∧ r.2.mem ((c.tc : Thread nD τ).loc main_v9) = meanOf (sumSq (rowsOf (argX m c)) (near m c))
    ∧ r.2.mem ((c.tc : Thread nD τ).loc main_v11) = lossOf (sumSq (rowsOf (argX m c)) (near m c))
    ∧ r.2.mem ((c.tc : Thread nD τ).loc main_v14) = (shapeCast S16x32x32 (idxOf (argX m c) (argE m c)) shapeCasts_S16384_S16x32x32 : S16x32x32.Idx → BitVec 32)
    ∧ r.2.mem ((c.tc : Thread nD τ).loc main_arg0) = m ((c.tc : Thread nD τ).loc main_arg0)
    ∧ r.2.mem ((c.tc : Thread nD τ).loc main_arg1) = m ((c.tc : Thread nD τ).loc main_arg1)

theorem QR_of_QC (r : PUnit × MemSt nD τ sig (Elt F)) (h : QC m r) : QR m r := fun c =>
  ⟨(h.1 c (Proc.devRef .tc (main_v13 : Ref sig .tc)) (by decide)).trans ((out_back (W6 m c)).trans (by rw [W6_v7_0])),
    (h.1 c (Proc.devRef .tc (main_v9 : Ref sig .tc)) (by decide)).trans ((out_mean (W6 m c)).trans (by rw [W6_v7_1])),
    (h.1 c (Proc.devRef .tc (main_v11 : Ref sig .tc)) (by decide)).trans ((out_loss (W6 m c)).trans (by rw [W6_v7_1])),
    (h.1 c (Proc.devRef .tc (main_v14 : Ref sig .tc)) (by decide)).trans ((out_index (W6 m c)).trans (by rw [W6_v3])),
    (h.1 c (Proc.devRef .tc (main_arg0 : Ref sig .tc)) (by decide)).trans (W7_arg0 m c), (h.1 c (Proc.devRef .tc (main_arg1 : Ref sig .tc)) (by decide)).trans (W7_arg1 m c)⟩

end Cert.Proof.KernelTile

end
-- ==== Proof.ReferenceRun.lean ====
/-
  The reference's run: its host operations in four parts — the distances, the index of each row's least, the codebook's rows of
  those indices, the losses — and what each part's results are as functions of its arguments.
-/
module

public import proofs.«01_k».proof.Proof.TakeRead
public import proofs.«01_k».proof.Proof.Gen.ReferenceIdeal
public import Idealize.ShloMosaic.Lib.StableHlo.Run

@[expose] public section

noncomputable section

namespace Cert.Proof.ReferenceRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The distances of the vectors from the codebook's rows. -/
abbrev opsDist : List (HloOp τ sig (Elt F)) :=
  [unary main_arg0 main_v0 ((transpose S16x32x32x32 [0, 2, 3, 1] · transposes_S16x32x32x32_S16x32x32x32_0_2_3_1) : (⟨S16x32x32x32, .f32⟩ : BufTy).Contents (Elt F) → (⟨S16x32x32x32, .f32⟩ : BufTy).Contents (Elt F)),
   reshape main_v0 main_v1 (rfl : (.f32 : EltTy) = .f32) shapeCasts_S16x32x32x32_S16384x32,
   binary main_v1 main_v1 main_v2 (mulf : (⟨S16384x32, .f32⟩ : BufTy).Contents (Elt F) → (⟨S16384x32, .f32⟩ : BufTy).Contents (Elt F) → (⟨S16384x32, .f32⟩ : BufTy).Contents (Elt F)),
   nullary main_cst (constant S_ .f32 0x00000000#32),
   binary main_v2 main_cst main_v3 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
   unary main_v3 main_v4 (broadcastInDim S16384x1 ![0] bcast_S16384_S16384x1_0 : (⟨S16384, .f32⟩ : BufTy).Contents (Elt F) → (⟨S16384x1, .f32⟩ : BufTy).Contents (Elt F)),
   binary main_arg1 main_arg1 main_v5 (mulf : (⟨S8192x32, .f32⟩ : BufTy).Contents (Elt F) → (⟨S8192x32, .f32⟩ : BufTy).Contents (Elt F) → (⟨S8192x32, .f32⟩ : BufTy).Contents (Elt F)),
   nullary main_cst_0 (constant S_ .f32 0x00000000#32),
   binary main_v5 main_cst_0 main_v6 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v6 main_v7 (broadcastInDim S1x8192 ![1] bcast_S8192_S1x8192_1 : (⟨S8192, .f32⟩ : BufTy).Contents (Elt F) → (⟨S1x8192, .f32⟩ : BufTy).Contents (Elt F)),
   unary main_v4 main_v8 (broadcastInDim S16384x8192 ![0, 1] bcast_S16384x1_S16384x8192_0_1 : (⟨S16384x1, .f32⟩ : BufTy).Contents (Elt F) → (⟨S16384x8192, .f32⟩ : BufTy).Contents (Elt F)),
   unary main_v7 main_v9 (broadcastInDim S16384x8192 ![0, 1] bcast_S1x8192_S16384x8192_0_1 : (⟨S1x8192, .f32⟩ : BufTy).Contents (Elt F) → (⟨S16384x8192, .f32⟩ : BufTy).Contents (Elt F)),
   binary main_v8 main_v9 main_v10 (addf : (⟨S16384x8192, .f32⟩ : BufTy).Contents (Elt F) → (⟨S16384x8192, .f32⟩ : BufTy).Contents (Elt F) → (⟨S16384x8192, .f32⟩ : BufTy).Contents (Elt F)),
   unary main_arg1 main_v11 ((transpose S32x8192 [1, 0] · transposes_S8192x32_S32x8192_1_0) : (⟨S8192x32, .f32⟩ : BufTy).Contents (Elt F) → (⟨S32x8192, .f32⟩ : BufTy).Contents (Elt F)),
   binary main_v1 main_v11 main_v12 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
   nullary main_cst_1 (constant S_ .f32 0x40000000#32),
   unary main_cst_1 main_v13 (broadcastInDim S16384x8192 ![] bcast_S_S16384x8192 : (⟨S_, .f32⟩ : BufTy).Contents (Elt F) → (⟨S16384x8192, .f32⟩ : BufTy).Contents (Elt F)),
   binary main_v13 main_v12 main_v14 (mulf : (⟨S16384x8192, .f32⟩ : BufTy).Contents (Elt F) → (⟨S16384x8192, .f32⟩ : BufTy).Contents (Elt F) → (⟨S16384x8192, .f32⟩ : BufTy).Contents (Elt F)),
   binary main_v10 main_v14 main_v15 (subf : (⟨S16384x8192, .f32⟩ : BufTy).Contents (Elt F) → (⟨S16384x8192, .f32⟩ : BufTy).Contents (Elt F) → (⟨S16384x8192, .f32⟩ : BufTy).Contents (Elt F)),
   nullary main_cst_2 (constant S_ .f32 0x00000000#32),
   unary main_cst_2 main_v16 (broadcastInDim S16384x8192 ![] bcast_S_S16384x8192 : (⟨S_, .f32⟩ : BufTy).Contents (Elt F) → (⟨S16384x8192, .f32⟩ : BufTy).Contents (Elt F)),
   binary main_v15 main_v16 main_v17 (maximumf : (⟨S16384x8192, .f32⟩ : BufTy).Contents (Elt F) → (⟨S16384x8192, .f32⟩ : BufTy).Contents (Elt F) → (⟨S16384x8192, .f32⟩ : BufTy).Contents (Elt F)),
   unary main_v17 main_v18 (Host.sqrt : (⟨S16384x8192, .f32⟩ : BufTy).Contents (Elt F) → (⟨S16384x8192, .f32⟩ : BufTy).Contents (Elt F))]

/-- The index of each row's least distance. -/
abbrev opsArg : List (HloOp τ sig (Elt F)) :=
  [TRef.nullary main_call0.v0 (iotaInDim S16384x8192 32 1),
   TRef.nullary main_call0.cst (constant S_ .f32 0x7F800000#32),
   TRef.nullary main_call0.c (constantI S_ 32 0#32),
   TRef.quaternary (TRef.of (T := ⟨S16384x8192, .f32⟩) main_v18) main_call0.v0 main_call0.cst main_call0.c main_call0.v1_0 (fun x y u v j => (Host.argReduce reducer_argmin_f32_i32 x y u v reducesTo_S16384x8192_S16384_d1 h_S_ j).1),
   TRef.quaternary (TRef.of (T := ⟨S16384x8192, .f32⟩) main_v18) main_call0.v0 main_call0.cst main_call0.c main_call0.v1_1 (fun x y u v j => (Host.argReduce reducer_argmin_f32_i32 x y u v reducesTo_S16384x8192_S16384_d1 h_S_ j).2)]

/-- The codebook's rows of those indices. -/
abbrev opsTake : List (HloOp τ sig (Elt F)) :=
  [TRef.nullary main_call1.c (constantI S_ 32 0#32),
   TRef.unary main_call1.c main_call1.v0 (broadcastInDim S16384 ![] bcast_S_S16384),
   TRef.binary (TRef.of (T := ⟨S16384, .i32⟩) main_v19) main_call1.v0 main_call1.v1 (cmpi .slt),
   TRef.nullary main_call1.c_0 (constantI S_ 32 8192#32),
   TRef.unary main_call1.c_0 main_call1.v2 (broadcastInDim S16384 ![] bcast_S_S16384),
   TRef.binary (TRef.of (T := ⟨S16384, .i32⟩) main_v19) main_call1.v2 main_call1.v3 addi,
   TRef.ternary main_call1.v1 main_call1.v3 (TRef.of (T := ⟨S16384, .i32⟩) main_v19) main_call1.call0.v0 select,
   TRef.unary main_call1.call0.v0 main_call1.v5 (broadcastInDim S16384x1 ![0] bcast_S16384_S16384x1_0),
   TRef.nullary main_call1.c_1 (constantI S1 32 8191#32),
   TRef.nullary main_call1.c_2 (constantI S_ 32 0#32),
   TRef.unary main_call1.c_2 main_call1.v6 (broadcastInDim S16384x1 ![] bcast_S_S16384x1),
   TRef.binary main_call1.v5 main_call1.v6 main_call1.v7 (cmpi .sge),
   TRef.unary main_call1.c_1 main_call1.v8 (broadcastInDim S1x1 ![1] bcast_S1_S1x1_1),
   TRef.unary main_call1.v8 main_call1.v9 (broadcastInDim S16384x1 ![0, 1] bcast_S1x1_S16384x1_0_1),
   TRef.binary main_call1.v5 main_call1.v9 main_call1.v10 (cmpi .sle),
   TRef.binary main_call1.v7 main_call1.v10 main_call1.v11 andi,
   TRef.nullary main_call1.c_3 (constantI S_ 1 1#1),
   TRef.binary main_call1.v11 main_call1.c_3 main_call1.v12 (fun x v => Host.reduce IntOp.andi x v reducesTo_S16384x1_S16384_d1 h_S_),
   TRef.binary (TRef.of (T := ⟨S8192x32, .f32⟩) main_arg1) main_call1.v5 main_call1.v13 (fun x i => Host.gather gather_S8192x32_S16384x1_S16384x32_1_0_n_n_0_1_132 x i),
   TRef.unary main_call1.v12 main_call1.v14 (broadcastInDim S16384x32 ![0] bcast_S16384_S16384x32_0),
   TRef.nullary main_call1.cst (constant S_ .f32 0x7FC00000#32),
   TRef.unary main_call1.cst main_call1.v15 (broadcastInDim S16384x32 ![] bcast_S_S16384x32),
   TRef.ternary main_call1.v14 main_call1.v13 main_call1.v15 main_call1.v16 select]

/-- The losses and the straight-through values. -/
abbrev opsTail : List (HloOp τ sig (Elt F)) :=
  [reshape main_v20 main_v21 (rfl : (.f32 : EltTy) = .f32) shapeCasts_S16384x32_S16x32x32x32,
   unary main_v21 main_v22 ((transpose S16x32x32x32 [0, 3, 1, 2] · transposes_S16x32x32x32_S16x32x32x32_0_3_1_2) : (⟨S16x32x32x32, .f32⟩ : BufTy).Contents (Elt F) → (⟨S16x32x32x32, .f32⟩ : BufTy).Contents (Elt F)),
   binary main_v22 main_arg0 main_v23 (subf : (⟨S16x32x32x32, .f32⟩ : BufTy).Contents (Elt F) → (⟨S16x32x32x32, .f32⟩ : BufTy).Contents (Elt F) → (⟨S16x32x32x32, .f32⟩ : BufTy).Contents (Elt F)),
   binary main_v23 main_v23 main_v24 (mulf : (⟨S16x32x32x32, .f32⟩ : BufTy).Contents (Elt F) → (⟨S16x32x32x32, .f32⟩ : BufTy).Contents (Elt F) → (⟨S16x32x32x32, .f32⟩ : BufTy).Contents (Elt F)),
   nullary main_cst_3 (constant S_ .f32 0x00000000#32),
   binary main_v24 main_cst_3 main_v25 ((fun x v => Host.reduceAdd x v reducesTo_S16x32x32x32_S_d0_1_2_3 h_S_) : (⟨S16x32x32x32, .f32⟩ : BufTy).Contents (Elt F) → (⟨S_, .f32⟩ : BufTy).Contents (Elt F) → (⟨S_, .f32⟩ : BufTy).Contents (Elt F)),
   nullary main_cst_4 (constant S_ .f32 0x49000000#32),
   binary main_v25 main_cst_4 main_v26 (Host.divf : (⟨S_, .f32⟩ : BufTy).Contents (Elt F) → (⟨S_, .f32⟩ : BufTy).Contents (Elt F) → (⟨S_, .f32⟩ : BufTy).Contents (Elt F)),
   binary main_v22 main_arg0 main_v27 (subf : (⟨S16x32x32x32, .f32⟩ : BufTy).Contents (Elt F) → (⟨S16x32x32x32, .f32⟩ : BufTy).Contents (Elt F) → (⟨S16x32x32x32, .f32⟩ : BufTy).Contents (Elt F)),
   binary main_v27 main_v27 main_v28 (mulf : (⟨S16x32x32x32, .f32⟩ : BufTy).Contents (Elt F) → (⟨S16x32x32x32, .f32⟩ : BufTy).Contents (Elt F) → (⟨S16x32x32x32, .f32⟩ : BufTy).Contents (Elt F)),
   nullary main_cst_5 (constant S_ .f32 0x00000000#32),
   binary main_v28 main_cst_5 main_v29 ((fun x v => Host.reduceAdd x v reducesTo_S16x32x32x32_S_d0_1_2_3 h_S_) : (⟨S16x32x32x32, .f32⟩ : BufTy).Contents (Elt F) → (⟨S_, .f32⟩ : BufTy).Contents (Elt F) → (⟨S_, .f32⟩ : BufTy).Contents (Elt F)),
   nullary main_cst_6 (constant S_ .f32 0x49000000#32),
   binary main_v29 main_cst_6 main_v30 (Host.divf : (⟨S_, .f32⟩ : BufTy).Contents (Elt F) → (⟨S_, .f32⟩ : BufTy).Contents (Elt F) → (⟨S_, .f32⟩ : BufTy).Contents (Elt F)),
   nullary main_cst_7 (constant S_ .f32 0x3E800000#32),
   binary main_cst_7 main_v30 main_v31 (mulf : (⟨S_, .f32⟩ : BufTy).Contents (Elt F) → (⟨S_, .f32⟩ : BufTy).Contents (Elt F) → (⟨S_, .f32⟩ : BufTy).Contents (Elt F)),
   binary main_v26 main_v31 main_v32 (addf : (⟨S_, .f32⟩ : BufTy).Contents (Elt F) → (⟨S_, .f32⟩ : BufTy).Contents (Elt F) → (⟨S_, .f32⟩ : BufTy).Contents (Elt F)),
   binary main_v22 main_arg0 main_v33 (subf : (⟨S16x32x32x32, .f32⟩ : BufTy).Contents (Elt F) → (⟨S16x32x32x32, .f32⟩ : BufTy).Contents (Elt F) → (⟨S16x32x32x32, .f32⟩ : BufTy).Contents (Elt F)),
   binary main_arg0 main_v33 main_v34 (addf : (⟨S16x32x32x32, .f32⟩ : BufTy).Contents (Elt F) → (⟨S16x32x32x32, .f32⟩ : BufTy).Contents (Elt F) → (⟨S16x32x32x32, .f32⟩ : BufTy).Contents (Elt F)),
   reshape main_v19 main_v35 (rfl : (.i32 : EltTy) = .i32) shapeCasts_S16384_S16x32x32]

abbrev ops : List (HloOp τ sig (Elt F)) := opsDist ++ (opsArg ++ (opsTake ++ opsTail))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem dist_sub : (opsDist : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩
theorem arg_sub : (opsArg : List (HloOp τ sig (Elt F))).Forall fun op => op.bufs ⊆ tcRefs τ sig :=
  ⟨nullary_bufs_sub .., nullary_bufs_sub .., nullary_bufs_sub .., quaternary_bufs_sub .., quaternary_bufs_sub ..⟩
theorem take_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem tail_sub : (opsTail : List (HloOp τ sig (Elt F))).Forall fun op => op.bufs ⊆ tcRefs τ sig :=
  ⟨reshape_bufs_sub .., unary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., reshape_bufs_sub ..⟩
theorem ops_sub : (ops : List (HloOp τ sig (Elt F))).Forall fun op => op.bufs ⊆ tcRefs τ sig :=
  List.forall_append.mpr ⟨dist_sub, List.forall_append.mpr ⟨arg_sub, List.forall_append.mpr ⟨take_sub, tail_sub⟩⟩⟩

/-! ## What each part computes -/

/-- The vectors, one to a row. -/
def rows (x : FVec F S16x32x32x32 .f32) : FVec F S16384x32 .f32 :=
  shapeCast S16384x32 (transpose S16x32x32x32 [0, 2, 3, 1] x transposes_S16x32x32x32_S16x32x32x32_0_2_3_1) shapeCasts_S16x32x32x32_S16384x32

/-- The sums of the squares of the rows. -/
def rowSq (r : FVec F S16384x32 .f32) : FVec F S16384 .f32 := Host.reduceAdd (mulf r r) (constant S_ .f32 0x00000000#32) reducesTo_S16384x32_S16384_d1 h_S_
def bookSq (e : FVec F S8192x32 .f32) : FVec F S8192 .f32 := Host.reduceAdd (mulf e e) (constant S_ .f32 0x00000000#32) reducesTo_S8192x32_S8192_d1 h_S_

/-- The products of the vectors with the codebook's rows. -/
def dots (r : FVec F S16384x32 .f32) (e : FVec F S8192x32 .f32) : FVec F S16384x8192 .f32 :=
  Host.dotGeneral dot_S16384x32_S32x8192_S16384x8192_1_0_0_1_n_n none r (transpose S32x8192 [1, 0] e transposes_S8192x32_S32x8192_1_0)

/-- The distances of the vectors from the codebook's rows. -/
def dist (r : FVec F S16384x32 .f32) (e : FVec F S8192x32 .f32) : FVec F S16384x8192 .f32 :=
  Host.sqrt (maximumf (subf (addf (broadcastInDim S16384x8192 ![0, 1] bcast_S16384x1_S16384x8192_0_1 (broadcastInDim S16384x1 ![0] bcast_S16384_S16384x1_0 (rowSq r)))
      (broadcastInDim S16384x8192 ![0, 1] bcast_S1x8192_S16384x8192_0_1 (broadcastInDim S1x8192 ![1] bcast_S8192_S1x8192_1 (bookSq e))))
    (mulf (broadcastInDim S16384x8192 ![] bcast_S_S16384x8192 (constant S_ .f32 0x40000000#32)) (dots r e)))
    (broadcastInDim S16384x8192 ![] bcast_S_S16384x8192 (constant S_ .f32 0x00000000#32)))

/-- The index of each row's least. -/
def least (d : FVec F S16384x8192 .f32) : IVec S16384 32 := fun j =>
  (Host.argReduce reducer_argmin_f32_i32 d (iotaInDim S16384x8192 32 1) (constant S_ .f32 0x7F800000#32) (constantI S_ 32 0#32) reducesTo_S16384x8192_S16384_d1 h_S_ j).2

/-- The gathered rows in the inputs' layout. -/
def back (q : FVec F S16384x32 .f32) : FVec F S16x32x32x32 .f32 :=
  transpose S16x32x32x32 [0, 3, 1, 2] (shapeCast S16x32x32x32 q shapeCasts_S16384x32_S16x32x32x32) transposes_S16x32x32x32_S16x32x32x32_0_3_1_2

/-- The mean of the squared differences, and the loss made of it. -/
def mean (q x : FVec F S16x32x32x32 .f32) : FVec F S_ .f32 :=
  Host.divf (Host.reduceAdd (mulf (subf q x) (subf q x)) (constant S_ .f32 0x00000000#32) reducesTo_S16x32x32x32_S_d0_1_2_3 h_S_) (constant S_ .f32 0x49000000#32)
def loss (q x : FVec F S16x32x32x32 .f32) : FVec F S_ .f32 := addf (mean q x) (mulf (constant S_ .f32 0x3E800000#32) (mean q x))

section parts

variable (W : Valuation τ sig (Elt F))

theorem dist_keeps (r : Ref sig .tc) (h : r = main_arg0 ∨ r = main_arg1) : after opsDist W (Proc.devRef .tc r) = W (Proc.devRef .tc r) := by
  simp only [opsDist]
  rcases h with rfl | rfl <;> (after_results <;> rfl)

theorem dist_at : after opsDist W (Proc.devRef .tc (main_v18 : Ref sig .tc)) = dist (rows (W (Proc.devRef .tc (main_arg0 : Ref sig .tc)))) (W (Proc.devRef .tc (main_arg1 : Ref sig .tc))) := by
  simp only [opsDist]
  after_results <;> rfl

theorem arg_keeps (r : Ref sig .tc) (h : r = main_arg0 ∨ r = main_arg1) : after opsArg W (Proc.devRef .tc r) = W (Proc.devRef .tc r) := by
  simp only [opsArg, TRef.quaternary, TRef.nullary, TRef.toBuf, TRef.ofBuf, cast_eq]
  rcases h with rfl | rfl <;> (after_results <;> rfl)

theorem arg_at : after opsArg W (Proc.devRef .tc (main_v19 : Ref sig .tc)) = least (W (Proc.devRef .tc (main_v18 : Ref sig .tc))) := by
  simp only [opsArg, TRef.quaternary, TRef.nullary, TRef.toBuf, TRef.ofBuf, cast_eq]
  after_results <;> rfl

theorem take_keeps (r : Ref sig .tc) (h : r = main_arg0 ∨ r = main_arg1 ∨ r = main_v19) : after opsTake W (Proc.devRef .tc r) = W (Proc.devRef .tc r) := by
  simp only [opsTake, TRef.binary, TRef.nullary, TRef.ternary, TRef.unary, TRef.toBuf, TRef.ofBuf, cast_eq]
  rcases h with rfl | rfl | rfl <;> (after_results <;> rfl)

theorem take_at : after opsTake W (Proc.devRef .tc (main_v20 : Ref sig .tc)) = TakeRead.takeOf (W (Proc.devRef .tc (main_arg1 : Ref sig .tc))) (W (Proc.devRef .tc (main_v19 : Ref sig .tc))) := by
  simp only [opsTake, TRef.binary, TRef.nullary, TRef.ternary, TRef.unary, TRef.toBuf, TRef.ofBuf, cast_eq]
  after_results <;> rfl

theorem tail_keeps (r : Ref sig .tc) (h : r = main_arg0 ∨ r = main_arg1) : after opsTail W (Proc.devRef .tc r) = W (Proc.devRef .tc r) := by
  simp only [opsTail]
  rcases h with rfl | rfl <;> (after_results <;> rfl)

theorem tail_mean : after opsTail W (Proc.devRef .tc (main_v26 : Ref sig .tc)) = mean (back (W (Proc.devRef .tc (main_v20 : Ref sig .tc)))) (W (Proc.devRef .tc (main_arg0 : Ref sig .tc))) := by
  simp only [opsTail]
  after_results <;> rfl
theorem tail_mean' : after opsTail W (Proc.devRef .tc (main_v30 : Ref sig .tc)) = mean (back (W (Proc.devRef .tc (main_v20 : Ref sig .tc)))) (W (Proc.devRef .tc (main_arg0 : Ref sig .tc))) := by
  simp only [opsTail]
  after_results <;> rfl
theorem tail_loss : after opsTail W (Proc.devRef .tc (main_v32 : Ref sig .tc)) = loss (back (W (Proc.devRef .tc (main_v20 : Ref sig .tc)))) (W (Proc.devRef .tc (main_arg0 : Ref sig .tc))) := by
  simp only [opsTail]
  after_results <;> rfl
theorem tail_st : after opsTail W (Proc.devRef .tc (main_v34 : Ref sig .tc))
    = addf (W (Proc.devRef .tc (main_arg0 : Ref sig .tc)) : FVec F S16x32x32x32 .f32) (subf (back (W (Proc.devRef .tc (main_v20 : Ref sig .tc)))) (W (Proc.devRef .tc (main_arg0 : Ref sig .tc)))) := by
  simp only [opsTail]
  after_results <;> rfl
theorem tail_index : after opsTail W (Proc.devRef .tc (main_v35 : Ref sig .tc)) = (shapeCast S16x32x32 (W (Proc.devRef .tc (main_v19 : Ref sig .tc)) : S16384.Idx → BitVec 32) shapeCasts_S16384_S16x32x32 : S16x32x32.Idx → BitVec 32) := by
  simp only [opsTail]
  after_results <;> rfl

end parts

/-! ## The run -/

/-- The indices, and the gathered rows in the inputs' layout. -/
def index (x : FVec F S16x32x32x32 .f32) (e : FVec F S8192x32 .f32) : IVec S16384 32 := least (dist (rows x) e)
def quantized (x : FVec F S16x32x32x32 .f32) (e : FVec F S8192x32 .f32) : FVec F S16x32x32x32 .f32 := back (TakeRead.takeOf e (index x e))

section run

variable (m : (ℓ : Loc nD τ sig) → Buf (Elt F) ℓ) (ρ : Dev nD → PrngReg) (c : Dev nD)

abbrev argX : FVec F S16x32x32x32 .f32 := m (c, Proc.devRef .tc (main_arg0 : Ref sig .tc))
abbrev argE : FVec F S8192x32 .f32 := m (c, Proc.devRef .tc (main_arg1 : Ref sig .tc))

def V0 : Valuation τ sig (Elt F) := fun b => m (c, b)
def V1 : Valuation τ sig (Elt F) := after opsDist (V0 m c)
def V2 : Valuation τ sig (Elt F) := after opsArg (V1 m c)
def V3 : Valuation τ sig (Elt F) := after opsTake (V2 m c)

omit [FloatOps F] in
theorem after_app (k l : List (HloOp τ sig (Elt F))) (W : Valuation τ sig (Elt F)) : after (k ++ l) W = after l (after k W) := by
  induction k generalizing W with
  | nil => rfl
  | cons op k ih => exact ih (op.result W)

theorem after_ops : after ops (V0 m c) = after opsTail (V3 m c) := by
  unfold V3 V2 V1 ops
  rw [after_app, after_app, after_app]

theorem V3_arg0 : V3 m c (Proc.devRef .tc (main_arg0 : Ref sig .tc)) = argX m c :=
  (take_keeps _ _ (by decide)).trans ((arg_keeps _ _ (by decide)).trans (dist_keeps _ _ (by decide)))
theorem V2_arg1 : V2 m c (Proc.devRef .tc (main_arg1 : Ref sig .tc)) = argE m c :=
  (arg_keeps _ _ (by decide)).trans (dist_keeps _ _ (by decide))
theorem V3_arg1 : V3 m c (Proc.devRef .tc (main_arg1 : Ref sig .tc)) = argE m c :=
  (take_keeps _ _ (by decide)).trans (V2_arg1 m c)
theorem V2_v19 : V2 m c (Proc.devRef .tc (main_v19 : Ref sig .tc)) = index (argX m c) (argE m c) :=
  (arg_at (V1 m c)).trans (congrArg least (dist_at (V0 m c)))
theorem V3_v19 : V3 m c (Proc.devRef .tc (main_v19 : Ref sig .tc)) = index (argX m c) (argE m c) :=
  (take_keeps _ _ (by decide)).trans (V2_v19 m c)
theorem V3_v20 : V3 m c (Proc.devRef .tc (main_v20 : Ref sig .tc)) = TakeRead.takeOf (argE m c) (index (argX m c) (argE m c)) := by
  refine (take_at (V2 m c)).trans ?_
  rw [V2_arg1, V2_v19]

theorem run : θ_run defs (onTc (τ := τ) (main (F := F))) ⟨m, fun _ => 0, ρ⟩ fun r => ∀ c : Dev nD,
      r.2.mem ((c.tc : Thread nD τ).loc main_v34) = (addf (argX m c) (subf (quantized (argX m c) (argE m c)) (argX m c)) : FVec F S16x32x32x32 .f32)
      ∧ r.2.mem ((c.tc : Thread nD τ).loc main_v26) = mean (quantized (argX m c) (argE m c)) (argX m c)
      ∧ r.2.mem ((c.tc : Thread nD τ).loc main_v30) = mean (quantized (argX m c) (argE m c)) (argX m c)
      ∧ r.2.mem ((c.tc : Thread nD τ).loc main_v32) = loss (quantized (argX m c) (argE m c)) (argX m c)
      ∧ r.2.mem ((c.tc : Thread nD τ).loc main_v35) = (shapeCast S16x32x32 (index (argX m c) (argE m c)) shapeCasts_S16384_S16x32x32 : S16x32x32.Idx → BitVec 32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_seq scopedRefs_eq scopedSems_eq defs main (fun _ => ops) main_eq (fun _ => ops_sub) m ρ)
  have e : ∀ b : Ref sig .tc, r.2.mem ((c.tc : Thread nD τ).loc b) = after opsTail (V3 m c) (Proc.devRef .tc b) :=
    fun b => (h c b).trans (congrFun (after_ops m c) _)
  refine ⟨(e main_v34).trans ((tail_st _).trans ?_), (e main_v26).trans ((tail_mean _).trans ?_), (e main_v30).trans ((tail_mean' _).trans ?_),
    (e main_v32).trans ((tail_loss _).trans ?_), (e main_v35).trans ((tail_index _).trans ?_), (e main_arg0).trans ((tail_keeps _ _ (by decide)).trans (V3_arg0 m c)),
    (e main_arg1).trans ((tail_keeps _ _ (by decide)).trans (V3_arg1 m c))⟩
  · rw [V3_v20, V3_arg0]; rfl
  · rw [V3_v20, V3_arg0]; rfl
  · rw [V3_v20, V3_arg0]; rfl
  · rw [V3_v20, V3_arg0]; rfl
  · rw [V3_v19]

end run

end Cert.Proof.ReferenceRun

end
-- ==== Proof.Least.lean ====
/-
  The first place of a row of extended reals where its least value lies, and two ways of finding it: fold the row's pairs of value
  and place, keeping the lesser pair; or take the row's least value, and among the places which hold it the least.
-/
module

public import Idealize.ShloMosaic.PureOps
public import Idealize.ShloMosaic.PureOps.Reduce
public import Idealize.ShloMosaic.PureOps.Ideal.Laws
public import Idealize.ShloMosaic.Lib.ValueIdx
public import proofs.«01_k».proof.Proof.Words

@[expose] public section

noncomputable section

namespace Cert.Proof.Least

open Idealize.ShloMosaic Idealize.ShloMosaic.ValueIdx

/-- `v` is the number of the first place where the row `f` is least. -/
def First (f : Fin 8192 → EReal) (v : BitVec 32) : Prop :=
  ∃ k : Fin 8192, v = BitVec.ofNat 32 k.val ∧ (∀ l, f k ≤ f l) ∧ ∀ l, f l ≤ f k → k ≤ l

theorem First.unique {f : Fin 8192 → EReal} {v w : BitVec 32} (hv : First f v) (hw : First f w) : v = w := by
  obtain ⟨k, rfl, hk, hk'⟩ := hv
  obtain ⟨l, rfl, hl, hl'⟩ := hw
  rw [le_antisymm (hk' l (hl k)) (hl' k (hk l))]

theorem toNat_place (k : Fin 8192) : (BitVec.ofNat 32 k.val).toNat = k.val := by
  rw [BitVec.toNat_ofNat]; exact Nat.mod_eq_of_lt (by omega)

theorem toInt_place (k : Fin 8192) : (BitVec.ofNat 32 k.val).toInt = k.val := by
  rw [BitVec.toInt_eq_toNat_cond, toNat_place, if_pos (by omega)]

theorem First.lt {f : Fin 8192 → EReal} {v : BitVec 32} (hv : First f v) : v.toNat < 8192 := by
  obtain ⟨k, rfl, -, -⟩ := hv
  rw [toNat_place]; exact k.isLt

/-! ## Folding pairs -/

/-- A pair is at most another: the lesser value, or the same value at no greater place. -/
def Le (p q : EReal × BitVec 32) : Prop := p.1 < q.1 ∨ (p.1 = q.1 ∧ p.2.toInt ≤ q.2.toInt)

theorem Le.refl (p : EReal × BitVec 32) : Le p p := .inr ⟨rfl, le_rfl⟩
theorem Le.trans {p q r : EReal × BitVec 32} (h : Le p q) (k : Le q r) : Le p r := by
  rcases h with h | ⟨h, h'⟩ <;> rcases k with k | ⟨k, k'⟩
  · exact .inl (h.trans k)
  · exact .inl (k ▸ h)
  · exact .inl (h ▸ k)
  · exact .inr ⟨h.trans k, h'.trans k'⟩

/-- An operation which answers one of its two pairs, at most both, answers a member at most every member. -/
theorem foldl_least (op : EReal × BitVec 32 → EReal × BitVec 32 → EReal × BitVec 32) (h1 : ∀ p q, op p q = p ∨ op p q = q)
    (h2 : ∀ p q, Le (op p q) p ∧ Le (op p q) q) (l : List (EReal × BitVec 32)) (a : EReal × BitVec 32) :
    (l.foldl op a = a ∨ l.foldl op a ∈ l) ∧ Le (l.foldl op a) a ∧ ∀ p ∈ l, Le (l.foldl op a) p := by
  induction l generalizing a with
  | nil => exact ⟨.inl rfl, Le.refl a, by simp⟩
  | cons x l ih =>
    rw [List.foldl_cons]
    obtain ⟨i1, i2, i3⟩ := ih (op a x)
    refine ⟨?_, i2.trans (h2 a x).1, ?_⟩
    · rcases i1 with i1 | i1
      · rcases h1 a x with e | e
        · exact .inl (i1.trans e)
        · exact .inr (List.mem_cons.mpr (.inl (i1.trans e)))
      · exact .inr (List.mem_cons_of_mem _ i1)
    · intro p hp
      rcases List.mem_cons.mp hp with rfl | hp
      · exact i2.trans (h2 a p).2
      · exact i3 p hp

/-- The fold over a list whose members are the row's pairs finds the first least place. -/
theorem first_of_foldl (op : EReal × BitVec 32 → EReal × BitVec 32 → EReal × BitVec 32) (h1 : ∀ p q, op p q = p ∨ op p q = q)
    (h2 : ∀ p q, Le (op p q) p ∧ Le (op p q) q) (f : Fin 8192 → EReal) (l : List (EReal × BitVec 32))
    (hl : ∀ p, p ∈ l ↔ ∃ k : Fin 8192, p = (f k, BitVec.ofNat 32 k.val)) : First f (l.foldl op (⊤, 0#32)).2 := by
  obtain ⟨i1, i2, i3⟩ := foldl_least op h1 h2 l (⊤, 0#32)
  have i4 : ∀ k : Fin 8192, Le (l.foldl op (⊤, 0#32)) (f k, BitVec.ofNat 32 k.val) := fun k => i3 _ ((hl _).mpr ⟨k, rfl⟩)
  have i5 : ∃ k : Fin 8192, l.foldl op (⊤, 0#32) = (f k, BitVec.ofNat 32 k.val) := by
    rcases i1 with e | e
    · refine ⟨0, ?_⟩
      rcases i4 0 with h | ⟨h, -⟩
      · rw [e] at h; exact absurd h not_top_lt
      · rw [e] at h ⊢
        exact Prod.ext h rfl
    · exact (hl _).mp e
  obtain ⟨k, e⟩ := i5
  rw [e] at i4 ⊢
  refine ⟨k, rfl, fun n => ?_, fun n hn => ?_⟩
  · rcases i4 n with h | ⟨h, -⟩
    · exact h.le
    · exact h.le
  · rcases i4 n with h | ⟨-, h⟩
    · exact absurd h (not_lt.mpr hn)
    · simp only [toInt_place] at h
      exact_mod_cast h

/-! ## The least value, then the least place -/

theorem minsi_cases (a b : BitVec 32) : (IntOp.minsi a b = a ∨ IntOp.minsi a b = b) ∧ (IntOp.minsi a b).toInt ≤ a.toInt ∧ (IntOp.minsi a b).toInt ≤ b.toInt := by
  unfold IntOp.minsi
  rw [BitVec.slt_eq_decide]
  by_cases h : a.toInt < b.toInt
  · simp only [h, decide_true, if_true]; exact ⟨.inl trivial, le_rfl, h.le⟩
  · simp only [h, decide_false, Bool.false_eq_true, if_false]; exact ⟨.inr trivial, not_lt.mp h, le_rfl⟩

theorem fold_minsi {ι : Type} (s : Finset ι) (a : BitVec 32) (g : ι → BitVec 32) :
    (s.fold IntOp.minsi a g = a ∨ ∃ i ∈ s, s.fold IntOp.minsi a g = g i) ∧ ∀ i ∈ s, (s.fold IntOp.minsi a g).toInt ≤ (g i).toInt := by
  classical
  induction s using Finset.induction_on with
  | empty => exact ⟨.inl rfl, by simp⟩
  | insert x s hx ih =>
    rw [Finset.fold_insert hx]
    obtain ⟨c1, c2, c3⟩ := minsi_cases (g x) (s.fold IntOp.minsi a g)
    refine ⟨?_, ?_⟩
    · rcases c1 with e | e
      · exact .inr ⟨x, Finset.mem_insert_self _ _, e⟩
      · rcases ih.1 with e' | ⟨i, hi, e'⟩
        · exact .inl (e.trans e')
        · exact .inr ⟨i, Finset.mem_insert_of_mem hi, e.trans e'⟩
    · intro i hi
      rcases Finset.mem_insert.mp hi with rfl | hi
      · exact c2
      · exact c3.trans (ih.2 i hi)

theorem fold_min {ι : Type} (s : Finset ι) (hs : s.Nonempty) (g : ι → EReal) :
    (∃ i ∈ s, s.fold min ⊤ g = g i) ∧ ∀ i ∈ s, s.fold min ⊤ g ≤ g i := by
  classical
  have e : s.fold min ⊤ g = s.inf g := rfl
  rw [e]
  obtain ⟨i, hi, h⟩ := s.exists_min_image g hs
  exact ⟨⟨i, hi, le_antisymm (Finset.inf_le hi) (Finset.le_inf h)⟩, fun j hj => Finset.inf_le hj⟩

/-- Among the places whose value is the least, the least place: the first. -/
theorem first_of_folds (f : Fin 8192 → EReal) (mn : EReal) (hm : mn = Finset.univ.fold min ⊤ f) :
    First f (Finset.univ.fold IntOp.minsi 2147483647#32 fun k : Fin 8192 => Scalar.select (Ideal.cmp .oeq (f k) mn) (BitVec.ofNat 32 k.val) 2147483647#32) := by
  obtain ⟨⟨i, -, hi⟩, hle⟩ := fold_min Finset.univ ⟨0, Finset.mem_univ _⟩ f
  rw [← hm] at hi hle
  have sel1 : ∀ k, f k = mn → Scalar.select (Ideal.cmp .oeq (f k) mn) (BitVec.ofNat 32 k.val) 2147483647#32 = BitVec.ofNat 32 k.val := fun k e => by
    simp [Ideal.cmp, e, select_one]
  have sel0 : ∀ k, f k ≠ mn → Scalar.select (Ideal.cmp .oeq (f k) mn) (BitVec.ofNat 32 k.val) 2147483647#32 = 2147483647#32 := fun k e => by
    simp [Ideal.cmp, e, select_zero]
  have big : (2147483647#32 : BitVec 32).toInt = 2147483647 := by decide
  obtain ⟨h1, h2⟩ := fold_minsi Finset.univ 2147483647#32 fun k : Fin 8192 => Scalar.select (Ideal.cmp .oeq (f k) mn) (BitVec.ofNat 32 k.val) 2147483647#32
  have hsmall := h2 i (Finset.mem_univ _)
  beta_reduce at hsmall
  rw [sel1 i hi.symm, toInt_place] at hsmall
  have hb := i.isLt
  rcases h1 with e | ⟨k, -, e⟩
  · rw [e, big] at hsmall; omega
  · by_cases hk : f k = mn
    · beta_reduce at e
      rw [sel1 k hk] at e
      refine ⟨k, e, fun l => hk ▸ hle l (Finset.mem_univ _), fun l hl => ?_⟩
      have el : f l = mn := le_antisymm (hl.trans hk.le) (hle l (Finset.mem_univ _))
      have := h2 l (Finset.mem_univ _)
      beta_reduce at this
      rw [e, sel1 l el, toInt_place, toInt_place] at this
      exact_mod_cast this
    · beta_reduce at e
      rw [sel0 k hk] at e
      rw [e, big] at hsmall; omega

/-! ## The distance -/

/-- The distance of two vectors of 32, computed from their squares' sums and their product. -/
def dst (p q : Fin 32 → EReal) : EReal :=
  Ideal.sqrt (max (((∑ i, p i * p i) + ∑ i, q i * q i) - Ideal.ofBits .f32 0x40000000#32 * ∑ i, p i * q i) 0)

theorem ofBits_top : Ideal.ofBits .f32 0x7F800000#32 = ⊤ := by simp [Ideal.ofBits, Ideal.ieee]

end Cert.Proof.Least

end
-- ==== Proof.KernelDistance.lean ====
/-
  What the kernel's search computes for one block of 256 vectors, over the extended reals: the distance of each vector from each
  codebook row, and for each vector the first codebook row at the least distance.
-/
module

public import proofs.«01_k».proof.Proof.KernelBodies
public import proofs.«01_k».proof.Proof.Least
public import Idealize.ShloMosaic.Lib.MatmulPlain
public import Idealize.ShloMosaic.Lib.Pipeline.Value

@[expose] public section

noncomputable section

namespace Cert.Proof.KernelTile

open Cert.KernelIdeal Cert.KernelIdeal.Gen

open Idealize.ShloMosaic Idealize.ShloMosaic.ValueIdx

section generic

variable {F : FTy → Type} [FloatOps F]

/-- The sums of the rows of the squares `v`, the last seven columns added to the first 25's sum `s` and the next column `t`. -/
def rowTotal (v : FVec F S256x32 .f32) (s t : FVec F S256x1 .f32) : FVec F S256x1 .f32 :=
  addf (addf (addf (addf (addf (addf (addf s t)
    (extractStridedSlice S256x1 ![0, 26] v slices_S256x32_o0_26_S256x1))
    (extractStridedSlice S256x1 ![0, 27] v slices_S256x32_o0_27_S256x1))
    (extractStridedSlice S256x1 ![0, 28] v slices_S256x32_o0_28_S256x1))
    (extractStridedSlice S256x1 ![0, 29] v slices_S256x32_o0_29_S256x1))
    (extractStridedSlice S256x1 ![0, 30] v slices_S256x32_o0_30_S256x1))
    (extractStridedSlice S256x1 ![0, 31] v slices_S256x32_o0_31_S256x1)

/-- The sums of the columns of the squares `v`: four groups of eight rows, then halves. -/
def colTotal8 (v : FVec F S32x8192 .f32) : FVec F S8x8192 .f32 :=
  addf (addf (addf (extractStridedSlice S8x8192 ![0, 0] v slices_S32x8192_o0_0_S8x8192) (extractStridedSlice S8x8192 ![8, 0] v slices_S32x8192_o8_0_S8x8192))
    (extractStridedSlice S8x8192 ![16, 0] v slices_S32x8192_o16_0_S8x8192)) (extractStridedSlice S8x8192 ![24, 0] v slices_S32x8192_o24_0_S8x8192)
def colTotal4 (v : FVec F S8x8192 .f32) : FVec F S4x8192 .f32 :=
  addf (extractStridedSlice S4x8192 ![0, 0] v slices_S8x8192_o0_0_S4x8192) (extractStridedSlice S4x8192 ![4, 0] v slices_S8x8192_o4_0_S4x8192)
def colTotal2 (v : FVec F S4x8192 .f32) : FVec F S2x8192 .f32 :=
  addf (extractStridedSlice S2x8192 ![0, 0] v slices_S4x8192_o0_0_S2x8192) (extractStridedSlice S2x8192 ![2, 0] v slices_S4x8192_o2_0_S2x8192)
def colTotal1 (v : FVec F S2x8192 .f32) : FVec F S1x8192 .f32 :=
  addf (extractStridedSlice S1x8192 ![0, 0] v slices_S2x8192_o0_0_S1x8192) (extractStridedSlice S1x8192 ![1, 0] v slices_S2x8192_o1_0_S1x8192)
def colTotal (v : FVec F S32x8192 .f32) : FVec F S1x8192 .f32 := colTotal1 (colTotal2 (colTotal4 (colTotal8 v)))

/-- The distances, from the vectors, the codebook, and the sums of their squares. -/
def distances (x : FVec F S256x32 .f32) (e : FVec F S32x8192 .f32) (s : FVec F S256x1 .f32) (t : FVec F S1x8192 .f32) : FVec F S256x8192 .f32 :=
  sqrt (maximumf (subf (addf (broadcastTo S256x8192 s broadcasts_S256x1_S256x8192) (broadcastTo S256x8192 t broadcasts_S1x8192_S256x8192))
    (mulf (broadcast S256x8192 (Scalar.ofBits .f32 0x40000000#32)) (matmul dot_S256x32_S32x8192_S256x8192_1_0_0_1_n_n none x e (constant S256x8192 .f32 0x00000000#32))))
    (broadcast S256x8192 (Scalar.ofBits .f32 0x00000000#32)))

/-- The least of each row, and the least place which holds it. -/
def leastOf (d : FVec F S256x8192 .f32) : FVec F S256 .f32 := multiReduction .minimumf [1] S256 d 0x7F800000#32 reduces_S256x8192_S256 (.inl rfl) rfl
def placesOf (d : FVec F S256x8192 .f32) : IVec S256x8192 32 :=
  select (cmpf .oeq d (broadcastTo S256x8192 (shapeCast S256x1 (leastOf d) shapeCasts_S256_S256x1) broadcasts_S256x1_S256x8192))
    (iota .tc S256x8192 32 [1] iota_S256x8192_d1_w32) (broadcast S256x8192 2147483647#32)
def firstOf (d : FVec F S256x8192 .f32) : IVec S256 32 := multiReductionI .minsi [1] S256 (placesOf d) 2147483647#32 reduces_S256x8192_S256 rfl

theorem pay1_eq (x : FVec F S256x32 .f32) (e : FVec F S32x8192 .f32) (v : FVec F S256x32 .f32) (s t : FVec F S256x1 .f32) :
    k0_pay1 x e v s t = firstOf (distances x e (rowTotal v s t) (colTotal (mulf e e))) := rfl

end generic

/-! ## The sums over the extended reals -/

/-- A column's slice, read. -/
theorem col_apply (v : S256x32.Idx → EReal) (c : ℕ) (h : S256x32.Slices ![0, c] S256x1) (a : Fin 256) :
    extractStridedSlice S256x1 ![0, c] v h (ix2 a 0) = v (ix2 a ⟨c % 32, Nat.mod_lt _ (by decide)⟩) := by
  have hc : c + 1 ≤ 32 := h.2 1
  unfold extractStridedSlice
  congr 1; funext k; refine Fin.ext ?_
  match k with
  | ⟨0, _⟩ => exact Nat.zero_add _
  | ⟨1, _⟩ => show c + 0 = c % 32; rw [Nat.mod_eq_of_lt (by omega), Nat.add_zero]

/-- A group of rows' slice, read. -/
theorem row_apply {N M : ℕ} (v : (⟨2, ![N, 8192]⟩ : Shape).Idx → EReal) (o : ℕ) (h : (⟨2, ![N, 8192]⟩ : Shape).Slices ![o, 0] ⟨2, ![M, 8192]⟩) (i : Fin M) (k : Fin 8192) :
    extractStridedSlice ⟨2, ![M, 8192]⟩ ![o, 0] v h (ix2 i k) = v (ix2 ⟨o + i.val, Nat.lt_of_lt_of_le (Nat.add_lt_add_left i.isLt _) (h.2 0)⟩ k) := by
  unfold extractStridedSlice
  congr 1; funext c; refine Fin.ext ?_
  match c with
  | ⟨0, _⟩ => rfl
  | ⟨1, _⟩ => exact Nat.zero_add _

theorem sum32 (g : ℕ → EReal) : ∑ i : Fin 32, g i.val = ∑ i ∈ Finset.range 32, g i := Fin.sum_univ_eq_sum_range g 32

theorem rowTotal_apply (x : FVec Ideal S256x32 .f32) (a : Fin 256) :
    rowTotal (F := Ideal) (k0_pay4 (F := Ideal) x) (k0_pay5 (F := Ideal) x) (k0_pay6 (F := Ideal) x) (ix2 a 0)
      = ∑ i : Fin 32, k0_pay4 (F := Ideal) x (ix2 a i) := by
  obtain ⟨g, hg⟩ : ∃ g : ℕ → EReal, ∀ n, g n = k0_pay4 (F := Ideal) x (ix2 a ⟨n % 32, Nat.mod_lt _ (by decide)⟩) := ⟨_, fun _ => rfl⟩
  have e : ∑ i : Fin 32, k0_pay4 (F := Ideal) x (ix2 a i) = ∑ i : Fin 32, g i.val := by
    refine Finset.sum_congr rfl fun i _ => ?_
    rw [hg]
    exact congrArg (fun z => k0_pay4 (F := Ideal) x (ix2 a z)) (Fin.ext (Nat.mod_eq_of_lt i.isLt).symm)
  refine Eq.trans ?_ (e.trans (Fin.sum_univ_eq_sum_range g 32)).symm
  unfold rowTotal k0_pay5 k0_pay6
  generalize k0_pay4 (F := Ideal) x = v at hg ⊢
  simp only [Finset.sum_range_succ, Finset.sum_range_zero, zero_add]
  simp only [addf_apply, col_apply, ← hg]

theorem colTotal_apply (v : FVec Ideal S32x8192 .f32) (k : Fin 8192) : colTotal (F := Ideal) v (ix2 0 k) = ∑ i : Fin 32, v (ix2 i k) := by
  obtain ⟨g, hg⟩ : ∃ g : ℕ → EReal, ∀ (n : ℕ) (hn : n < 32), v (ix2 ⟨n, hn⟩ k) = g n :=
    ⟨fun n => v (ix2 ⟨n % 32, Nat.mod_lt _ (by decide)⟩ k), fun n hn =>
      congrArg (fun z => v (ix2 z k)) (Fin.ext (Nat.mod_eq_of_lt hn).symm)⟩
  have e : ∑ i : Fin 32, v (ix2 i k) = ∑ i : Fin 32, g i.val := Finset.sum_congr rfl fun i _ => hg i.val i.isLt
  have e1 : ∀ w : FVec Ideal S2x8192 .f32, colTotal1 (F := Ideal) w (ix2 0 k) = w (ix2 0 k) + w (ix2 1 k) := fun w =>
    congrArg₂ (fun p q : EReal => p + q) (row_apply w 0 slices_S2x8192_o0_0_S1x8192 0 k) (row_apply w 1 slices_S2x8192_o1_0_S1x8192 0 k)
  have e2 : ∀ (w : FVec Ideal S4x8192 .f32) (i : Fin 2), colTotal2 (F := Ideal) w (ix2 i k)
      = w (ix2 ⟨0 + i.val, by omega⟩ k) + w (ix2 ⟨2 + i.val, by omega⟩ k) := fun w i =>
    congrArg₂ (fun p q : EReal => p + q) (row_apply w 0 slices_S4x8192_o0_0_S2x8192 i k) (row_apply w 2 slices_S4x8192_o2_0_S2x8192 i k)
  have e4 : ∀ (w : FVec Ideal S8x8192 .f32) (i : Fin 4), colTotal4 (F := Ideal) w (ix2 i k)
      = w (ix2 ⟨0 + i.val, by omega⟩ k) + w (ix2 ⟨4 + i.val, by omega⟩ k) := fun w i =>
    congrArg₂ (fun p q : EReal => p + q) (row_apply w 0 slices_S8x8192_o0_0_S4x8192 i k) (row_apply w 4 slices_S8x8192_o4_0_S4x8192 i k)
  have e8 : ∀ i : Fin 8, colTotal8 (F := Ideal) v (ix2 i k)
      = g (0 + i.val) + g (8 + i.val) + g (16 + i.val) + g (24 + i.val) := fun i => by
    rw [← hg _ (by omega), ← hg _ (by omega), ← hg _ (by omega), ← hg _ (by omega)]
    exact congrArg₂ (fun p q : EReal => p + q) (congrArg₂ (fun p q : EReal => p + q) (congrArg₂ (fun p q : EReal => p + q)
      (row_apply v 0 slices_S32x8192_o0_0_S8x8192 i k) (row_apply v 8 slices_S32x8192_o8_0_S8x8192 i k))
      (row_apply v 16 slices_S32x8192_o16_0_S8x8192 i k)) (row_apply v 24 slices_S32x8192_o24_0_S8x8192 i k)
  rw [e, Fin.sum_univ_eq_sum_range g 32]
  unfold colTotal
  rw [e1, e2, e2, e4, e4, e4, e4, e8, e8, e8, e8, e8, e8, e8, e8]
  simp only [Finset.sum_range_succ, Finset.sum_range_zero, zero_add]
  simp only [Fin.val_zero, Fin.val_one, Nat.zero_add, Nat.add_zero, Nat.reduceAdd]
  ac_rfl

/-! ## The distances -/

theorem bTo_col (s : S256x1.Idx → EReal) (a : Fin 256) (k : Fin 8192) : broadcastTo S256x8192 s broadcasts_S256x1_S256x8192 (ix2 a k) = s (ix2 a 0) := by
  unfold broadcastTo
  congr 1; funext c; refine Fin.ext ?_
  match c with
  | ⟨0, _⟩ => rfl
  | ⟨1, _⟩ => rfl

theorem bTo_row (s : S1x8192.Idx → EReal) (a : Fin 256) (k : Fin 8192) : broadcastTo S256x8192 s broadcasts_S1x8192_S256x8192 (ix2 a k) = s (ix2 0 k) := by
  unfold broadcastTo
  congr 1; funext c; refine Fin.ext ?_
  match c with
  | ⟨0, _⟩ => rfl
  | ⟨1, _⟩ => rfl

theorem distances_apply (x : FVec Ideal S256x32 .f32) (e : FVec Ideal S32x8192 .f32) (s : FVec Ideal S256x1 .f32) (t : FVec Ideal S1x8192 .f32)
    (a : Fin 256) (k : Fin 8192) (hs : s (ix2 a 0) = ∑ i : Fin 32, x (ix2 a i) * x (ix2 a i)) (ht : t (ix2 0 k) = ∑ i : Fin 32, e (ix2 i k) * e (ix2 i k)) :
    distances (F := Ideal) x e s t (ix2 a k) = Least.dst (fun i => x (ix2 a i)) (fun i => e (ix2 i k)) := by
  unfold distances Least.dst
  show Ideal.sqrt (max ((broadcastTo S256x8192 s broadcasts_S256x1_S256x8192 (ix2 a k) + broadcastTo S256x8192 t broadcasts_S1x8192_S256x8192 (ix2 a k))
    - Ideal.ofBits .f32 0x40000000#32 * FloatOps.matmul (DotDims.plain 256 32 8192) none x e (constant S256x8192 .f32 0x00000000#32) (ix2 a k)) (Ideal.ofBits .f32 0x00000000#32)) = _
  rw [bTo_col, bTo_row, hs, ht, Ideal.matmul_plain_apply, Ideal.ofBits_zero_f32]
  show Ideal.sqrt (max (_ - _ * (Ideal.ofBits .f32 0x00000000#32 + _)) 0) = _
  rw [Ideal.ofBits_zero_f32, zero_add]

/-! ## The first least place -/

theorem lift_row (a : Fin 256) (k : Fin 8192) : reduces_S256x8192_S256.lift (ix1 a) k = ix2 a k := by
  funext c; refine Fin.ext ?_
  match c with
  | ⟨0, _⟩ => rfl
  | ⟨1, _⟩ => rfl

theorem leastOf_apply (d : FVec Ideal S256x8192 .f32) (a : Fin 256) : leastOf (F := Ideal) d (ix1 a) = Finset.univ.fold min ⊤ fun k : Fin 8192 => d (ix2 a k) := by
  refine (multiReduction_minimumf_eq_fold (F := Ideal) (φ := .f32) d 0x7F800000#32 reduces_S256x8192_S256 (.inl rfl) rfl (ix1 a)).trans ?_
  refine (reduces_S256x8192_S256.fold_filter_drop_single _ _ d (ix1 a)).trans ?_
  show Finset.univ.fold min (Ideal.ofBits .f32 0x7F800000#32) (d ∘ reduces_S256x8192_S256.lift (ix1 a)) = _
  rw [Least.ofBits_top]
  exact congrArg (Finset.univ.fold min ⊤) (funext fun k => congrArg d (lift_row a k))

theorem cast_col (s : S256.Idx → EReal) (a : Fin 256) : shapeCast S256x1 s shapeCasts_S256_S256x1 (ix2 a 0) = s (ix1 a) := by
  refine shapeCast_apply s _ _ _ ?_
  rw [Shape.rowMajor_val_one, Shape.rowMajor_val_two]
  show a.val = a.val * 1 + 0
  omega

theorem placesOf_apply (d : FVec Ideal S256x8192 .f32) (a : Fin 256) (k : Fin 8192) :
    placesOf (F := Ideal) d (ix2 a k) = Scalar.select (Ideal.cmp .oeq (d (ix2 a k)) (leastOf (F := Ideal) d (ix1 a))) (BitVec.ofNat 32 k.val) 2147483647#32 := by
  unfold placesOf
  show Scalar.select (Ideal.cmp .oeq (d (ix2 a k)) (broadcastTo S256x8192 (shapeCast S256x1 (leastOf (F := Ideal) d) shapeCasts_S256_S256x1) broadcasts_S256x1_S256x8192 (ix2 a k)))
    (BitVec.ofNat 32 (0 * 8192 + k.val)) _ = _
  rw [bTo_col, cast_col, Nat.zero_mul, Nat.zero_add]; rfl

theorem firstOf_first (d : FVec Ideal S256x8192 .f32) (a : Fin 256) : Least.First (fun k => d (ix2 a k)) (firstOf (F := Ideal) d (ix1 a)) := by
  have e : (Finset.univ.filter fun i => reduces_S256x8192_S256.drop i = ix1 a).fold IntOp.minsi 2147483647#32 (placesOf (F := Ideal) d)
      = Finset.univ.fold IntOp.minsi 2147483647#32 fun k : Fin 8192 => Scalar.select (Ideal.cmp .oeq (d (ix2 a k)) (leastOf (F := Ideal) d (ix1 a))) (BitVec.ofNat 32 k.val) 2147483647#32 :=
    (reduces_S256x8192_S256.fold_filter_drop_single _ _ (placesOf (F := Ideal) d) (ix1 a)).trans
      (congrArg (Finset.univ.fold IntOp.minsi 2147483647#32) (funext fun k => (congrArg (placesOf (F := Ideal) d) (lift_row a k)).trans (placesOf_apply d a k)))
  have e' : firstOf (F := Ideal) d (ix1 a) = _ := ((multiReductionI_eq_fold .minsi (placesOf (F := Ideal) d) 2147483647#32 reduces_S256x8192_S256 rfl (ix1 a)).trans e)
  refine (congrArg (Least.First fun k => d (ix2 a k)) e').mpr ?_
  exact Least.first_of_folds (fun k => d (ix2 a k)) (leastOf (F := Ideal) d (ix1 a)) (leastOf_apply d a)

/-- Of each vector of a block, the kernel finds the first codebook row at the least distance. -/
theorem nearest_first (x : FVec Ideal S256x32 .f32) (e : FVec Ideal S32x8192 .f32) (a : Fin 256) :
    Least.First (fun k => Least.dst (fun i => x (ix2 a i)) (fun i => e (ix2 i k))) (nearest (F := Ideal) x e (ix1 a)) := by
  have h2 : k0_pay2 (F := Ideal) x = x := shapeCast_self x _
  have h3 : k0_pay3 (F := Ideal) e = e := shapeCast_self e _
  have h4 : ∀ i, k0_pay4 (F := Ideal) x i = x i * x i := fun i => by unfold k0_pay4; rw [h2]; rfl
  unfold nearest
  rw [pay1_eq, h2, h3]
  have h := firstOf_first (distances (F := Ideal) x e (rowTotal (F := Ideal) (k0_pay4 (F := Ideal) x) (k0_pay5 (F := Ideal) x) (k0_pay6 (F := Ideal) x)) (colTotal (F := Ideal) (mulf (F := Ideal) (φ := .f32) e e))) a
  have eq : (fun k => distances (F := Ideal) x e (rowTotal (F := Ideal) (k0_pay4 (F := Ideal) x) (k0_pay5 (F := Ideal) x) (k0_pay6 (F := Ideal) x)) (colTotal (F := Ideal) (mulf (F := Ideal) (φ := .f32) e e)) (ix2 a k))
      = fun k => Least.dst (fun i => x (ix2 a i)) (fun i => e (ix2 i k)) := funext fun k =>
    distances_apply x e _ _ a k ((rowTotal_apply x a).trans (Finset.sum_congr rfl fun i _ => h4 _)) (colTotal_apply _ k)
  exact eq ▸ h

end Cert.Proof.KernelTile

end
-- ==== Proof.ReferenceDistance.lean ====
/-
  What the reference's search computes over the extended reals: the distance of each vector from each codebook row, and for each
  vector the first codebook row at the least distance.
-/
module

public import proofs.«01_k».proof.Proof.ReferenceRun
public import proofs.«01_k».proof.Proof.Least
public import Idealize.ShloMosaic.Lib.StackMember
public import Idealize.ShloMosaic.Lib.Pipeline.Value

@[expose] public section

noncomputable section

namespace Cert.Proof.ReferenceRun

open Cert.ReferenceIdeal Cert.ReferenceIdeal.Gen Idealize.ShloMosaic Idealize.ShloMosaic.ValueIdx

/-! ## The order of the pairs -/

/-- The lesser of two pairs, the second when neither is less. -/
theorem reducer_eq (a b : EReal × BitVec 32) : reducer_argmin_f32_i32 (F := Ideal) a b = if a.1 < b.1 ∨ (a.1 = b.1 ∧ a.2.toInt < b.2.toInt) then a else b := by
  obtain ⟨x, i⟩ := a
  obtain ⟨y, j⟩ := b
  have hs : IntOp.cmpi .slt i j = BitVec.ofBool (decide (i.toInt < j.toInt)) := by
    unfold IntOp.cmpi; rw [BitVec.slt_eq_decide]
  show (Scalar.select (IntOp.ori (BitVec.ofBool (decide (x < y))) (BitVec.ofBool (decide (x ≠ x)))) x y,
    Scalar.select (IntOp.ori (IntOp.ori (BitVec.ofBool (decide (x < y))) (BitVec.ofBool (decide (x ≠ x))))
      (IntOp.andi (BitVec.ofBool (decide (x = y))) (IntOp.cmpi .slt i j))) i j) = _
  rw [hs]
  simp only [ne_eq, not_true_eq_false, decide_false]
  by_cases h1 : x < y
  · simp only [h1, true_or, if_true, decide_true, h1.ne, decide_false]
    rcases h : decide (i.toInt < j.toInt) <;> rfl
  · by_cases h2 : x = y
    · subst h2
      simp only [lt_irrefl, false_or, true_and, decide_false, decide_true]
      by_cases h3 : i.toInt < j.toInt
      · simp only [h3, if_true, decide_true]; rfl
      · simp only [h3, if_false, decide_false]; rfl
    · simp only [h1, h2, false_or, false_and, if_false, decide_false]
      rcases h : decide (i.toInt < j.toInt) <;> rfl

theorem reducer_cases (a b : EReal × BitVec 32) : reducer_argmin_f32_i32 (F := Ideal) a b = a ∨ reducer_argmin_f32_i32 (F := Ideal) a b = b := by
  rw [reducer_eq]; split
  · exact .inl rfl
  · exact .inr rfl

theorem reducer_le (a b : EReal × BitVec 32) :
    Least.Le (reducer_argmin_f32_i32 (F := Ideal) a b) a ∧ Least.Le (reducer_argmin_f32_i32 (F := Ideal) a b) b := by
  rw [reducer_eq]; split
  · rename_i h
    refine ⟨Least.Le.refl a, ?_⟩
    rcases h with h | ⟨h, h'⟩
    · exact .inl h
    · exact .inr ⟨h, h'.le⟩
  · rename_i h
    refine ⟨?_, Least.Le.refl b⟩
    rw [not_or, not_and] at h
    rcases lt_or_eq_of_le (not_lt.mp h.1) with k | k
    · exact .inl k
    · exact .inr ⟨k, not_lt.mp (h.2 k.symm)⟩

/-! ## The first least place -/

theorem red : S16384x8192.Reduces [1] S16384 := by decide
theorem redSq : S16384x32.Reduces [1] S16384 := by decide
theorem redBook : S8192x32.Reduces [1] S8192 := by decide

theorem drop_row (i : S16384x8192.Idx) : red.drop i = ix1 (i 0) := by
  funext b
  match b with
  | ⟨0, _⟩ => exact Fin.ext (red.drop_apply_val_of_eq i 0 0)

theorem mem_fiber (d : S16384x8192.Idx → EReal) (a : Fin 16384) (p : EReal × BitVec 32) :
    p ∈ Host.argReduceFiber d (iotaInDim S16384x8192 32 1) reducesTo_S16384x8192_S16384_d1 (ix1 a)
      ↔ ∃ k : Fin 8192, p = (d (ix2 a k), BitVec.ofNat 32 k.val) := by
  unfold Host.argReduceFiber
  rw [List.mem_map]
  constructor
  · rintro ⟨n, hn, rfl⟩
    have hn' := of_decide_eq_true (List.mem_filter.mp hn).2
    generalize S16384x8192.rowMajor.symm n = i at hn' ⊢
    have h0 : i 0 = a := congrFun ((drop_row i).symm.trans hn') 0
    refine ⟨i 1, ?_⟩
    have e : i = ix2 a (i 1) := by rw [← h0]; exact eq_ix2 i
    exact Prod.ext (congrArg d e) rfl
  · rintro ⟨k, rfl⟩
    refine ⟨S16384x8192.rowMajor (ix2 a k), List.mem_filter.mpr ⟨List.mem_finRange _, decide_eq_true ?_⟩, ?_⟩
    · rw [Equiv.symm_apply_apply]; exact drop_row _
    · rw [Equiv.symm_apply_apply]; rfl

theorem least_eq (d : FVec Ideal S16384x8192 .f32) : least (F := Ideal) d = fun j => (Host.argReduce (reducer_argmin_f32_i32 (F := Ideal)) d (iotaInDim S16384x8192 32 1)
    (constant S_ .f32 0x7F800000#32) (constantI S_ 32 0#32) reducesTo_S16384x8192_S16384_d1 h_S_ j).2 := rfl

theorem pair_fold (d : FVec Ideal S16384x8192 .f32) (j : S16384.Idx) : Host.argReduce (reducer_argmin_f32_i32 (F := Ideal)) d (iotaInDim S16384x8192 32 1)
    (constant S_ .f32 0x7F800000#32) (constantI S_ 32 0#32) reducesTo_S16384x8192_S16384_d1 h_S_ j
    = (Host.argReduceFiber d (iotaInDim S16384x8192 32 1) reducesTo_S16384x8192_S16384_d1 j).foldl (reducer_argmin_f32_i32 (F := Ideal))
      (constant (F := Ideal) S_ .f32 0x7F800000#32 (Shape.Idx.first h_S_), constantI S_ 32 0#32 (Shape.Idx.first h_S_)) :=
  (congrFun (Ideal.argReduce_eq_reduce2 _ _ _ _ _ _ _) j).trans (Host.reduce2_eq_foldl_fiber _ _ _ _ _ _ _ j)

theorem least_fold (d : FVec Ideal S16384x8192 .f32) : least (F := Ideal) d = fun j =>
    ((Host.argReduceFiber d (iotaInDim S16384x8192 32 1) reducesTo_S16384x8192_S16384_d1 j).foldl (reducer_argmin_f32_i32 (F := Ideal))
      (constant (F := Ideal) S_ .f32 0x7F800000#32 (Shape.Idx.first h_S_), constantI S_ 32 0#32 (Shape.Idx.first h_S_))).2 :=
  (least_eq d).trans (funext fun j => congrArg Prod.snd (pair_fold d j))

theorem start_eq : ((constant (F := Ideal) S_ .f32 0x7F800000#32 (Shape.Idx.first h_S_) : EReal), constantI S_ 32 0#32 (Shape.Idx.first h_S_)) = (⊤, 0#32) :=
  Prod.ext Least.ofBits_top rfl

theorem first_fold (f : Fin 8192 → EReal) (l : List (EReal × BitVec 32)) (hl : ∀ p, p ∈ l ↔ ∃ k : Fin 8192, p = (f k, BitVec.ofNat 32 k.val)) :
    Least.First f (l.foldl (reducer_argmin_f32_i32 (F := Ideal))
      (constant (F := Ideal) S_ .f32 0x7F800000#32 (Shape.Idx.first h_S_), constantI S_ 32 0#32 (Shape.Idx.first h_S_))).2 :=
  (congrArg (fun z : EReal × BitVec 32 => Least.First f (l.foldl (reducer_argmin_f32_i32 (F := Ideal)) z).2) start_eq).mpr
    (Least.first_of_foldl _ reducer_cases reducer_le f l hl)

theorem least_first (d : FVec Ideal S16384x8192 .f32) (a : Fin 16384) : Least.First (fun k => d (ix2 a k)) (least (F := Ideal) d (ix1 a)) := by
  rw [least_fold]
  exact first_fold _ _ (mem_fiber d a)

/-! ## The distances -/

theorem rowSq_apply (r : FVec Ideal S16384x32 .f32) (a : Fin 16384) : rowSq (F := Ideal) r (ix1 a) = ∑ i : Fin 32, r (ix2 a i) * r (ix2 a i) := by
  show Ideal.hostReduceAdd reducesTo_S16384x32_S16384_d1 (mulf (F := Ideal) (φ := .f32) r r) (Ideal.ofBits .f32 0x00000000#32) (ix1 a) = _
  rw [Ideal.hostReduceAdd_single _ redSq, Ideal.ofBits_zero_f32, zero_add]
  refine Finset.sum_congr rfl fun i _ => ?_
  have e : redSq.lift (ix1 a) i = ix2 a i := by
    funext c; refine Fin.ext ?_
    match c with
    | ⟨0, _⟩ => rfl
    | ⟨1, _⟩ => rfl
  rw [e]; rfl

theorem bookSq_apply (e : FVec Ideal S8192x32 .f32) (k : Fin 8192) : bookSq (F := Ideal) e (ix1 k) = ∑ i : Fin 32, e (ix2 k i) * e (ix2 k i) := by
  show Ideal.hostReduceAdd reducesTo_S8192x32_S8192_d1 (mulf (F := Ideal) (φ := .f32) e e) (Ideal.ofBits .f32 0x00000000#32) (ix1 k) = _
  rw [Ideal.hostReduceAdd_single _ redBook, Ideal.ofBits_zero_f32, zero_add]
  refine Finset.sum_congr rfl fun i _ => ?_
  have e : redBook.lift (ix1 k) i = ix2 k i := by
    funext c; refine Fin.ext ?_
    match c with
    | ⟨0, _⟩ => rfl
    | ⟨1, _⟩ => rfl
  rw [e]; rfl

theorem dots_apply (r : FVec Ideal S16384x32 .f32) (e : FVec Ideal S8192x32 .f32) (a : Fin 16384) (k : Fin 8192) :
    dots (F := Ideal) r e (ix2 a k) = ∑ i : Fin 32, r (ix2 a i) * e (ix2 k i) := by
  unfold dots
  refine (StackMember.dotGeneral_plain_apply none r _ a k).trans (Finset.sum_congr rfl fun i _ => ?_)
  have et : ∀ j : S32x8192.Idx, transpose S32x8192 [1, 0] e transposes_S8192x32_S32x8192_1_0 j = e (ix2 (j 1) (j 0)) := fun j => by
    unfold transpose
    congr 1
    funext c; apply Fin.ext
    match c with
    | ⟨0, _⟩ => rfl
    | ⟨1, _⟩ => rfl
  exact congrArg (fun q : EReal => r (ix2 a i) * q) (et (ix2 i k))

theorem alongRow (v : S16384.Idx → EReal) (a : Fin 16384) (k : Fin 8192) :
    broadcastInDim S16384x8192 ![0, 1] bcast_S16384x1_S16384x8192_0_1 (broadcastInDim S16384x1 ![0] bcast_S16384_S16384x1_0 v) (ix2 a k) = v (ix1 a) := by
  refine (broadcastInDim_apply _ _ _ _ (ix2 a 0) fun c => ?_).trans (broadcastInDim_apply _ _ _ _ (ix1 a) fun c => ?_)
  · match c with
    | ⟨0, _⟩ => rfl
    | ⟨1, _⟩ => rfl
  · match c with
    | ⟨0, _⟩ => rfl

theorem alongColumn (v : S8192.Idx → EReal) (a : Fin 16384) (k : Fin 8192) :
    broadcastInDim S16384x8192 ![0, 1] bcast_S1x8192_S16384x8192_0_1 (broadcastInDim S1x8192 ![1] bcast_S8192_S1x8192_1 v) (ix2 a k) = v (ix1 k) := by
  refine (broadcastInDim_apply _ _ _ _ (ix2 0 k) fun c => ?_).trans (broadcastInDim_apply _ _ _ _ (ix1 k) fun c => ?_)
  · match c with
    | ⟨0, _⟩ => rfl
    | ⟨1, _⟩ => rfl
  · match c with
    | ⟨0, _⟩ => rfl

theorem root_apply (s t p : FVec Ideal S16384x8192 .f32) (j : S16384x8192.Idx) :
    Host.sqrt (F := Ideal) (φ := .f32) (maximumf (subf (addf s t) (mulf (broadcastInDim S16384x8192 ![] bcast_S_S16384x8192 (constant S_ .f32 0x40000000#32)) p))
      (broadcastInDim S16384x8192 ![] bcast_S_S16384x8192 (constant S_ .f32 0x00000000#32))) j
    = Ideal.sqrt (max ((s j + t j) - Ideal.ofBits .f32 0x40000000#32 * p j) (Ideal.ofBits .f32 0x00000000#32)) := rfl

theorem dist_apply (r : FVec Ideal S16384x32 .f32) (e : FVec Ideal S8192x32 .f32) (a : Fin 16384) (k : Fin 8192) :
    dist (F := Ideal) r e (ix2 a k) = Least.dst (fun i => r (ix2 a i)) (fun i => e (ix2 k i)) := by
  unfold dist Least.dst
  refine (root_apply _ _ _ _).trans ?_
  rw [alongRow, alongColumn, rowSq_apply, bookSq_apply, dots_apply, Ideal.ofBits_zero_f32]

/-- Of each vector, the reference finds the first codebook row at the least distance. -/
theorem index_first (x : FVec Ideal S16x32x32x32 .f32) (e : FVec Ideal S8192x32 .f32) (a : Fin 16384) :
    Least.First (fun k => Least.dst (fun i => rows (F := Ideal) x (ix2 a i)) (fun i => e (ix2 k i))) (index (F := Ideal) x e (ix1 a)) := by
  have h := least_first (dist (F := Ideal) (rows (F := Ideal) x) e) a
  have eq : (fun k => dist (F := Ideal) (rows (F := Ideal) x) e (ix2 a k))
      = fun k => Least.dst (fun i => rows (F := Ideal) x (ix2 a i)) (fun i => e (ix2 k i)) := funext fun k => dist_apply _ e a k
  exact eq ▸ h

end Cert.Proof.ReferenceRun

end
-- ==== Proof.Equations.lean ====
/-
  Over the extended reals the whole kernel and the reference compute the same five results: the search finds the same row numbers,
  and what follows is the same differences and sums, laid out otherwise.
-/
module

public import proofs.«01_k».proof.Proof.KernelArrays
public import proofs.«01_k».proof.Proof.KernelDistance
public import proofs.«01_k».proof.Proof.ReferenceDistance

@[expose] public section

noncomputable section

namespace Cert.Proof.Equations

open Cert.KernelIdeal Cert.KernelIdeal.Gen Cert.Proof.KernelTile

open Idealize.ShloMosaic Idealize.ShloMosaic.TcCoe

/-! ## The row numbers -/

theorem cols_apply (e : FVec Ideal S8192x32 .f32) (i : Fin 32) (k : Fin 8192) : colsOf (F := Ideal) e (ValueIdx.ix2 i k) = e (ValueIdx.ix2 k i) := by
  unfold colsOf transpose
  congr 1
  funext c; apply Fin.ext
  match c with
  | ⟨0, _⟩ => rfl
  | ⟨1, _⟩ => rfl

theorem block_apply (r : FVec Ideal S16384x32 .f32) (a : Fin 16384) (i : Fin 32) :
    blockOf (F := Ideal) r ⟨a.val / 256, by omega⟩ (ValueIdx.ix2 ⟨a.val % 256, Nat.mod_lt _ (by decide)⟩ i) = r (ValueIdx.ix2 a i) := by
  unfold blockOf
  congr 1
  funext c; apply Fin.ext
  match c with
  | ⟨0, _⟩ => exact Nat.div_add_mod a.val 256
  | ⟨1, _⟩ => rfl

variable (x : FVec Ideal S16x32x32x32 .f32) (e : FVec Ideal S8192x32 .f32)

/-- The kernel finds for each vector the first codebook row at the least distance. -/
theorem found_first (a : Fin 16384) :
    Least.First (fun k => Least.dst (fun i => rowsOf (F := Ideal) x (ValueIdx.ix2 a i)) (fun i => e (ValueIdx.ix2 k i))) (idxOf (F := Ideal) x e (ValueIdx.ix1 a)) := by
  have h := nearest_first (blockOf (F := Ideal) (rowsOf (F := Ideal) x) ⟨a.val / 256, by omega⟩) (colsOf (F := Ideal) e) ⟨a.val % 256, Nat.mod_lt _ (by decide)⟩
  have eq : (fun k : Fin 8192 => Least.dst (fun i => blockOf (F := Ideal) (rowsOf (F := Ideal) x) ⟨a.val / 256, by omega⟩ (ValueIdx.ix2 ⟨a.val % 256, Nat.mod_lt _ (by decide)⟩ i))
      (fun i => colsOf (F := Ideal) e (ValueIdx.ix2 i k)))
      = fun k => Least.dst (fun i => rowsOf (F := Ideal) x (ValueIdx.ix2 a i)) (fun i => e (ValueIdx.ix2 k i)) := funext fun k =>
    congrArg₂ Least.dst (funext fun i => block_apply _ a i) (funext fun i => cols_apply e i k)
  exact eq ▸ h

theorem index_eq : idxOf (F := Ideal) x e = ReferenceRun.index (F := Ideal) x e := by
  funext j
  have hj : j = ValueIdx.ix1 (j 0) := ValueIdx.eq_ix1 j
  rw [hj]
  exact (found_first x e (j 0)).unique (ReferenceRun.index_first x e (j 0))

theorem index_lt (j : S16384.Idx) : (idxOf (F := Ideal) x e j).toNat < 8192 := by
  have hj : j = ValueIdx.ix1 (j 0) := ValueIdx.eq_ix1 j
  rw [hj]
  exact (found_first x e (j 0)).lt

theorem inBook (m : (ℓ : Loc nD τ sig) → Buf (Elt Ideal) ℓ) : InBook m := fun d j => by
  rw [ix_eq]; exact index_lt _ _ j

/-! ## The gathered rows -/

theorem near_eq (ix : IVec S16384 32) (h : ∀ j, (ix j).toNat < 8192) : nearOf (F := Ideal) e ix = TakeRead.takeOf (F := Ideal) e ix := by
  funext j
  have hj : j = ValueIdx.ix2 (j 0) (j 1) := ValueIdx.eq_ix2 j
  refine Eq.trans ?_ ((TakeRead.takeOf_apply ix h e (j 0) (j 1)).symm.trans (congrArg _ hj.symm))
  unfold nearOf
  congr 1
  funext c; apply Fin.ext
  match c with
  | ⟨0, _⟩ => exact Nat.mod_eq_of_lt (h _)
  | ⟨1, _⟩ => rfl

/-! ## The layouts -/

section layout

variable {α : Type}

/-- The array's vectors as rows, and back, for values of any kind. -/
def toRows (x : S16x32x32x32.Idx → α) : S16384x32.Idx → α :=
  shapeCast S16384x32 (transpose S16x32x32x32 [0, 2, 3, 1] x transposes_S16x32x32x32_S16x32x32x32_0_2_3_1) shapeCasts_S16x32x32x32_S16384x32
def ofRows (y : S16384x32.Idx → α) : S16x32x32x32.Idx → α :=
  transpose S16x32x32x32 [0, 3, 1, 2] (shapeCast S16x32x32x32 y shapeCasts_S16384x32_S16x32x32x32) transposes_S16x32x32x32_S16x32x32x32_0_3_1_2

theorem turn_apply (x : S16x32x32x32.Idx → α) (j : S16x32x32x32.Idx) :
    transpose S16x32x32x32 [0, 2, 3, 1] x transposes_S16x32x32x32_S16x32x32x32_0_2_3_1 j = x (ValueIdx.ix4 (j 0) (j 3) (j 1) (j 2)) := by
  unfold transpose
  congr 1
  funext c; apply Fin.ext
  match c with
  | ⟨0, _⟩ => rfl
  | ⟨1, _⟩ => rfl
  | ⟨2, _⟩ => rfl
  | ⟨3, _⟩ => rfl

theorem unturn_apply (x : S16x32x32x32.Idx → α) (j : S16x32x32x32.Idx) :
    transpose S16x32x32x32 [0, 3, 1, 2] x transposes_S16x32x32x32_S16x32x32x32_0_3_1_2 j = x (ValueIdx.ix4 (j 0) (j 2) (j 3) (j 1)) := by
  unfold transpose
  congr 1
  funext c; apply Fin.ext
  match c with
  | ⟨0, _⟩ => rfl
  | ⟨1, _⟩ => rfl
  | ⟨2, _⟩ => rfl
  | ⟨3, _⟩ => rfl

theorem ofRows_toRows (x : S16x32x32x32.Idx → α) : ofRows (toRows x) = x := by
  unfold ofRows toRows
  rw [shapeCast_shapeCast]
  funext j
  rw [unturn_apply, turn_apply]
  exact congrArg x (ValueIdx.eq_ix4 j).symm

theorem toRows_ofRows (y : S16384x32.Idx → α) : toRows (ofRows y) = y := by
  unfold ofRows toRows
  have h : transpose S16x32x32x32 [0, 2, 3, 1] (transpose S16x32x32x32 [0, 3, 1, 2] (shapeCast S16x32x32x32 y shapeCasts_S16384x32_S16x32x32x32)
      transposes_S16x32x32x32_S16x32x32x32_0_3_1_2) transposes_S16x32x32x32_S16x32x32x32_0_2_3_1 = shapeCast S16x32x32x32 y shapeCasts_S16384x32_S16x32x32x32 := by
    generalize shapeCast S16x32x32x32 y shapeCasts_S16384x32_S16x32x32x32 = z
    funext j
    rw [turn_apply, unturn_apply]
    exact congrArg z (ValueIdx.eq_ix4 j).symm
  rw [h, shapeCast_shapeCast]

/-- Where the array's entry `j` lies among the rows. -/
def place : S16x32x32x32.Idx ≃ S16384x32.Idx where
  toFun := ofRows id
  invFun := toRows id
  left_inv j := congrFun (ofRows_toRows id) j
  right_inv j := congrFun (toRows_ofRows id) j

theorem ofRows_apply (y : S16384x32.Idx → α) (j : S16x32x32x32.Idx) : ofRows y j = y (place j) := rfl

end layout

theorem back_rows (j : S16x32x32x32.Idx) : rowsOf (F := Ideal) x (place j) = x j := congrFun (ofRows_toRows x) j

/-! ## The straight-through value -/

theorem through_apply (r q : FVec Ideal S16384x32 .f32) (i : S16384x32.Idx) : through (F := Ideal) r q i = r i + (q i - r i) := by
  have h1 : k2_pay1 (F := Ideal) r = r := shapeCast_self r _
  have h2 : k2_pay1 (F := Ideal) q = q := shapeCast_self q _
  unfold through k2_pay3
  show k2_pay1 (F := Ideal) r i + (k2_pay1 (F := Ideal) q i - k2_pay1 (F := Ideal) r i) = _
  rw [h1, h2]

theorem through_eq (q : FVec Ideal S16384x32 .f32) :
    backOf (F := Ideal) (through (F := Ideal) (rowsOf (F := Ideal) x) q) = addf (F := Ideal) (φ := .f32) x (subf (F := Ideal) (φ := .f32) (ReferenceRun.back (F := Ideal) q) x) := by
  funext j
  refine (ofRows_apply (through (F := Ideal) (rowsOf (F := Ideal) x) q) j).trans ?_
  rw [through_apply, back_rows]
  rfl

/-! ## The mean of the squares -/

/-- The square of a vector's difference from its row. -/
def sq (r q : FVec Ideal S16384x32 .f32) : FVec Ideal S16384x32 .f32 := fun i => (q i - r i) * (q i - r i)

theorem total3 (v : FVec Ideal S16384x32 .f32) (j : S1.Idx) :
    multiReduction (F := Ideal) .add [1, 2] S1 (shapeCast S1x16384x32 v shapeCasts_S16384x32_S1x16384x32) 0x00000000#32 reduces_S1x16384x32_S1 (.inl rfl) rfl j
      = ∑ i : S16384x32.Idx, v i :=
  (Ideal.multiReduction_add_total _ _ reduces_S1x16384x32_S1 (by decide) _ _ j).trans
    (Equiv.sum_comp (Shape.reshapeEquiv shapeCasts_S16384x32_S1x16384x32) v)

/-- The one number of `w`, in the shape the kernel stores. -/
def stored (w : FVec Ideal S1 .f32) : FVec Ideal S1x1 .f32 :=
  broadcast S1x1 (extractAt ![0, 0, 0] (shapeCast S1x1x1 w shapeCasts_S1_S1x1x1) inpos_S1x1x1_p0_0_0)

theorem stored_apply (w : FVec Ideal S1 .f32) (j : S1x1.Idx) : ∃ k, stored w j = w k := ⟨_, rfl⟩

/-- The sum of the entries of `v`, in the shape the kernel stores. -/
def storedSum (v : FVec Ideal S16384x32 .f32) : FVec Ideal S1x1 .f32 :=
  stored (multiReduction (F := Ideal) .add [1, 2] S1 (shapeCast S1x16384x32 v shapeCasts_S16384x32_S1x16384x32) 0x00000000#32 reduces_S1x16384x32_S1 (.inl rfl) rfl)

theorem storedSum_apply (v : FVec Ideal S16384x32 .f32) (j : S1x1.Idx) : storedSum v j = ∑ i : S16384x32.Idx, v i := by
  unfold storedSum
  generalize hw : multiReduction (F := Ideal) .add [1, 2] S1 (shapeCast S1x16384x32 v shapeCasts_S16384x32_S1x16384x32) 0x00000000#32 reduces_S1x16384x32_S1 (.inl rfl) rfl = w
  obtain ⟨k, hk⟩ := stored_apply w j
  rw [hk, ← hw]
  exact total3 v k

theorem sumSq_stored (r q : FVec Ideal S16384x32 .f32) :
    sumSq (F := Ideal) r q = storedSum (mulf (F := Ideal) (φ := .f32) (k2_pay2 (F := Ideal) r q) (k2_pay2 (F := Ideal) r q)) := rfl

theorem square_eq (r q : FVec Ideal S16384x32 .f32) : mulf (F := Ideal) (φ := .f32) (k2_pay2 (F := Ideal) r q) (k2_pay2 (F := Ideal) r q) = sq r q := by
  have h1 : k2_pay1 (F := Ideal) r = r := shapeCast_self r _
  have h2 : k2_pay2 (F := Ideal) r q = fun i => q i - r i := by
    unfold k2_pay2
    rw [h1]
    exact congrArg (fun z : FVec Ideal S16384x32 .f32 => subf (F := Ideal) (φ := .f32) z r) (shapeCast_self q _)
  rw [h2]; rfl

theorem sumSq_apply (r q : FVec Ideal S16384x32 .f32) (j : S1x1.Idx) : sumSq (F := Ideal) r q j = ∑ i : S16384x32.Idx, sq r q i := by
  rw [sumSq_stored, square_eq, storedSum_apply]

theorem total4 (v : FVec Ideal S16x32x32x32 .f32) (j : S_.Idx) :
    Host.reduceAdd (F := Ideal) (φ := .f32) v (constant S_ .f32 0x00000000#32) Cert.ReferenceIdeal.Gen.reducesTo_S16x32x32x32_S_d0_1_2_3 Cert.ReferenceIdeal.Gen.h_S_ j
      = ∑ i : S16x32x32x32.Idx, v i := by
  show Ideal.hostReduceAdd Cert.ReferenceIdeal.Gen.reducesTo_S16x32x32x32_S_d0_1_2_3 v (Ideal.ofBits .f32 0x00000000#32) j = _
  rw [Ideal.hostReduceAdd_total _ (by decide), Ideal.ofBits_zero_f32, zero_add]

theorem mean_eq (q : FVec Ideal S16384x32 .f32) :
    meanOf (F := Ideal) (sumSq (F := Ideal) (rowsOf (F := Ideal) x) q) = ReferenceRun.mean (F := Ideal) (ReferenceRun.back (F := Ideal) q) x := by
  have h : (shapeCast S_ (sumSq (F := Ideal) (rowsOf (F := Ideal) x) q) shapeCasts_S1x1_S_ : FVec Ideal S_ .f32)
      = Host.reduceAdd (F := Ideal) (φ := .f32) (mulf (F := Ideal) (φ := .f32) (subf (F := Ideal) (φ := .f32) (ReferenceRun.back (F := Ideal) q) x) (subf (F := Ideal) (φ := .f32) (ReferenceRun.back (F := Ideal) q) x))
        (constant S_ .f32 0x00000000#32) Cert.ReferenceIdeal.Gen.reducesTo_S16x32x32x32_S_d0_1_2_3 Cert.ReferenceIdeal.Gen.h_S_ := by
    funext j
    refine (sumSq_apply (rowsOf (F := Ideal) x) q _).trans (Eq.trans ?_ (total4 _ j).symm)
    rw [← Equiv.sum_comp place]
    refine Finset.sum_congr rfl fun i _ => ?_
    unfold sq
    rw [back_rows]
    rfl
  exact congrArg (fun z : FVec Ideal S_ .f32 => Host.divf (F := Ideal) (φ := .f32) z (constant S_ .f32 0x49000000#32)) h

theorem loss_eq (q : FVec Ideal S16384x32 .f32) :
    lossOf (F := Ideal) (sumSq (F := Ideal) (rowsOf (F := Ideal) x) q) = ReferenceRun.loss (F := Ideal) (ReferenceRun.back (F := Ideal) q) x := by
  unfold lossOf ReferenceRun.loss
  rw [mean_eq]

/-- The gathered rows are the reference's. -/
theorem taken_eq : nearOf (F := Ideal) e (idxOf (F := Ideal) x e) = TakeRead.takeOf (F := Ideal) e (ReferenceRun.index (F := Ideal) x e) := by
  rw [near_eq e _ (index_lt x e), index_eq]

/-! ## The five results -/

/-- The gathered rows in the inputs' layout, and the kernel's rows. -/
theorem quantized_eq : ReferenceRun.quantized (F := Ideal) x e = ReferenceRun.back (F := Ideal) (nearOf (F := Ideal) e (idxOf (F := Ideal) x e)) := by
  rw [taken_eq]; rfl

theorem result_st : addf (F := Ideal) (φ := .f32) x (subf (F := Ideal) (φ := .f32) (ReferenceRun.quantized (F := Ideal) x e) x)
    = backOf (F := Ideal) (through (F := Ideal) (rowsOf (F := Ideal) x) (nearOf (F := Ideal) e (idxOf (F := Ideal) x e))) := by
  rw [through_eq, quantized_eq]

theorem result_mean : ReferenceRun.mean (F := Ideal) (ReferenceRun.quantized (F := Ideal) x e) x
    = meanOf (F := Ideal) (sumSq (F := Ideal) (rowsOf (F := Ideal) x) (nearOf (F := Ideal) e (idxOf (F := Ideal) x e))) := by
  rw [mean_eq, quantized_eq]

theorem result_loss : ReferenceRun.loss (F := Ideal) (ReferenceRun.quantized (F := Ideal) x e) x
    = lossOf (F := Ideal) (sumSq (F := Ideal) (rowsOf (F := Ideal) x) (nearOf (F := Ideal) e (idxOf (F := Ideal) x e))) := by
  rw [loss_eq, quantized_eq]

theorem result_index : (shapeCast Cert.ReferenceIdeal.S16x32x32 (ReferenceRun.index (F := Ideal) x e) Cert.ReferenceIdeal.Gen.shapeCasts_S16384_S16x32x32 : S16x32x32.Idx → BitVec 32)
    = shapeCast S16x32x32 (idxOf (F := Ideal) x e) shapeCasts_S16384_S16x32x32 := by
  rw [index_eq]

end Cert.Proof.Equations

end
-- ==== Proof.SearchRead.lean ====
/-
  The search call by itself, over the extended reals: the array of row numbers it leaves is the one the whole kernel's search
  leaves, block by block.
-/
module

public import proofs.«01_k».proof.Proof.KernelArrays
public import proofs.«01_k».proof.Proof.Gen.SearchIdeal.Frame
public import proofs.«01_k».proof.Proof.Gen.SearchIdeal.Value
public import Idealize.ShloMosaic.Lib.Pipeline.ValueKit

@[expose] public section

noncomputable section

namespace Cert.Proof.SearchRead

open Cert.SearchIdeal Cert.SearchIdeal.Gen

open Idealize.ShloMosaic
open Idealize.ShloMosaic.TcCoe
open Idealize.ShloMosaic.Pipeline (Dat)
open Idealize.ShloMosaic.StableHlo (after)
open Idealize.SL Idealize.SL.Sem

variable {F : FTy → Type} [FloatOps F]
variable (m : (ℓ : Loc nD τ sig) → Buf (Elt F) ℓ) (ρ : Dev nD → PrngReg) (c : Dev nD)

abbrev argX : FVec F S16x32x32x32 .f32 := m (c, Proc.devRef .tc (main_arg0 : Ref sig .tc))
abbrev argE : FVec F S8192x32 .f32 := m (c, Proc.devRef .tc (main_arg1 : Ref sig .tc))

/-! ## What the region finds -/

theorem V_rows : V m c (main_v1 : Ref sig .tc) = KernelTile.rowsOf (argX m c) := by
  unfold V; simp only [hostOps0]; after_results <;> rfl
theorem V_cols : V m c (main_v2 : Ref sig .tc) = KernelTile.colsOf (argE m c) := by
  unfold V; simp only [hostOps0]; after_results <;> rfl

theorem index0_0 : ∀ t : Fin cfg0.N, win0_0.index t 0 = t.val ∧ win0_0.index t 1 = 0 := by decide +kernel
theorem index0_1 : ∀ t : Fin cfg0.N, win0_1.index t 0 = 0 ∧ win0_1.index t 1 = 0 := by decide +kernel
theorem index0_2 : ∀ t : Fin cfg0.N, win0_2.index t 0 = t.val := by decide +kernel

theorem block_eq (t : Fin cfg0.N) : iblk m c 0 t = KernelTile.blockOf (V m c (main_v1 : Ref sig .tc)) t := by
  funext y
  unfold iblk KernelTile.blockOf
  blk_ext
  · rw [(index0_0 t).1]; simp [ValueIdx.ix2]; omega
  · rw [(index0_0 t).2]; simp [ValueIdx.ix2]

theorem book_eq (t : Fin cfg0.N) : iblk m c 1 t = V m c (main_v2 : Ref sig .tc) := by
  funext y
  unfold iblk
  blk_ext
  · rw [(index0_1 t).1]; omega
  · rw [(index0_1 t).2]; omega

/-! ## What it leaves -/

theorem zero2 : (![0, 0] : Fin 2 → ℕ) = fun _ => 0 := by decide
theorem zero1 : (![0] : Fin 1 → ℕ) = fun _ => 0 := by decide

/-- One block's row numbers. -/
theorem out_eq (x : FVec F S256x32 .f32) (e : FVec F S32x8192 .f32) : out0_2 (F := F) x e = KernelTile.nearest (F := F) x e := by
  unfold out0_2
  have h0 : View.ld (Val := Elt F) (e' := .f32) x r0_0 = x := View.ld_unit_zero zero2 _ _
  have h1 : View.ld (Val := Elt F) (e' := .f32) e r0_1 = e := View.ld_unit_zero zero2 _ _
  rw [h0, h1]
  exact View.canon_unit_zero zero1 _ _

theorem after_eq (t : Fin cfg0.N) : (dats m 0 c).after 2 t = KernelTile.nearest (F := F) (KernelTile.blockOf (KernelTile.rowsOf (argX m c)) t) (KernelTile.colsOf (argE m c)) := by
  rw [after0_2, out_eq, block_eq, book_eq, V_rows, V_cols]

/-- Blocks `X t` of 256 numbers, laid one after the other. -/
theorem found_cell (X : Fin 64 → S256.Idx → BitVec 32) (t : Fin cfg0.N) (y : S256.Idx) :
    X t y = X ⟨((win0_2.blk t).view.emb y 0).val / 256, by have : ((win0_2.blk t).view.emb y 0).val < 16384 := ((win0_2.blk t).view.emb y 0).isLt; omega⟩
      (ValueIdx.ix1 ⟨((win0_2.blk t).view.emb y 0).val % 256, Nat.mod_lt _ (by decide)⟩) := by
  have h : ((win0_2.blk t).view.emb y 0).val = 256 * t.val + (y 0).val := by
    blk_simp
    rw [index0_2 t]; omega
  have hy : (y 0).val < 256 := (y 0).isLt
  congr 1
  · congr 1; refine Fin.ext ?_
    show t.val = ((win0_2.blk t).view.emb y 0).val / 256
    rw [h]; omega
  · funext a; refine Fin.ext ?_
    match a with
    | ⟨0, _⟩ =>
      show (y 0).val = ((win0_2.blk t).view.emb y 0).val % 256
      rw [h]; omega

/-- An array written block by block holds the blocks one after the other. -/
theorem arr_eq {c : Dev nD} (D : Dat τ (Elt F) Unit ℕ (UR sig nD τ) ℕ cfg0 c) (X : Fin 64 → S256.Idx → BitVec 32) (h : ∀ t : Fin cfg0.N, D.after 2 t = X t) :
    D.arrAt 2 cfg0.N = (fun j => X ⟨(j 0).val / 256, by have : (j 0).val < 16384 := (j 0).isLt; omega⟩ (ValueIdx.ix1 ⟨(j 0).val % 256, Nat.mod_lt _ (by decide)⟩) : S16384.Idx → BitVec 32) := by
  refine D.arrAt_eq_of_covers 2 _ (by decide +kernel) fun t hf y => ?_
  rw [show D.after 2 t = X t from h t]
  exact found_cell X t y

theorem found_arr : (dats m 0 c).arrAt 2 cfg0.N = KernelTile.idxOf (F := F) (argX m c) (argE m c) :=
  arr_eq _ (fun t => KernelTile.nearest (F := F) (KernelTile.blockOf (KernelTile.rowsOf (argX m c)) t) (KernelTile.colsOf (argE m c))) (after_eq m c)

/-- The search ends with the row numbers in its result and its arguments as launched. -/
theorem run : θ_run defs (onTc (τ := τ) (main (F := F))) ⟨m, fun _ => 0, ρ⟩ fun r => ∀ c : Dev nD,
      r.2.mem ((c.tc : Thread nD τ).loc main_v3) = KernelTile.idxOf (F := F) (argX m c) (argE m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (found_arr m c), (h c).2⟩) (Value.run_blocks m ρ)

end Cert.Proof.SearchRead

end
-- ==== Proof.NearestRun.lean ====
/-
  The plain search's run: the distances, the index of each row's least, and what its result holds as a function of its arguments.
-/
module

public import proofs.«01_k».proof.Proof.ReferenceRun
public import proofs.«01_k».proof.Proof.Gen.NearestIdeal
public import Idealize.ShloMosaic.Lib.StableHlo.Run

@[expose] public section

noncomputable section

namespace Cert.Proof.NearestRun

open Cert.NearestIdeal Cert.NearestIdeal.Gen Idealize.ShloMosaic Idealize.ShloMosaic.TcCoe Idealize.SL.Sem Idealize.ShloMosaic.StableHlo

variable {F : FTy → Type} [FloatOps F]

/-! ## The operations -/

/-- The distances of the vectors from the codebook's rows. -/
abbrev opsDist : List (HloOp τ sig (Elt F)) :=
  [unary main_arg0 main_v0 ((transpose S16x32x32x32 [0, 2, 3, 1] · transposes_S16x32x32x32_S16x32x32x32_0_2_3_1) : (⟨S16x32x32x32, .f32⟩ : BufTy).Contents (Elt F) → (⟨S16x32x32x32, .f32⟩ : BufTy).Contents (Elt F)),
   reshape main_v0 main_v1 (rfl : (.f32 : EltTy) = .f32) shapeCasts_S16x32x32x32_S16384x32,
   binary main_v1 main_v1 main_v2 (mulf : (⟨S16384x32, .f32⟩ : BufTy).Contents (Elt F) → (⟨S16384x32, .f32⟩ : BufTy).Contents (Elt F) → (⟨S16384x32, .f32⟩ : BufTy).Contents (Elt F)),
   nullary main_cst (constant S_ .f32 0x00000000#32),
   binary main_v2 main_cst main_v3 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
   unary main_v3 main_v4 (broadcastInDim S16384x1 ![0] bcast_S16384_S16384x1_0 : (⟨S16384, .f32⟩ : BufTy).Contents (Elt F) → (⟨S16384x1, .f32⟩ : BufTy).Contents (Elt F)),
   binary main_arg1 main_arg1 main_v5 (mulf : (⟨S8192x32, .f32⟩ : BufTy).Contents (Elt F) → (⟨S8192x32, .f32⟩ : BufTy).Contents (Elt F) → (⟨S8192x32, .f32⟩ : BufTy).Contents (Elt F)),
   nullary main_cst_0 (constant S_ .f32 0x00000000#32),
   binary main_v5 main_cst_0 main_v6 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v6 main_v7 (broadcastInDim S1x8192 ![1] bcast_S8192_S1x8192_1 : (⟨S8192, .f32⟩ : BufTy).Contents (Elt F) → (⟨S1x8192, .f32⟩ : BufTy).Contents (Elt F)),
   unary main_v4 main_v8 (broadcastInDim S16384x8192 ![0, 1] bcast_S16384x1_S16384x8192_0_1 : (⟨S16384x1, .f32⟩ : BufTy).Contents (Elt F) → (⟨S16384x8192, .f32⟩ : BufTy).Contents (Elt F)),
   unary main_v7 main_v9 (broadcastInDim S16384x8192 ![0, 1] bcast_S1x8192_S16384x8192_0_1 : (⟨S1x8192, .f32⟩ : BufTy).Contents (Elt F) → (⟨S16384x8192, .f32⟩ : BufTy).Contents (Elt F)),
   binary main_v8 main_v9 main_v10 (addf : (⟨S16384x8192, .f32⟩ : BufTy).Contents (Elt F) → (⟨S16384x8192, .f32⟩ : BufTy).Contents (Elt F) → (⟨S16384x8192, .f32⟩ : BufTy).Contents (Elt F)),
   unary main_arg1 main_v11 ((transpose S32x8192 [1, 0] · transposes_S8192x32_S32x8192_1_0) : (⟨S8192x32, .f32⟩ : BufTy).Contents (Elt F) → (⟨S32x8192, .f32⟩ : BufTy).Contents (Elt F)),
   binary main_v1 main_v11 main_v12 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
   nullary main_cst_1 (constant S_ .f32 0x40000000#32),
   unary main_cst_1 main_v13 (broadcastInDim S16384x8192 ![] bcast_S_S16384x8192 : (⟨S_, .f32⟩ : BufTy).Contents (Elt F) → (⟨S16384x8192, .f32⟩ : BufTy).Contents (Elt F)),
   binary main_v13 main_v12 main_v14 (mulf : (⟨S16384x8192, .f32⟩ : BufTy).Contents (Elt F) → (⟨S16384x8192, .f32⟩ : BufTy).Contents (Elt F) → (⟨S16384x8192, .f32⟩ : BufTy).Contents (Elt F)),
   binary main_v10 main_v14 main_v15 (subf : (⟨S16384x8192, .f32⟩ : BufTy).Contents (Elt F) → (⟨S16384x8192, .f32⟩ : BufTy).Contents (Elt F) → (⟨S16384x8192, .f32⟩ : BufTy).Contents (Elt F)),
   nullary main_cst_2 (constant S_ .f32 0x00000000#32),
   unary main_cst_2 main_v16 (broadcastInDim S16384x8192 ![] bcast_S_S16384x8192 : (⟨S_, .f32⟩ : BufTy).Contents (Elt F) → (⟨S16384x8192, .f32⟩ : BufTy).Contents (Elt F)),
   binary main_v15 main_v16 main_v17 (maximumf : (⟨S16384x8192, .f32⟩ : BufTy).Contents (Elt F) → (⟨S16384x8192, .f32⟩ : BufTy).Contents (Elt F) → (⟨S16384x8192, .f32⟩ : BufTy).Contents (Elt F)),
   unary main_v17 main_v18 (Host.sqrt : (⟨S16384x8192, .f32⟩ : BufTy).Contents (Elt F) → (⟨S16384x8192, .f32⟩ : BufTy).Contents (Elt F))]

/-- The index of each row's least distance. -/
abbrev opsArg : List (HloOp τ sig (Elt F)) :=
  [TRef.nullary main_call0.v0 (iotaInDim S16384x8192 32 1),
   TRef.nullary main_call0.cst (constant S_ .f32 0x7F800000#32),
   TRef.nullary main_call0.c (constantI S_ 32 0#32),
   TRef.quaternary (TRef.of (T := ⟨S16384x8192, .f32⟩) main_v18) main_call0.v0 main_call0.cst main_call0.c main_call0.v1_0 (fun x y u v j => (Host.argReduce reducer_argmin_f32_i32 x y u v reducesTo_S16384x8192_S16384_d1 h_S_ j).1),
   TRef.quaternary (TRef.of (T := ⟨S16384x8192, .f32⟩) main_v18) main_call0.v0 main_call0.cst main_call0.c main_call0.v1_1 (fun x y u v j => (Host.argReduce reducer_argmin_f32_i32 x y u v reducesTo_S16384x8192_S16384_d1 h_S_ j).2)]

abbrev ops : List (HloOp τ sig (Elt F)) := opsDist ++ opsArg

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem dist_sub : (opsDist : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩
theorem arg_sub : (opsArg : List (HloOp τ sig (Elt F))).Forall fun op => op.bufs ⊆ tcRefs τ sig :=
  ⟨nullary_bufs_sub .., nullary_bufs_sub .., nullary_bufs_sub .., quaternary_bufs_sub .., quaternary_bufs_sub ..⟩
theorem ops_sub : (ops : List (HloOp τ sig (Elt F))).Forall fun op => op.bufs ⊆ tcRefs τ sig :=
  List.forall_append.mpr ⟨dist_sub, arg_sub⟩

/-! ## What each part computes -/

/-- The index of each row's least. -/
def least (d : FVec F S16384x8192 .f32) : IVec S16384 32 := fun j =>
  (Host.argReduce reducer_argmin_f32_i32 d (iotaInDim S16384x8192 32 1) (constant S_ .f32 0x7F800000#32) (constantI S_ 32 0#32) reducesTo_S16384x8192_S16384_d1 h_S_ j).2

theorem reducer_eq : reducer_argmin_f32_i32 (F := F) = Cert.ReferenceIdeal.reducer_argmin_f32_i32 (F := F) := rfl

theorem least_same : least (F := F) = ReferenceRun.least (F := F) := by
  unfold least ReferenceRun.least
  rw [reducer_eq]

section parts

variable (W : Valuation τ sig (Elt F))

theorem dist_keeps (r : Ref sig .tc) (h : r = main_arg0 ∨ r = main_arg1) : after opsDist W (Proc.devRef .tc r) = W (Proc.devRef .tc r) := by
  simp only [opsDist]
  rcases h with rfl | rfl <;> (after_results <;> rfl)

theorem dist_at : after opsDist W (Proc.devRef .tc (main_v18 : Ref sig .tc))
    = ReferenceRun.dist (F := F) (ReferenceRun.rows (F := F) (W (Proc.devRef .tc (main_arg0 : Ref sig .tc)))) (W (Proc.devRef .tc (main_arg1 : Ref sig .tc))) := by
  simp only [opsDist]
  after_results <;> rfl

theorem arg_keeps (r : Ref sig .tc) (h : r = main_arg0 ∨ r = main_arg1) : after opsArg W (Proc.devRef .tc r) = W (Proc.devRef .tc r) := by
  simp only [opsArg, TRef.quaternary, TRef.nullary, TRef.toBuf, TRef.ofBuf, cast_eq]
  rcases h with rfl | rfl <;> (after_results <;> rfl)

theorem arg_at : after opsArg W (Proc.devRef .tc (main_v19 : Ref sig .tc)) = least (W (Proc.devRef .tc (main_v18 : Ref sig .tc))) := by
  simp only [opsArg, TRef.quaternary, TRef.nullary, TRef.toBuf, TRef.ofBuf, cast_eq]
  after_results <;> rfl

end parts

/-! ## The run -/

section run

variable (m : (ℓ : Loc nD τ sig) → Buf (Elt F) ℓ) (ρ : Dev nD → PrngReg) (c : Dev nD)

abbrev argX : FVec F S16x32x32x32 .f32 := m (c, Proc.devRef .tc (main_arg0 : Ref sig .tc))
abbrev argE : FVec F S8192x32 .f32 := m (c, Proc.devRef .tc (main_arg1 : Ref sig .tc))

def V0 : Valuation τ sig (Elt F) := fun b => m (c, b)
def V1 : Valuation τ sig (Elt F) := after opsDist (V0 m c)

omit [FloatOps F] in
theorem after_app (k l : List (HloOp τ sig (Elt F))) (W : Valuation τ sig (Elt F)) : after (k ++ l) W = after l (after k W) := by
  induction k generalizing W with
  | nil => rfl
  | cons op k ih => exact ih (op.result W)

theorem after_ops : after ops (V0 m c) = after opsArg (V1 m c) := by
  unfold V1 ops
  rw [after_app]

theorem found : after opsArg (V1 m c) (Proc.devRef .tc (main_v19 : Ref sig .tc)) = ReferenceRun.index (F := F) (argX m c) (argE m c) :=
  (arg_at (V1 m c)).trans ((congrArg least (dist_at (V0 m c))).trans (congrFun least_same _))

theorem run : θ_run defs (onTc (τ := τ) (main (F := F))) ⟨m, fun _ => 0, ρ⟩ fun r => ∀ c : Dev nD,
      r.2.mem ((c.tc : Thread nD τ).loc main_v19) = ReferenceRun.index (F := F) (argX m c) (argE m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_seq scopedRefs_eq scopedSems_eq defs main (fun _ => ops) main_eq (fun _ => ops_sub) m ρ)
  have e : ∀ b : Ref sig .tc, r.2.mem ((c.tc : Thread nD τ).loc b) = after opsArg (V1 m c) (Proc.devRef .tc b) :=
    fun b => (h c b).trans (congrFun (after_ops m c) _)
  exact ⟨(e main_v19).trans (found m c), (e main_arg0).trans ((arg_keeps _ _ (by decide)).trans (dist_keeps _ _ (by decide))),
    (e main_arg1).trans ((arg_keeps _ _ (by decide)).trans (dist_keeps _ _ (by decide)))⟩

end run

end Cert.Proof.NearestRun

end
-- ==== Proof.SettleRead.lean ====
/-
  The straight-through call by itself, with the host operations on its two sides: what its four results hold, as functions of its
  two arguments; and the same of its reference.
-/
module

public import proofs.«01_k».proof.Proof.KernelArrays
public import proofs.«01_k».proof.Proof.ReferenceRun
public import proofs.«01_k».proof.Proof.Gen.SettleIdeal.Frame
public import proofs.«01_k».proof.Proof.Gen.LossesIdeal.Run
public import Idealize.ShloMosaic.Lib.Pipeline.ValueKit

@[expose] public section

noncomputable section

namespace Cert.Proof.SettleRead

open Cert.SettleIdeal Cert.SettleIdeal.Gen

open Idealize.ShloMosaic
open Idealize.ShloMosaic.TcCoe
open Idealize.ShloMosaic.Pipeline (Dat)
open Idealize.ShloMosaic.StableHlo (after)
open Idealize.SL Idealize.SL.Sem

variable {F : FTy → Type} [FloatOps F]
variable (m : (ℓ : Loc nD τ sig) → Buf (Elt F) ℓ) (ρ : Dev nD → PrngReg) (c : Dev nD)

abbrev argX : FVec F S16x32x32x32 .f32 := m (c, Proc.devRef .tc (main_arg0 : Ref sig .tc))
abbrev argQ : FVec F S16384x32 .f32 := m (c, Proc.devRef .tc (main_arg1 : Ref sig .tc))

/-! ## The arrays of the call -/

theorem V_rows : V m c (main_v1 : Ref sig .tc) = KernelTile.rowsOf (argX m c) := by
  unfold V V0; simp only [hostOps0, List.flatten_cons, List.flatten_nil, List.append_nil]; after_results <;> rfl

theorem index0_0 : ∀ t : Fin cfg0.N, win0_0.index t 0 = 0 ∧ win0_0.index t 1 = 0 := by decide +kernel
theorem index0_1 : ∀ t : Fin cfg0.N, win0_1.index t 0 = 0 ∧ win0_1.index t 1 = 0 := by decide +kernel

theorem rows_eq (t : Fin cfg0.N) : iblk m c 0 t = V m c (main_v1 : Ref sig .tc) := by
  funext y
  unfold iblk
  blk_ext
  · rw [(index0_0 t).1]; omega
  · rw [(index0_0 t).2]; omega

theorem near_eq (t : Fin cfg0.N) : iblk m c 1 t = V m c (main_arg1 : Ref sig .tc) := by
  funext y
  unfold iblk
  blk_ext
  · rw [(index0_1 t).1]; omega
  · rw [(index0_1 t).2]; omega

theorem zero2 : (![0, 0] : Fin 2 → ℕ) = fun _ => 0 := by decide

theorem pay2_same : k0_pay2 (F := F) = Cert.KernelIdeal.Gen.k2_pay2 (F := F) := by
  funext x q
  unfold k0_pay2 Cert.KernelIdeal.Gen.k2_pay2
  exact congrArg (fun z : FVec F S16384x32 .f32 => subf z (k0_pay1 x)) (shapeCast_self q _).symm
theorem pay3_same : k0_pay3 (F := F) = KernelTile.through (F := F) := by
  funext x q
  unfold k0_pay3 KernelTile.through Cert.KernelIdeal.Gen.k2_pay3
  rw [pay2_same]
  rfl
theorem pay4_same : k0_pay4 (F := F) = KernelTile.sumSq (F := F) := by
  funext x q
  unfold k0_pay4 KernelTile.sumSq Cert.KernelIdeal.Gen.k2_pay4
  rw [pay2_same]

theorem out2_eq (x q : FVec F S16384x32 .f32) : out0_2 (F := F) x q = KernelTile.through (F := F) x q := by
  unfold out0_2
  have h0 : View.ld (Val := Elt F) (e' := .f32) x r0_0 = x := View.ld_unit_zero zero2 _ _
  have h1 : View.ld (Val := Elt F) (e' := .f32) q r0_0 = q := View.ld_unit_zero zero2 _ _
  rw [h0, h1]
  exact (View.canon_unit_zero (Val := Elt F) (e := .f32) zero2 _ (k0_pay3 x q)).trans (congrFun (congrFun pay3_same x) q)

theorem out3_eq (x q : FVec F S16384x32 .f32) : out0_3 (F := F) x q = KernelTile.sumSq (F := F) x q := by
  unfold out0_3
  have h0 : View.ld (Val := Elt F) (e' := .f32) x r0_0 = x := View.ld_unit_zero zero2 _ _
  have h1 : View.ld (Val := Elt F) (e' := .f32) q r0_0 = q := View.ld_unit_zero zero2 _ _
  rw [h0, h1]
  exact (View.canon_unit_zero (Val := Elt F) (e := .f32) zero2 _ (k0_pay4 x q)).trans (congrFun (congrFun pay4_same x) q)

theorem left2 (t : Fin cfg0.N) : (dats m 0 c).after 2 t = KernelTile.through (F := F) (KernelTile.rowsOf (argX m c)) (argQ m c) := by
  rw [after0_2, out2_eq, rows_eq, near_eq, V_rows, V_main_arg1]
theorem left3 (t : Fin cfg0.N) : (dats m 0 c).after 3 t = KernelTile.sumSq (F := F) (KernelTile.rowsOf (argX m c)) (argQ m c) := by
  rw [after0_3, out3_eq, rows_eq, near_eq, V_rows, V_main_arg1]

/-- The one point. -/
abbrev t0 : Fin cfg0.N := ⟨0, by decide +kernel⟩

theorem whole2 : (cfg0.win 2).WholeAt t0 := by decide +kernel
theorem whole3 : (cfg0.win 3).WholeAt t0 := by decide +kernel

/-- An array written whole by the one point is what that point left. -/
theorem arr2 {c : Dev nD} (D : Dat τ (Elt F) Unit ℕ (UR sig nD τ) ℕ cfg0 c) (X : FVec F S16384x32 .f32) (h : D.after 2 t0 = X) : D.arrAt 2 cfg0.N = X := by
  refine D.arrAt_eq_of_after_last 2 t0 whole2 _ fun j => ?_
  rw [h]; rfl
theorem arr3 {c : Dev nD} (D : Dat τ (Elt F) Unit ℕ (UR sig nD τ) ℕ cfg0 c) (X : FVec F S1x1 .f32) (h : D.after 3 t0 = X) : D.arrAt 3 cfg0.N = X := by
  refine D.arrAt_eq_of_after_last 3 t0 whole3 _ fun j => ?_
  rw [h]; rfl

/-! ## The operations after it -/

section tail

variable (W : Valuation τ sig (Elt F))

theorem tail_st : after hostOps1 W (Proc.devRef .tc (main_v8 : Ref sig .tc)) = KernelTile.backOf (F := F) (W (Proc.devRef .tc (main_v2_0 : Ref sig .tc))) := by
  simp only [hostOps1]
  after_results <;> rfl
theorem tail_mean : after hostOps1 W (Proc.devRef .tc (main_v4 : Ref sig .tc)) = KernelTile.meanOf (F := F) (W (Proc.devRef .tc (main_v2_1 : Ref sig .tc))) := by
  simp only [hostOps1]
  after_results <;> rfl
theorem tail_loss : after hostOps1 W (Proc.devRef .tc (main_v6 : Ref sig .tc)) = KernelTile.lossOf (F := F) (W (Proc.devRef .tc (main_v2_1 : Ref sig .tc))) := by
  simp only [hostOps1]
  after_results <;> rfl

end tail

/-- The buffers between the call and the operations after it. -/
def W1 : Valuation τ sig (Elt F) := Pipeline.withArrays spec0 c (V0 m c) fun w => (dats m 0 c).arrAt w cfg0.N

theorem tail_eq (b : Ref sig .tc) : Pipeline.afterTail₀ cfgs (dats m) 0 (V0 m) [hostOps1] c b = after hostOps1 (W1 m c) (Proc.devRef .tc b) := by
  unfold Pipeline.afterTail₀
  rw [List.flatten_cons, List.flatten_nil, List.append_nil]
  rfl

theorem W1_st : W1 m c (Proc.devRef .tc (main_v2_0 : Ref sig .tc)) = KernelTile.through (F := F) (KernelTile.rowsOf (argX m c)) (argQ m c) :=
  (Pipeline.withArrays_arr spec0 launch0.win.arr_inj c (V0 m c) (fun w => (dats m 0 c).arrAt w cfg0.N) 2).trans (arr2 _ _ (left2 m c t0))
theorem W1_sum : W1 m c (Proc.devRef .tc (main_v2_1 : Ref sig .tc)) = KernelTile.sumSq (F := F) (KernelTile.rowsOf (argX m c)) (argQ m c) :=
  (Pipeline.withArrays_arr spec0 launch0.win.arr_inj c (V0 m c) (fun w => (dats m 0 c).arrAt w cfg0.N) 3).trans (arr3 _ _ (left3 m c t0))

/-- What the four results hold at the end, and the arguments as launched. -/
theorem run : θ_run defs (onTc (τ := τ) (main (F := F))) ⟨m, fun _ => 0, ρ⟩ fun r => ∀ c : Dev nD,
      r.2.mem ((c.tc : Thread nD τ).loc main_v8) = KernelTile.backOf (F := F) (KernelTile.through (F := F) (KernelTile.rowsOf (argX m c)) (argQ m c))
      ∧ r.2.mem ((c.tc : Thread nD τ).loc main_v4) = KernelTile.meanOf (F := F) (KernelTile.sumSq (F := F) (KernelTile.rowsOf (argX m c)) (argQ m c))
      ∧ r.2.mem ((c.tc : Thread nD τ).loc main_v6) = KernelTile.lossOf (F := F) (KernelTile.sumSq (F := F) (KernelTile.rowsOf (argX m c)) (argQ m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (θ_run_and (run_main m ρ) (unchanged m ρ))
  refine ⟨?_, ?_, ?_, h.2 c⟩
  · exact ((h.1 c).2 main_v8 (Pipeline.mem_restRefs_of main_v8 (by decide) (by decide))).trans ((tail_eq m c main_v8).trans ((tail_st _).trans (congrArg _ (W1_st m c))))
  · exact ((h.1 c).2 main_v4 (Pipeline.mem_restRefs_of main_v4 (by decide) (by decide))).trans ((tail_eq m c main_v4).trans ((tail_mean _).trans (congrArg _ (W1_sum m c))))
  · exact ((h.1 c).2 main_v6 (Pipeline.mem_restRefs_of main_v6 (by decide) (by decide))).trans ((tail_eq m c main_v6).trans ((tail_loss _).trans (congrArg _ (W1_sum m c))))

end Cert.Proof.SettleRead

/-! ## The reference -/

namespace Cert.Proof.LossesRead

open Cert.LossesIdeal Cert.LossesIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

abbrev argX : FVec F S16x32x32x32 .f32 := m (c, Proc.devRef .tc (main_arg0 : Ref sig .tc))
abbrev argQ : FVec F S16384x32 .f32 := m (c, Proc.devRef .tc (main_arg1 : Ref sig .tc))

theorem run : θ_run defs (onTc (τ := τ) (main (F := F))) ⟨m, fun _ => 0, ρ⟩ fun r => ∀ c : Dev nD,
      r.2.mem ((c.tc : Thread nD τ).loc main_v13) = (addf (argX m c) (subf (ReferenceRun.back (F := F) (argQ m c)) (argX m c)) : FVec F S16x32x32x32 .f32)
      ∧ r.2.mem ((c.tc : Thread nD τ).loc main_v5) = ReferenceRun.mean (F := F) (ReferenceRun.back (F := F) (argQ m c)) (argX m c)
      ∧ r.2.mem ((c.tc : Thread nD τ).loc main_v9) = ReferenceRun.mean (F := F) (ReferenceRun.back (F := F) (argQ m c)) (argX m c)
      ∧ r.2.mem ((c.tc : Thread nD τ).loc main_v11) = ReferenceRun.loss (F := F) (ReferenceRun.back (F := F) (argQ m c)) (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1, (h c).2.1, (h c).2.2.1, (h c).2.2.2.1, (h c).2.2.2.2⟩) (Value.run m ρ)

end Cert.Proof.LossesRead

end
-- ==== Proof.SettleReadBits.lean ====
/-
  The straight-through call by itself, with the host operations on its two sides: what its four results hold, as functions of its
  two arguments; and the same of its reference; at the machine's
  floats, where the straight-through value of the two is bit for bit the same.
-/
module

public import proofs.«01_k».proof.Proof.KernelArrays
public import proofs.«01_k».proof.Proof.ReferenceRun
public import proofs.«01_k».proof.Proof.Equations
public import proofs.«01_k».proof.Proof.Gen.Settle.Frame
public import proofs.«01_k».proof.Proof.Gen.Losses.Run
public import Idealize.ShloMosaic.Lib.Pipeline.ValueKit

@[expose] public section

noncomputable section

namespace Cert.Proof.SettleReadBits

open Cert.Settle Cert.Settle.Gen

open Idealize.ShloMosaic
open Idealize.ShloMosaic.TcCoe
open Idealize.ShloMosaic.Pipeline (Dat)
open Idealize.ShloMosaic.StableHlo (after)
open Idealize.SL Idealize.SL.Sem

variable {F : FTy → Type} [FloatOps F]
variable (m : (ℓ : Loc nD τ sig) → Buf (Elt F) ℓ) (ρ : Dev nD → PrngReg) (c : Dev nD)

abbrev argX : FVec F S16x32x32x32 .f32 := m (c, Proc.devRef .tc (main_arg0 : Ref sig .tc))
abbrev argQ : FVec F S16384x32 .f32 := m (c, Proc.devRef .tc (main_arg1 : Ref sig .tc))

/-! ## The arrays of the call -/

theorem V_rows : V m c (main_v1 : Ref sig .tc) = KernelTile.rowsOf (argX m c) := by
  unfold V V0; simp only [hostOps0, List.flatten_cons, List.flatten_nil, List.append_nil]; after_results <;> rfl

theorem index0_0 : ∀ t : Fin cfg0.N, win0_0.index t 0 = 0 ∧ win0_0.index t 1 = 0 := by decide +kernel
theorem index0_1 : ∀ t : Fin cfg0.N, win0_1.index t 0 = 0 ∧ win0_1.index t 1 = 0 := by decide +kernel

theorem rows_eq (t : Fin cfg0.N) : iblk m c 0 t = V m c (main_v1 : Ref sig .tc) := by
  funext y
  unfold iblk
  blk_ext
  · rw [(index0_0 t).1]; omega
  · rw [(index0_0 t).2]; omega

theorem near_eq (t : Fin cfg0.N) : iblk m c 1 t = V m c (main_arg1 : Ref sig .tc) := by
  funext y
  unfold iblk
  blk_ext
  · rw [(index0_1 t).1]; omega
  · rw [(index0_1 t).2]; omega

theorem zero2 : (![0, 0] : Fin 2 → ℕ) = fun _ => 0 := by decide

theorem pay2_same : k0_pay2 (F := F) = Cert.KernelIdeal.Gen.k2_pay2 (F := F) := by
  funext x q
  unfold k0_pay2 Cert.KernelIdeal.Gen.k2_pay2
  exact congrArg (fun z : FVec F S16384x32 .f32 => subf z (k0_pay1 x)) (shapeCast_self q _).symm
theorem pay3_same : k0_pay3 (F := F) = KernelTile.through (F := F) := by
  funext x q
  unfold k0_pay3 KernelTile.through Cert.KernelIdeal.Gen.k2_pay3
  rw [pay2_same]
  rfl
theorem pay4_same : k0_pay4 (F := F) = KernelTile.sumSq (F := F) := by
  funext x q
  unfold k0_pay4 KernelTile.sumSq Cert.KernelIdeal.Gen.k2_pay4
  rw [pay2_same]

theorem out2_eq (x q : FVec F S16384x32 .f32) : out0_2 (F := F) x q = KernelTile.through (F := F) x q := by
  unfold out0_2
  have h0 : View.ld (Val := Elt F) (e' := .f32) x r0_0 = x := View.ld_unit_zero zero2 _ _
  have h1 : View.ld (Val := Elt F) (e' := .f32) q r0_0 = q := View.ld_unit_zero zero2 _ _
  rw [h0, h1]
  exact (View.canon_unit_zero (Val := Elt F) (e := .f32) zero2 _ (k0_pay3 x q)).trans (congrFun (congrFun pay3_same x) q)

theorem out3_eq (x q : FVec F S16384x32 .f32) : out0_3 (F := F) x q = KernelTile.sumSq (F := F) x q := by
  unfold out0_3
  have h0 : View.ld (Val := Elt F) (e' := .f32) x r0_0 = x := View.ld_unit_zero zero2 _ _
  have h1 : View.ld (Val := Elt F) (e' := .f32) q r0_0 = q := View.ld_unit_zero zero2 _ _
  rw [h0, h1]
  exact (View.canon_unit_zero (Val := Elt F) (e := .f32) zero2 _ (k0_pay4 x q)).trans (congrFun (congrFun pay4_same x) q)

theorem left2 (t : Fin cfg0.N) : (dats m 0 c).after 2 t = KernelTile.through (F := F) (KernelTile.rowsOf (argX m c)) (argQ m c) := by
  rw [after0_2, out2_eq, rows_eq, near_eq, V_rows, V_main_arg1]
theorem left3 (t : Fin cfg0.N) : (dats m 0 c).after 3 t = KernelTile.sumSq (F := F) (KernelTile.rowsOf (argX m c)) (argQ m c) := by
  rw [after0_3, out3_eq, rows_eq, near_eq, V_rows, V_main_arg1]

/-- The one point. -/
abbrev t0 : Fin cfg0.N := ⟨0, by decide +kernel⟩

theorem whole2 : (cfg0.win 2).WholeAt t0 := by decide +kernel
theorem whole3 : (cfg0.win 3).WholeAt t0 := by decide +kernel

/-- An array written whole by the one point is what that point left. -/
theorem arr2 {c : Dev nD} (D : Dat τ (Elt F) Unit ℕ (UR sig nD τ) ℕ cfg0 c) (X : FVec F S16384x32 .f32) (h : D.after 2 t0 = X) : D.arrAt 2 cfg0.N = X := by
  refine D.arrAt_eq_of_after_last 2 t0 whole2 _ fun j => ?_
  rw [h]; rfl
theorem arr3 {c : Dev nD} (D : Dat τ (Elt F) Unit ℕ (UR sig nD τ) ℕ cfg0 c) (X : FVec F S1x1 .f32) (h : D.after 3 t0 = X) : D.arrAt 3 cfg0.N = X := by
  refine D.arrAt_eq_of_after_last 3 t0 whole3 _ fun j => ?_
  rw [h]; rfl

/-! ## The operations after it -/

section tail

variable (W : Valuation τ sig (Elt F))

theorem tail_st : after hostOps1 W (Proc.devRef .tc (main_v8 : Ref sig .tc)) = KernelTile.backOf (F := F) (W (Proc.devRef .tc (main_v2_0 : Ref sig .tc))) := by
  simp only [hostOps1]
  after_results <;> rfl
theorem tail_mean : after hostOps1 W (Proc.devRef .tc (main_v4 : Ref sig .tc)) = KernelTile.meanOf (F := F) (W (Proc.devRef .tc (main_v2_1 : Ref sig .tc))) := by
  simp only [hostOps1]
  after_results <;> rfl
theorem tail_loss : after hostOps1 W (Proc.devRef .tc (main_v6 : Ref sig .tc)) = KernelTile.lossOf (F := F) (W (Proc.devRef .tc (main_v2_1 : Ref sig .tc))) := by
  simp only [hostOps1]
  after_results <;> rfl

end tail

/-- The buffers between the call and the operations after it. -/
def W1 : Valuation τ sig (Elt F) := Pipeline.withArrays spec0 c (V0 m c) fun w => (dats m 0 c).arrAt w cfg0.N

theorem tail_eq (b : Ref sig .tc) : Pipeline.afterTail₀ cfgs (dats m) 0 (V0 m) [hostOps1] c b = after hostOps1 (W1 m c) (Proc.devRef .tc b) := by
  unfold Pipeline.afterTail₀
  rw [List.flatten_cons, List.flatten_nil, List.append_nil]
  rfl

theorem W1_st : W1 m c (Proc.devRef .tc (main_v2_0 : Ref sig .tc)) = KernelTile.through (F := F) (KernelTile.rowsOf (argX m c)) (argQ m c) :=
  (Pipeline.withArrays_arr spec0 launch0.win.arr_inj c (V0 m c) (fun w => (dats m 0 c).arrAt w cfg0.N) 2).trans (arr2 _ _ (left2 m c t0))
theorem W1_sum : W1 m c (Proc.devRef .tc (main_v2_1 : Ref sig .tc)) = KernelTile.sumSq (F := F) (KernelTile.rowsOf (argX m c)) (argQ m c) :=
  (Pipeline.withArrays_arr spec0 launch0.win.arr_inj c (V0 m c) (fun w => (dats m 0 c).arrAt w cfg0.N) 3).trans (arr3 _ _ (left3 m c t0))

/-- What the four results hold at the end, and the arguments as launched. -/
theorem run : θ_run defs (onTc (τ := τ) (main (F := F))) ⟨m, fun _ => 0, ρ⟩ fun r => ∀ c : Dev nD,
      r.2.mem ((c.tc : Thread nD τ).loc main_v8) = KernelTile.backOf (F := F) (KernelTile.through (F := F) (KernelTile.rowsOf (argX m c)) (argQ m c))
      ∧ r.2.mem ((c.tc : Thread nD τ).loc main_v4) = KernelTile.meanOf (F := F) (KernelTile.sumSq (F := F) (KernelTile.rowsOf (argX m c)) (argQ m c))
      ∧ r.2.mem ((c.tc : Thread nD τ).loc main_v6) = KernelTile.lossOf (F := F) (KernelTile.sumSq (F := F) (KernelTile.rowsOf (argX m c)) (argQ m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (θ_run_and (run_main m ρ) (unchanged m ρ))
  refine ⟨?_, ?_, ?_, h.2 c⟩
  · exact ((h.1 c).2 main_v8 (Pipeline.mem_restRefs_of main_v8 (by decide) (by decide))).trans ((tail_eq m c main_v8).trans ((tail_st _).trans (congrArg _ (W1_st m c))))
  · exact ((h.1 c).2 main_v4 (Pipeline.mem_restRefs_of main_v4 (by decide) (by decide))).trans ((tail_eq m c main_v4).trans ((tail_mean _).trans (congrArg _ (W1_sum m c))))
  · exact ((h.1 c).2 main_v6 (Pipeline.mem_restRefs_of main_v6 (by decide) (by decide))).trans ((tail_eq m c main_v6).trans ((tail_loss _).trans (congrArg _ (W1_sum m c))))

end Cert.Proof.SettleReadBits

/-! ## The straight-through value -/

namespace Cert.Proof.StraightThrough

open Cert.KernelIdeal Cert.KernelIdeal.Gen Cert.Proof.KernelTile

open Idealize.ShloMosaic

variable {F : FTy → Type} [FloatOps F]

theorem rows_place (x : FVec F S16x32x32x32 .f32) (j : S16x32x32x32.Idx) : rowsOf x (Equations.place j) = x j :=
  congrFun (Equations.ofRows_toRows x) j

theorem through_fun (r q : FVec F S16384x32 .f32) : through r q = addf r (subf q r) := by
  have h1 : k2_pay1 (F := F) r = r := shapeCast_self r _
  have h2 : shapeCast S16384x32 q shapeCasts_S16384x32_S16384x32 = q := shapeCast_self q _
  unfold through k2_pay3 k2_pay2
  rw [h1]
  exact congrArg (fun z : FVec F S16384x32 .f32 => addf r (subf z r)) h2

/-- Laid out as rows or as the inputs are, each entry is the same sum of the same two numbers, in any floats. -/
theorem same (x : FVec F S16x32x32x32 .f32) (q : FVec F S16384x32 .f32) : backOf (through (rowsOf x) q) = addf x (subf (ReferenceRun.back q) x) := by
  funext j
  refine (Equations.ofRows_apply (through (rowsOf x) q) j).trans ?_
  rw [through_fun]
  show FloatOps.addf (rowsOf x (Equations.place j)) (FloatOps.subf (q (Equations.place j)) (rowsOf x (Equations.place j))) = _
  rw [rows_place]
  rfl

end Cert.Proof.StraightThrough

/-! ## The reference -/

namespace Cert.Proof.LossesReadBits

open Cert.Losses Cert.Losses.Gen

open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

abbrev argX : FVec F S16x32x32x32 .f32 := m (c, Proc.devRef .tc (main_arg0 : Ref sig .tc))
abbrev argQ : FVec F S16384x32 .f32 := m (c, Proc.devRef .tc (main_arg1 : Ref sig .tc))

theorem run : θ_run defs (onTc (τ := τ) (main (F := F))) ⟨m, fun _ => 0, ρ⟩ fun r => ∀ c : Dev nD,
      r.2.mem ((c.tc : Thread nD τ).loc main_v13) = (addf (argX m c) (subf (ReferenceRun.back (F := F) (argQ m c)) (argX m c)) : FVec F S16x32x32x32 .f32)
      ∧ r.2.mem ((c.tc : Thread nD τ).loc main_v5) = ReferenceRun.mean (F := F) (ReferenceRun.back (F := F) (argQ m c)) (argX m c)
      ∧ r.2.mem ((c.tc : Thread nD τ).loc main_v9) = ReferenceRun.mean (F := F) (ReferenceRun.back (F := F) (argQ m c)) (argX m c)
      ∧ r.2.mem ((c.tc : Thread nD τ).loc main_v11) = ReferenceRun.loss (F := F) (ReferenceRun.back (F := F) (argQ m c)) (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1, (h c).2.1, (h c).2.2.1, (h c).2.2.2.1, (h c).2.2.2.2⟩) (Value.run m ρ)

end Cert.Proof.LossesReadBits

end
-- ==== Proof.lean ====
/-
  The proof of `Cert.Claim`.
-/
module

public import proofs.«01_k».proof.Defs
public import proofs.«01_k».proof.Proof.Gen.Gather
public import proofs.«01_k».proof.Proof.Gen.GatherIdeal
public import proofs.«01_k».proof.Proof.Gen.Gather.Skeleton
public import proofs.«01_k».proof.Proof.Gen.GatherIdeal.Skeleton
public import proofs.«01_k».proof.Proof.Gen.TakeIdeal
public import proofs.«01_k».proof.Proof.Gen.TakeIdeal.Run
public import proofs.«01_k».proof.Proof.Gen.Pre_in_codebook
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Search
public import proofs.«01_k».proof.Proof.Gen.SearchIdeal
public import proofs.«01_k».proof.Proof.Gen.NearestIdeal
public import proofs.«01_k».proof.Proof.Gen.Settle
public import proofs.«01_k».proof.Proof.Gen.SettleIdeal
public import proofs.«01_k».proof.Proof.Gen.LossesIdeal
public import proofs.«01_k».proof.Proof.Gen.Search.Skeleton
public import proofs.«01_k».proof.Proof.Gen.SearchIdeal.Skeleton
public import proofs.«01_k».proof.Proof.Gen.Search.Frame
public import proofs.«01_k».proof.Proof.Gen.SearchIdeal.Frame
public import proofs.«01_k».proof.Proof.Gen.SearchIdeal.Value
public import proofs.«01_k».proof.Proof.Gen.Settle.Launch
public import proofs.«01_k».proof.Proof.Gen.SettleIdeal.Launch
public import proofs.«01_k».proof.Proof.Gen.Settle.Points
public import proofs.«01_k».proof.Proof.Gen.SettleIdeal.Points
public import proofs.«01_k».proof.Proof.Gen.Settle.Skeleton
public import proofs.«01_k».proof.Proof.Gen.SettleIdeal.Skeleton
public import proofs.«01_k».proof.Proof.Gen.Settle.Frame
public import proofs.«01_k».proof.Proof.Gen.SettleIdeal.Frame
public import proofs.«01_k».proof.Proof.Gen.LossesIdeal.Run
public import proofs.«01_k».proof.Proof.Gen.Take
public import proofs.«01_k».proof.Proof.Gen.Take.Run
public import proofs.«01_k».proof.Proof.Gen.Losses
public import proofs.«01_k».proof.Proof.Gen.On_straight_through
public import proofs.«01_k».proof.Proof.Gen.Losses.Run
public import proofs.«01_k».proof.Proof.GatherRun
public import proofs.«01_k».proof.Proof.GatherRead
public import proofs.«01_k».proof.Proof.TakeRead
public import proofs.«01_k».proof.Proof.KernelArrays
public import proofs.«01_k».proof.Proof.ReferenceRun
public import proofs.«01_k».proof.Proof.Equations
public import proofs.«01_k».proof.Proof.SearchRead
public import proofs.«01_k».proof.Proof.NearestRun
public import proofs.«01_k».proof.Proof.SettleRead
public import proofs.«01_k».proof.Proof.TakeReadBits
public import proofs.«01_k».proof.Proof.GatherReadBits
public import proofs.«01_k».proof.Proof.SettleReadBits

@[expose] public section

noncomputable section

namespace Cert.Proof

open Idealize.ShloMosaic Idealize.SL.Sem

open Idealize.ShloMosaic.ValueIdx

/-- The precondition's conjunction over the row numbers puts each of them within the codebook. -/
theorem range_of_pre {F : FTy → Type} [FloatOps F] (x : FVec F Cert.Pre_in_codebook.S8192x32 .f32) (ix : IVec Cert.Pre_in_codebook.S16384 32)
    (h : Cert.Pre_in_codebook.fn (F := F) x ix = fun _ => 1#1) (j : Cert.Pre_in_codebook.S16384.Idx) : (ix j).toNat < 8192 := by
  have e := (Words.reduce_andi _ (constantI Cert.Pre_in_codebook.S_ 1 1#1) _ _ (fun _ => rfl) _).mp (congrFun h (fun a => a.elim0)) j
    (funext fun a => a.elim0)
  exact Words.range_of_checks _ e

theorem frame_gather : Cert.quiescent_Gather := fun m ρ hpre =>
  (θ_run Cert.Gather.defs _ _).mono (fun _ h => ⟨fun c => (h.1 c).2, h.2⟩)
    (GatherTile.run_main m ρ fun d j => range_of_pre _ _ (hpre d) j)

theorem pre_gather_ideal (m : (ℓ : Loc Cert.GatherIdeal.nD Cert.GatherIdeal.τ Cert.GatherIdeal.sig) → Buf (Elt Ideal) ℓ) (h : Cert.Pre_GatherIdeal m) :
    GatherTileIdeal.PreOK m := fun d j => range_of_pre _ _ (h d) j

theorem frame_gather_ideal : Cert.quiescent_GatherIdeal := fun m ρ hpre =>
  (θ_run Cert.GatherIdeal.defs _ _).mono (fun _ h => ⟨fun c => (h.1 c).2, h.2⟩) (GatherTileIdeal.run_main m ρ (pre_gather_ideal m hpre))

theorem frame_take (m : (ℓ : Loc Cert.TakeIdeal.nD Cert.TakeIdeal.τ Cert.TakeIdeal.sig) → Buf (Elt Ideal) ℓ) (ρ : Dev Cert.TakeIdeal.nD → PrngReg) :
    θ_run (Cert.TakeIdeal.defs (F := Ideal)) (onTc (τ := Cert.TakeIdeal.τ) (Cert.TakeIdeal.main (F := Ideal))) ⟨m, fun _ => 0, ρ⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0) :=
  (θ_run Cert.TakeIdeal.defs _ _).mono (fun r h => ⟨fun c => (h c).2, sem_eq_zero_of_no_sems (by decide) r.2⟩) (TakeRead.run m ρ)

theorem algebraic_gather_take : Cert.algebraic_GatherIdeal_TakeIdeal := by
  intro m g m' g' hpre hargs
  have hok := pre_gather_ideal m hpre
  refine ⟨fun d => GatherTileIdeal.Zv m d, ?_, ?_⟩
  · exact (θ_run Cert.GatherIdeal.defs _ _).mono (fun _ h => h.1) (GatherTileIdeal.run_main m g hok)
  · refine (θ_run Cert.TakeIdeal.defs _ _).mono (fun r h c => ?_) (TakeRead.run m' g')
    refine ⟨(h c).1.trans ?_, (h c).2⟩
    obtain ⟨h0, h1⟩ := hargs c
    rw [h0, h1]
    funext j
    obtain ⟨a, b, rfl⟩ : ∃ (a : Fin 16384) (b : Fin 32), j = ValueIdx.ix2 a b := ⟨j 0, j 1, ValueIdx.eq_ix2 j⟩
    exact (TakeRead.takeOf_apply (F := Ideal) _ (fun j => hok c j) _ a b).trans (GatherRead.Zv_apply m hok c a b).symm

/-! The same at the machine's floats: the gather moves words and computes none. -/

theorem frame_take_bits (m : (ℓ : Loc Cert.Take.nD Cert.Take.τ Cert.Take.sig) → Buf (Elt Bits) ℓ) (ρ : Dev Cert.Take.nD → PrngReg) :
    θ_run (Cert.Take.defs (F := Bits)) (onTc (τ := Cert.Take.τ) (Cert.Take.main (F := Bits))) ⟨m, fun _ => 0, ρ⟩ (fun r => (∀ c : Dev Cert.Take.nD,
      r.2.mem ((c.tc : Thread Cert.Take.nD Cert.Take.τ).loc Cert.Take.main_arg0) = m ((c.tc : Thread Cert.Take.nD Cert.Take.τ).loc Cert.Take.main_arg0)
      ∧ r.2.mem ((c.tc : Thread Cert.Take.nD Cert.Take.τ).loc Cert.Take.main_arg1) = m ((c.tc : Thread Cert.Take.nD Cert.Take.τ).loc Cert.Take.main_arg1))
      ∧ r.2.sem = fun _ => 0) :=
  (θ_run Cert.Take.defs _ _).mono (fun r h => ⟨fun c => (h c).2, sem_eq_zero_of_no_sems (by decide) r.2⟩) (TakeReadBits.run m ρ)

theorem bitexact_gather_take : Cert.bitexact_Gather_Take := by
  intro m g m' g' hpre hargs
  have hok : GatherTile.PreOK m := fun d j => range_of_pre _ _ (hpre d) j
  refine ⟨fun d => GatherTile.Zv m d, ?_, ?_⟩
  · exact (θ_run Cert.Gather.defs _ _).mono (fun _ h => h.1) (GatherTile.run_main m g hok)
  · refine (θ_run Cert.Take.defs _ _).mono (fun r h c => ?_) (TakeReadBits.run m' g')
    refine ⟨(h c).1.trans ?_, (h c).2⟩
    obtain ⟨h0, h1⟩ := hargs c
    rw [h0, h1]
    funext j
    obtain ⟨a, b, rfl⟩ : ∃ (a : Fin 16384) (b : Fin 32), j = ValueIdx.ix2 a b := ⟨j 0, j 1, ValueIdx.eq_ix2 j⟩
    exact (TakeReadBits.takeOf_apply (F := Bits) _ (fun j => hok c j) _ a b).trans (GatherReadBits.Zv_apply m hok c a b).symm

/-! ## The whole kernel -/

section whole

variable (m : (ℓ : Loc Cert.KernelIdeal.nD Cert.KernelIdeal.τ Cert.KernelIdeal.sig) → Buf (Elt Ideal) ℓ) (g : Dev Cert.KernelIdeal.nD → PrngReg)

theorem kernel_run : θ_run (Cert.KernelIdeal.defs (F := Ideal)) (Cert.KernelIdeal.threads (F := Ideal)) ⟨m, fun _ => 0, g⟩
    (fun r => KernelTile.QR m r ∧ r.2.sem = fun _ => 0) :=
  (θ_run Cert.KernelIdeal.defs _ _).mono (fun r h => ⟨KernelTile.QR_of_QC m r h, h.2⟩) (KernelTile.run_main m g (Equations.inBook m))

theorem frame_kernel : Cert.quiescent_KernelIdeal := fun m g _ =>
  (θ_run Cert.KernelIdeal.defs _ _).mono (fun _ h => ⟨fun c => (h.1 c).2.2.2.2, h.2⟩) (kernel_run m g)

theorem frame_reference : Cert.quiescent_ReferenceIdeal := fun m ρ _ =>
  (θ_run Cert.ReferenceIdeal.defs _ _).mono (fun r h => ⟨fun c => (h c).2.2.2.2.2, sem_eq_zero_of_no_sems (by decide) r.2⟩) (ReferenceRun.run m ρ)

theorem algebraic_kernel_reference : Cert.algebraic_KernelIdeal_ReferenceIdeal := by
  intro m g m' g' _ hargs
  have hx : ∀ c : Dev Cert.KernelIdeal.nD, ReferenceRun.argX m' c = KernelTile.argX m c := fun c => (hargs c).1
  have he : ∀ c : Dev Cert.KernelIdeal.nD, ReferenceRun.argE m' c = KernelTile.argE m c := fun c => (hargs c).2
  refine ⟨fun c => KernelTile.backOf (F := Ideal) (KernelTile.through (F := Ideal) (KernelTile.rowsOf (KernelTile.argX m c)) (KernelTile.near m c)),
    fun c => KernelTile.meanOf (F := Ideal) (KernelTile.sumSq (F := Ideal) (KernelTile.rowsOf (KernelTile.argX m c)) (KernelTile.near m c)),
    fun c => KernelTile.meanOf (F := Ideal) (KernelTile.sumSq (F := Ideal) (KernelTile.rowsOf (KernelTile.argX m c)) (KernelTile.near m c)),
    fun c => KernelTile.lossOf (F := Ideal) (KernelTile.sumSq (F := Ideal) (KernelTile.rowsOf (KernelTile.argX m c)) (KernelTile.near m c)),
    fun c => (shapeCast Cert.KernelIdeal.S16x32x32 (KernelTile.idxOf (F := Ideal) (KernelTile.argX m c) (KernelTile.argE m c)) Cert.KernelIdeal.Gen.shapeCasts_S16384_S16x32x32 :
      Cert.KernelIdeal.S16x32x32.Idx → BitVec 32), ?_, ?_⟩
  · refine (θ_run Cert.KernelIdeal.defs _ _).mono (fun r h c => ?_) (kernel_run m g)
    exact ⟨(h.1 c).1, (h.1 c).2.1, (h.1 c).2.1, (h.1 c).2.2.1, (h.1 c).2.2.2.1, (h.1 c).2.2.2.2⟩
  · refine (θ_run Cert.ReferenceIdeal.defs _ _).mono (fun r h c => ?_) (ReferenceRun.run m' g')
    obtain ⟨h1, h2, h3, h4, h5, h6⟩ := h c
    rw [hx, he] at h1 h2 h3 h4 h5
    exact ⟨h1.trans (Equations.result_st _ _), h2.trans (Equations.result_mean _ _), h3.trans (Equations.result_mean _ _),
      h4.trans (Equations.result_loss _ _), h5.trans (Equations.result_index _ _), h6⟩

end whole

/-! ## The search call by itself -/

theorem frame_search : Cert.quiescent_Search := fun m g _ => Cert.Search.Gen.frame m g
theorem frame_search_ideal : Cert.quiescent_SearchIdeal := fun m g _ => Cert.SearchIdeal.Gen.frame m g

theorem frame_nearest : Cert.quiescent_NearestIdeal := fun m ρ _ =>
  (θ_run Cert.NearestIdeal.defs _ _).mono (fun r h => ⟨fun c => (h c).2, sem_eq_zero_of_no_sems (by decide) r.2⟩) (NearestRun.run m ρ)

theorem algebraic_search_nearest : Cert.algebraic_SearchIdeal_NearestIdeal := by
  intro m g m' g' _ hargs
  have hx : ∀ c : Dev Cert.SearchIdeal.nD, NearestRun.argX m' c = SearchRead.argX m c := fun c => (hargs c).1
  have he : ∀ c : Dev Cert.SearchIdeal.nD, NearestRun.argE m' c = SearchRead.argE m c := fun c => (hargs c).2
  refine ⟨fun c => KernelTile.idxOf (F := Ideal) (SearchRead.argX m c) (SearchRead.argE m c), SearchRead.run m g, ?_⟩
  refine (θ_run Cert.NearestIdeal.defs _ _).mono (fun r h c => ?_) (NearestRun.run m' g')
  obtain ⟨h1, h2⟩ := h c
  rw [hx, he] at h1
  exact ⟨h1.trans (Equations.index_eq _ _).symm, h2⟩

/-! ## The straight-through call by itself -/

theorem frame_settle : Cert.quiescent_Settle := fun m g _ => Cert.Settle.Gen.frame m g
theorem frame_settle_ideal : Cert.quiescent_SettleIdeal := fun m g _ => Cert.SettleIdeal.Gen.frame m g

theorem frame_losses : Cert.quiescent_LossesIdeal := fun m ρ _ =>
  (θ_run Cert.LossesIdeal.defs _ _).mono (fun r h => ⟨fun c => (h c).2.2.2.2, sem_eq_zero_of_no_sems (by decide) r.2⟩) (LossesRead.run m ρ)

theorem algebraic_settle_losses : Cert.algebraic_SettleIdeal_LossesIdeal := by
  intro m g m' g' _ hargs
  have hx : ∀ c : Dev Cert.SettleIdeal.nD, LossesRead.argX m' c = SettleRead.argX m c := fun c => (hargs c).1
  have hq : ∀ c : Dev Cert.SettleIdeal.nD, LossesRead.argQ m' c = SettleRead.argQ m c := fun c => (hargs c).2
  refine ⟨fun c => KernelTile.backOf (F := Ideal) (KernelTile.through (F := Ideal) (KernelTile.rowsOf (SettleRead.argX m c)) (SettleRead.argQ m c)),
    fun c => KernelTile.meanOf (F := Ideal) (KernelTile.sumSq (F := Ideal) (KernelTile.rowsOf (SettleRead.argX m c)) (SettleRead.argQ m c)),
    fun c => KernelTile.meanOf (F := Ideal) (KernelTile.sumSq (F := Ideal) (KernelTile.rowsOf (SettleRead.argX m c)) (SettleRead.argQ m c)),
    fun c => KernelTile.lossOf (F := Ideal) (KernelTile.sumSq (F := Ideal) (KernelTile.rowsOf (SettleRead.argX m c)) (SettleRead.argQ m c)), ?_, ?_⟩
  · refine (θ_run Cert.SettleIdeal.defs _ _).mono (fun r h c => ?_) (SettleRead.run m g)
    exact ⟨(h c).1, (h c).2.1, (h c).2.1, (h c).2.2.1, (h c).2.2.2⟩
  · refine (θ_run Cert.LossesIdeal.defs _ _).mono (fun r h c => ?_) (LossesRead.run m' g')
    obtain ⟨h1, h2, h3, h4, h5⟩ := h c
    rw [hx, hq] at h1 h2 h3 h4
    exact ⟨h1.trans (Equations.through_eq _ _).symm, h2.trans (Equations.mean_eq _ _).symm, h3.trans (Equations.mean_eq _ _).symm,
      h4.trans (Equations.loss_eq _ _).symm, h5⟩

theorem frame_losses_bits : Cert.quiescent_Losses := fun m ρ _ =>
  (θ_run Cert.Losses.defs _ _).mono (fun r h => ⟨fun c => (h c).2.2.2.2, sem_eq_zero_of_no_sems (by decide) r.2⟩) (LossesReadBits.run m ρ)

/-- The straight-through value is the same at the machine's floats; the losses are outside the mask. -/
theorem bitexact_settle_losses : Cert.bitexact_Settle_Losses_on_straight_through := by
  intro m g m' g' _ hargs
  have hx : ∀ c : Dev Cert.Settle.nD, LossesReadBits.argX m' c = SettleReadBits.argX m c := fun c => (hargs c).1
  have hq : ∀ c : Dev Cert.Settle.nD, LossesReadBits.argQ m' c = SettleReadBits.argQ m c := fun c => (hargs c).2
  have h01 : ¬ (0#1 : BitVec 1) = 1#1 := by decide
  refine ⟨fun c => KernelTile.backOf (F := Bits) (KernelTile.through (F := Bits) (KernelTile.rowsOf (SettleReadBits.argX m c)) (SettleReadBits.argQ m c)),
    fun c => KernelTile.meanOf (F := Bits) (KernelTile.sumSq (F := Bits) (KernelTile.rowsOf (SettleReadBits.argX m c)) (SettleReadBits.argQ m c)),
    fun c => KernelTile.meanOf (F := Bits) (KernelTile.sumSq (F := Bits) (KernelTile.rowsOf (SettleReadBits.argX m c)) (SettleReadBits.argQ m c)),
    fun c => KernelTile.lossOf (F := Bits) (KernelTile.sumSq (F := Bits) (KernelTile.rowsOf (SettleReadBits.argX m c)) (SettleReadBits.argQ m c)), ?_, ?_⟩
  · refine (θ_run Cert.Settle.defs _ _).mono (fun r h c => ?_) (SettleReadBits.run m g)
    exact ⟨fun i _ => congrFun (h c).1 i, fun i _ => congrFun (h c).2.1 i, fun i _ => congrFun (h c).2.1 i, fun i _ => congrFun (h c).2.2.1 i, (h c).2.2.2⟩
  · refine (θ_run Cert.Losses.defs _ _).mono (fun r h c => ?_) (LossesReadBits.run m' g')
    obtain ⟨h1, _, _, _, h5⟩ := h c
    rw [hx, hq] at h1
    exact ⟨fun i _ => congrFun (h1.trans (StraightThrough.same _ _).symm) i, fun _ h => absurd h h01, fun _ h => absurd h h01, fun _ h => absurd h h01, h5⟩

theorem claim : Cert.Claim := ⟨Cert.Gather.Gen.facts, Cert.GatherIdeal.Gen.facts, Cert.TakeIdeal.Gen.facts, Cert.KernelIdeal.Gen.facts, Cert.ReferenceIdeal.Gen.facts,
  Cert.Search.Gen.facts, Cert.SearchIdeal.Gen.facts, Cert.NearestIdeal.Gen.facts, Cert.Settle.Gen.facts, Cert.SettleIdeal.Gen.facts, Cert.LossesIdeal.Gen.facts,
  Cert.Take.Gen.facts, Cert.Losses.Gen.facts, Cert.Pre_in_codebook.Gen.facts, Cert.On_straight_through.Gen.facts, frame_gather, frame_gather_ideal, fun m ρ _ => frame_take m ρ, fun m ρ _ => frame_take m ρ, frame_kernel, frame_reference,
  frame_search, frame_search_ideal, frame_nearest, frame_settle, frame_settle_ideal, frame_losses,
  fun m ρ _ => frame_take_bits m ρ, fun m ρ _ => frame_take_bits m ρ, frame_losses_bits,
  trivial, algebraic_gather_take, algebraic_kernel_reference, trivial, algebraic_search_nearest, trivial, algebraic_settle_losses,
  bitexact_gather_take, bitexact_settle_losses⟩

end Cert.Proof

end
